-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_centred [hPre_finite_and_centred : Cert.Pre_finite_and_centred.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_centred.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_and_centred.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_and_centred.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_and_centred.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_and_centred.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_and_centred.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_and_centred.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite_and_centred.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_centred [hPre_finite_and_centred : Cert.Pre_finite_and_centred.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_centred.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_and_centred.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_and_centred.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_and_centred.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_and_centred.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_and_centred.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_and_centred.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite_and_centred.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_and_centred [hKernelIdeal : Cert.KernelIdeal.Facts] [hPre_finite_and_centred : Cert.Pre_finite_and_centred.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_centred m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_and_centred [hReferenceIdeal : Cert.ReferenceIdeal.Facts] [hPre_finite_and_centred : Cert.Pre_finite_and_centred.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_centred m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_384" .f32 0x3B2AAAAB#32 ((1 / 384 : ℝ) : EReal)

def algebraic_KernelIdeal_ReferenceIdeal_pre_finite_and_centred [hKernelIdeal : Cert.KernelIdeal.Facts] [hReferenceIdeal : Cert.ReferenceIdeal.Facts] [hPre_finite_and_centred : Cert.Pre_finite_and_centred.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_centred m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v54_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20_0) = v0 c
          ∧ r.2.mem ((c.tc : Thread Cert.ReferenceIdeal.nD Cert.ReferenceIdeal.τ).loc Cert.ReferenceIdeal.main_v20_1) = v1 c
          ∧ r.2.mem ((c.tc : Thread Cert.ReferenceIdeal.nD Cert.ReferenceIdeal.τ).loc Cert.ReferenceIdeal.main_v20_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_and_centred : Cert.Pre_finite_and_centred.Facts),
    quiescent_Kernel (hKernel := hKernel)
    ∧ quiescent_KernelIdeal (hKernelIdeal := hKernelIdeal)
    ∧ quiescent_KernelIdeal_pre_finite_and_centred (hKernelIdeal := hKernelIdeal) (hPre_finite_and_centred := hPre_finite_and_centred)
    ∧ quiescent_ReferenceIdeal (hReferenceIdeal := hReferenceIdeal)
    ∧ quiescent_ReferenceIdeal_pre_finite_and_centred (hReferenceIdeal := hReferenceIdeal) (hPre_finite_and_centred := hPre_finite_and_centred)
    ∧ preserves_Kernel_KernelIdeal
    ∧ algebraic_KernelIdeal_ReferenceIdeal_pre_finite_and_centred (hKernelIdeal := hKernelIdeal) (hReferenceIdeal := hReferenceIdeal) (hPre_finite_and_centred := hPre_finite_and_centred)
-- ==== Pre_finite_and_centred.lean ====
abbrev S840x192 : Shape := ⟨2, ![840, 192]⟩
abbrev S1152x4096 : Shape := ⟨2, ![1152, 4096]⟩
abbrev S400x192 : Shape := ⟨2, ![400, 192]⟩
abbrev S384 : Shape := ⟨1, ![384]⟩
abbrev S384x4096 : Shape := ⟨2, ![384, 4096]⟩
abbrev S1x192 : Shape := ⟨2, ![1, 192]⟩
abbrev S192 : Shape := ⟨1, ![192]⟩
abbrev S_ : Shape := ⟨0, ![]⟩
abbrev S4096 : Shape := ⟨1, ![4096]⟩
abbrev S384x192 : Shape := ⟨2, ![384, 192]⟩
abbrev S384x1 : Shape := ⟨2, ![384, 1]⟩

class Facts : Prop where
  bitsLt_bf16_f32 : FTy.bits .bf16 < FTy.bits .f32
  slices_S400x192_S1x192_384_0 : S400x192.Slices ![384, 0] S1x192
  shapeCasts_S1x192_S192 : S1x192.ShapeCasts S192
  slices_S400x192_S1x192_385_0 : S400x192.Slices ![385, 0] S1x192
  slices_S400x192_S1x192_386_0 : S400x192.Slices ![386, 0] S1x192
  bcast_S_S840x192 : S_.BroadcastsInDim S840x192 (![] : Fin 0 → Fin S840x192.rank)
  bcast_S_S1152x4096 : S_.BroadcastsInDim S1152x4096 (![] : Fin 0 → Fin S1152x4096.rank)
  bcast_S_S400x192 : S_.BroadcastsInDim S400x192 (![] : Fin 0 → Fin S400x192.rank)
  bcast_S_S384 : S_.BroadcastsInDim S384 (![] : Fin 0 → Fin S384.rank)
  bcast_S_S384x4096 : S_.BroadcastsInDim S384x4096 (![] : Fin 0 → Fin S384x4096.rank)
  reducesTo_S384x4096_S4096_d0 : S384x4096.ReducesTo [0] S4096
  h_S_ : 0 < S_.numel
  bcast_S_S4096 : S_.BroadcastsInDim S4096 (![] : Fin 0 → Fin S4096.rank)
  slices_S400x192_S384x192_0_0 : S400x192.Slices ![0, 0] S384x192
  shapeCasts_S384_S384x1 : S384.ShapeCasts S384x1
  bcast_S384x1_S384x192_0_1 : S384x1.BroadcastsInDim S384x192 (![0, 1] : Fin 2 → Fin S384x192.rank)
  reducesTo_S384x192_S192_d0 : S384x192.ReducesTo [0] S192
  bcast_S_S192 : S_.BroadcastsInDim S192 (![] : Fin 0 → Fin S192.rank)

variable [Facts]

def fn_part2 {F : FTy → Type} [FloatOps F] (main_v8 : FVec F S192 .f32) (main_v11 : IVec S840x192 1) (main_v14 : IVec S840x192 1) (main_v18 : IVec S1152x4096 1) (main_v22 : IVec S400x192 1) (main_v25 : IVec S384 1) (main_v28 : IVec S384x4096 1) (main_v31 : IVec S4096 1) (main_v36 : FVec F S192 .f32) (main_v37 : FVec F S192 .f32) : IVec S840x192 1 × IVec S840x192 1 × IVec S1152x4096 1 × IVec S400x192 1 × IVec S384 1 × IVec S384x4096 1 × IVec S4096 1 × IVec S192 1 :=
  let main_v38 : FVec F S192 .f32 := mulf main_v37 main_v8
  let main_v39 : IVec S192 1 := cmpf .oeq main_v36 main_v38
  (main_v11, main_v14, main_v18, main_v22, main_v25, main_v28, main_v31, main_v39)

def fn_part1 {F : FTy → Type} [FloatOps F] (main_arg4 : FVec F S384 .f32) (main_arg5 : FVec F S384x4096 .f32) (main_v0 : FVec F S400x192 .f32) (main_v8 : FVec F S192 .f32) (main_v11 : IVec S840x192 1) (main_v14 : IVec S840x192 1) (main_v18 : IVec S1152x4096 1) (main_v20 : FVec F S400x192 .f32) : IVec S840x192 1 × IVec S840x192 1 × IVec S1152x4096 1 × IVec S400x192 1 × IVec S384 1 × IVec S384x4096 1 × IVec S4096 1 × IVec S192 1 :=
  let main_cst_2 : FVec F S_ .f32 := constant S_ .f32 0x7F7FFFFF#32
  let main_v21 : FVec F S400x192 .f32 := broadcastInDim S400x192 ![] bcast_S_S400x192 main_cst_2
  let main_v22 : IVec S400x192 1 := cmpf .ole main_v20 main_v21
  let main_v23 : FVec F S384 .f32 := Host.absf main_arg4
  let main_cst_3 : FVec F S_ .f32 := constant S_ .f32 0x7F7FFFFF#32
  let main_v24 : FVec F S384 .f32 := broadcastInDim S384 ![] bcast_S_S384 main_cst_3
  let main_v25 : IVec S384 1 := cmpf .ole main_v23 main_v24
  let main_v26 : FVec F S384x4096 .f32 := Host.absf main_arg5
  let main_cst_4 : FVec F S_ .f32 := constant S_ .f32 0x7F7FFFFF#32
  let main_v27 : FVec F S384x4096 .f32 := broadcastInDim S384x4096 ![] bcast_S_S384x4096 main_cst_4
  let main_v28 : IVec S384x4096 1 := cmpf .ole main_v26 main_v27
  let main_cst_5 : FVec F S_ .f32 := constant S_ .f32 0x00000000#32
  let main_v29 : FVec F S4096 .f32 := (fun x v => Host.reduceAdd x v reducesTo_S384x4096_S4096_d0 h_S_) main_arg5 main_cst_5
  let main_cst_6 : FVec F S_ .f32 := constant S_ .f32 0x00000000#32
  let main_v30 : FVec F S4096 .f32 := broadcastInDim S4096 ![] bcast_S_S4096 main_cst_6
  let main_v31 : IVec S4096 1 := cmpf .oeq main_v29 main_v30
  let main_v32 : FVec F S384x192 .f32 := (extractStridedSlice S384x192 ![0, 0] · slices_S400x192_S384x192_0_0) main_v0
  let main_v33 : FVec F S384x1 .f32 := shapeCast S384x1 main_arg4 shapeCasts_S384_S384x1
  let main_v34 : FVec F S384x192 .f32 := broadcastInDim S384x192 ![0, 1] bcast_S384x1_S384x192_0_1 main_v33
  let main_v35 : FVec F S384x192 .f32 := mulf main_v32 main_v34
  let main_cst_7 : FVec F S_ .f32 := constant S_ .f32 0x00000000#32
  let main_v36 : FVec F S192 .f32 := (fun x v => Host.reduceAdd x v reducesTo_S384x192_S192_d0 h_S_) main_v35 main_cst_7
  let main_cst_8 : FVec F S_ .f32 := constant S_ .f32 0x43C00000#32
  let main_v37 : FVec F S192 .f32 := broadcastInDim S192 ![] bcast_S_S192 main_cst_8
  fn_part2 (F := F) main_v8 main_v11 main_v14 main_v18 main_v22 main_v25 main_v28 main_v31 main_v36 main_v37

def fn {F : FTy → Type} [FloatOps F] (main_arg0 : FVec F S840x192 .f32) (main_arg1 : FVec F S840x192 .f32) (main_arg2 : FVec F S1152x4096 .bf16) (main_arg3 : FVec F S400x192 .bf16) (main_arg4 : FVec F S384 .f32) (main_arg5 : FVec F S384x4096 .f32) (main_arg6 : FVec F S384 .f32) (main_arg7 : FVec F S384 .f32) : IVec S840x192 1 × IVec S840x192 1 × IVec S1152x4096 1 × IVec S400x192 1 × IVec S384 1 × IVec S384x4096 1 × IVec S4096 1 × IVec S192 1 :=
  let main_v0 : FVec F S400x192 .f32 := (extf .f32 · bitsLt_bf16_f32) main_arg3
  let main_v1 : FVec F S1x192 .f32 := (extractStridedSlice S1x192 ![384, 0] · slices_S400x192_S1x192_384_0) main_v0
  let main_v2 : FVec F S192 .f32 := shapeCast S192 main_v1 shapeCasts_S1x192_S192
  let main_v3 : FVec F S1x192 .f32 := (extractStridedSlice S1x192 ![385, 0] · slices_S400x192_S1x192_385_0) main_v0
  let main_v4 : FVec F S192 .f32 := shapeCast S192 main_v3 shapeCasts_S1x192_S192
  let main_v5 : FVec F S192 .f32 := addf main_v2 main_v4
  let main_v6 : FVec F S1x192 .f32 := (extractStridedSlice S1x192 ![386, 0] · slices_S400x192_S1x192_386_0) main_v0
  let main_v7 : FVec F S192 .f32 := shapeCast S192 main_v6 shapeCasts_S1x192_S192
  let main_v8 : FVec F S192 .f32 := addf main_v5 main_v7
  let main_v9 : FVec F S840x192 .f32 := Host.absf main_arg0
  let main_cst : FVec F S_ .f32 := constant S_ .f32 0x7F7FFFFF#32
  let main_v10 : FVec F S840x192 .f32 := broadcastInDim S840x192 ![] bcast_S_S840x192 main_cst
  let main_v11 : IVec S840x192 1 := cmpf .ole main_v9 main_v10
  let main_v12 : FVec F S840x192 .f32 := Host.absf main_arg1
  let main_cst_0 : FVec F S_ .f32 := constant S_ .f32 0x7F7FFFFF#32
  let main_v13 : FVec F S840x192 .f32 := broadcastInDim S840x192 ![] bcast_S_S840x192 main_cst_0
  let main_v14 : IVec S840x192 1 := cmpf .ole main_v12 main_v13
  let main_v15 : FVec F S1152x4096 .f32 := (extf .f32 · bitsLt_bf16_f32) main_arg2
  let main_v16 : FVec F S1152x4096 .f32 := Host.absf main_v15
  let main_cst_1 : FVec F S_ .f32 := constant S_ .f32 0x7F7FFFFF#32
  let main_v17 : FVec F S1152x4096 .f32 := broadcastInDim S1152x4096 ![] bcast_S_S1152x4096 main_cst_1
  let main_v18 : IVec S1152x4096 1 := cmpf .ole main_v16 main_v17
  let main_v19 : FVec F S400x192 .f32 := (extf .f32 · bitsLt_bf16_f32) main_arg3
  let main_v20 : FVec F S400x192 .f32 := Host.absf main_v19
  fn_part1 (F := F) main_arg4 main_arg5 main_v0 main_v8 main_v11 main_v14 main_v18 main_v20
-- ==== Kernel.lean ====
abbrev S840x192 : Shape := ⟨2, ![840, 192]⟩
abbrev S1152x4096 : Shape := ⟨2, ![1152, 4096]⟩
abbrev S400x192 : Shape := ⟨2, ![400, 192]⟩
abbrev S384 : Shape := ⟨1, ![384]⟩
abbrev S384x4096 : Shape := ⟨2, ![384, 4096]⟩
abbrev S_ : Shape := ⟨0, ![]⟩
abbrev S5x21x8x6x2x16 : Shape := ⟨6, ![5, 21, 8, 6, 2, 16]⟩
abbrev S5x21x8x6x2x96 : Shape := ⟨6, ![5, 21, 8, 6, 2, 96]⟩
abbrev S21x6x2x5x8x96 : Shape := ⟨6, ![21, 6, 2, 5, 8, 96]⟩
abbrev S21x6x1x5x8x96 : Shape := ⟨6, ![21, 6, 1, 5, 8, 96]⟩
abbrev S21x6x5x8x96 : Shape := ⟨5, ![21, 6, 5, 8, 96]⟩
abbrev S21x6x5x8x192 : Shape := ⟨5, ![21, 6, 5, 8, 192]⟩
abbrev S21x6x1x5x8x192 : Shape := ⟨6, ![21, 6, 1, 5, 8, 192]⟩
abbrev S21x6x2x5x8x192 : Shape := ⟨6, ![21, 6, 2, 5, 8, 192]⟩
abbrev S21x6x80x192 : Shape := ⟨4, ![21, 6, 80, 192]⟩
abbrev S5x168x12x16 : Shape := ⟨4, ![5, 168, 12, 16]⟩
abbrev S168x12x16x5 : Shape := ⟨4, ![168, 12, 16, 5]⟩
abbrev S12x12 : Shape := ⟨2, ![12, 12]⟩
abbrev S168x12x16x1x5 : Shape := ⟨5, ![168, 12, 16, 1, 5]⟩
abbrev S1x12x1x12x1 : Shape := ⟨5, ![1, 12, 1, 12, 1]⟩
abbrev S168x12x16x12x5 : Shape := ⟨5, ![168, 12, 16, 12, 5]⟩
abbrev S168x192x60 : Shape := ⟨3, ![168, 192, 60]⟩
abbrev S168x192x64 : Shape := ⟨3, ![168, 192, 64]⟩
abbrev S168x192x384 : Shape := ⟨3, ![168, 192, 384]⟩
abbrev S384x1 : Shape := ⟨2, ![384, 1]⟩
abbrev S384x128 : Shape := ⟨2, ![384, 128]⟩
abbrev S168x4096x384 : Shape := ⟨3, ![168, 4096, 384]⟩
abbrev S168x4096x192 : Shape := ⟨3, ![168, 4096, 192]⟩
abbrev S168x6x4096 : Shape := ⟨3, ![168, 6, 4096]⟩
abbrev S1x6x80x192 : Shape := ⟨4, ![1, 6, 80, 192]⟩
abbrev S8x192x384 : Shape := ⟨3, ![8, 192, 384]⟩
abbrev S1152x512 : Shape := ⟨2, ![1152, 512]⟩
abbrev S384x512 : Shape := ⟨2, ![384, 512]⟩
abbrev S8x512x384 : Shape := ⟨3, ![8, 512, 384]⟩
abbrev S8x512x192 : Shape := ⟨3, ![8, 512, 192]⟩
abbrev S8x6x512 : Shape := ⟨3, ![8, 6, 512]⟩
abbrev S4x480x128 : Shape := ⟨3, ![4, 480, 128]⟩
abbrev S4x512x128 : Shape := ⟨3, ![4, 512, 128]⟩
abbrev S400x512 : Shape := ⟨2, ![400, 512]⟩
abbrev S1x1x80x192 : Shape := ⟨4, ![1, 1, 80, 192]⟩
abbrev S80x192 : Shape := ⟨2, ![80, 192]⟩
abbrev S192x512 : Shape := ⟨2, ![192, 512]⟩
abbrev S80x512 : Shape := ⟨2, ![80, 512]⟩
abbrev S80x128 : Shape := ⟨2, ![80, 128]⟩
abbrev S1x80x128 : Shape := ⟨3, ![1, 80, 128]⟩
abbrev S1x8x128 : Shape := ⟨3, ![1, 8, 128]⟩
abbrev S8x128 : Shape := ⟨2, ![8, 128]⟩
abbrev S32x128 : Shape := ⟨2, ![32, 128]⟩
abbrev S1x32x128 : Shape := ⟨3, ![1, 32, 128]⟩
abbrev S1x64x128 : Shape := ⟨3, ![1, 64, 128]⟩
abbrev S64x128 : Shape := ⟨2, ![64, 128]⟩
abbrev S64x512 : Shape := ⟨2, ![64, 512]⟩
abbrev S1x192x384 : Shape := ⟨3, ![1, 192, 384]⟩
abbrev S192x384 : Shape := ⟨2, ![192, 384]⟩
abbrev S192x256 : Shape := ⟨2, ![192, 256]⟩
abbrev S256x512 : Shape := ⟨2, ![256, 512]⟩
abbrev S192x128 : Shape := ⟨2, ![192, 128]⟩
abbrev S128x512 : Shape := ⟨2, ![128, 512]⟩
abbrev S6x32x512 : Shape := ⟨3, ![6, 32, 512]⟩
abbrev S6x512 : Shape := ⟨2, ![6, 512]⟩
abbrev S6x1x512 : Shape := ⟨3, ![6, 1, 512]⟩
abbrev S1x6x512 : Shape := ⟨3, ![1, 6, 512]⟩
abbrev S512x192 : Shape := ⟨2, ![512, 192]⟩
abbrev S1x512x192 : Shape := ⟨3, ![1, 512, 192]⟩
abbrev S1x512 : Shape := ⟨2, ![1, 512]⟩
abbrev S16x512 : Shape := ⟨2, ![16, 512]⟩
abbrev S16x128 : Shape := ⟨2, ![16, 128]⟩
abbrev S512 : Shape := ⟨1, ![512]⟩
abbrev S512x128 : Shape := ⟨2, ![512, 128]⟩
abbrev S1x512x128 : Shape := ⟨3, ![1, 512, 128]⟩

abbrev nBuf : Space → Nat
  | .hbm => 70
  | .vmem => 21
  | .smem => 0
  | _ => 0

abbrev bufTy : (tb : Table) → Fin (tcTables nBuf tb) → BufTy
  | .hbm, ⟨0, _⟩ => ⟨S840x192, .f32⟩
  | .hbm, ⟨1, _⟩ => ⟨S840x192, .f32⟩
  | .hbm, ⟨2, _⟩ => ⟨S1152x4096, .bf16⟩
  | .hbm, ⟨3, _⟩ => ⟨S400x192, .bf16⟩
  | .hbm, ⟨4, _⟩ => ⟨S384, .f32⟩
  | .hbm, ⟨5, _⟩ => ⟨S384x4096, .f32⟩
  | .hbm, ⟨6, _⟩ => ⟨S384, .f32⟩
  | .hbm, ⟨7, _⟩ => ⟨S384, .f32⟩
  | .hbm, ⟨8, _⟩ => ⟨S_, .f32⟩
  | .hbm, ⟨9, _⟩ => ⟨S840x192, .f32⟩
  | .hbm, ⟨10, _⟩ => ⟨S840x192, .f32⟩
  | .hbm, ⟨11, _⟩ => ⟨S5x21x8x6x2x16, .f32⟩
  | .hbm, ⟨12, _⟩ => ⟨S5x21x8x6x2x16, .bf16⟩
  | .hbm, ⟨13, _⟩ => ⟨S5x21x8x6x2x16, .f32⟩
  | .hbm, ⟨14, _⟩ => ⟨S5x21x8x6x2x16, .f32⟩
  | .hbm, ⟨15, _⟩ => ⟨S5x21x8x6x2x16, .bf16⟩
  | .hbm, ⟨16, _⟩ => ⟨S5x21x8x6x2x16, .f32⟩
  | .hbm, ⟨17, _⟩ => ⟨S5x21x8x6x2x16, .f32⟩
  | .hbm, ⟨18, _⟩ => ⟨S5x21x8x6x2x16, .bf16⟩
  | .hbm, ⟨19, _⟩ => ⟨S5x21x8x6x2x96, .bf16⟩
  | .hbm, ⟨20, _⟩ => ⟨S21x6x2x5x8x96, .bf16⟩
  | .hbm, ⟨21, _⟩ => ⟨S21x6x1x5x8x96, .bf16⟩
  | .hbm, ⟨22, _⟩ => ⟨S21x6x5x8x96, .bf16⟩
  | .hbm, ⟨23, _⟩ => ⟨S_, .bf16⟩
  | .hbm, ⟨24, _⟩ => ⟨S21x6x5x8x96, .bf16⟩
  | .hbm, ⟨25, _⟩ => ⟨S21x6x1x5x8x96, .bf16⟩
  | .hbm, ⟨26, _⟩ => ⟨S21x6x5x8x96, .bf16⟩
  | .hbm, ⟨27, _⟩ => ⟨S21x6x5x8x192, .bf16⟩
  | .hbm, ⟨28, _⟩ => ⟨S21x6x1x5x8x96, .bf16⟩
  | .hbm, ⟨29, _⟩ => ⟨S21x6x5x8x96, .bf16⟩
  | .hbm, ⟨30, _⟩ => ⟨S21x6x5x8x192, .bf16⟩
  | .hbm, ⟨31, _⟩ => ⟨S21x6x1x5x8x192, .bf16⟩
  | .hbm, ⟨32, _⟩ => ⟨S21x6x1x5x8x192, .bf16⟩
  | .hbm, ⟨33, _⟩ => ⟨S21x6x2x5x8x192, .bf16⟩
  | .hbm, ⟨34, _⟩ => ⟨S21x6x80x192, .bf16⟩
  | .hbm, ⟨35, _⟩ => ⟨S5x168x12x16, .f32⟩
  | .hbm, ⟨36, _⟩ => ⟨S168x12x16x5, .f32⟩
  | .hbm, ⟨37, _⟩ => ⟨S12x12, .i32⟩
  | .hbm, ⟨38, _⟩ => ⟨S12x12, .i32⟩
  | .hbm, ⟨39, _⟩ => ⟨S_, .i32⟩
  | .hbm, ⟨40, _⟩ => ⟨S12x12, .i32⟩
  | .hbm, ⟨41, _⟩ => ⟨S12x12, .i32⟩
  | .hbm, ⟨42, _⟩ => ⟨S12x12, .i1⟩
  | .hbm, ⟨43, _⟩ => ⟨S12x12, .f32⟩
  | .hbm, ⟨44, _⟩ => ⟨S168x12x16x1x5, .f32⟩
  | .hbm, ⟨45, _⟩ => ⟨S1x12x1x12x1, .f32⟩
  | .hbm, ⟨46, _⟩ => ⟨S168x12x16x12x5, .f32⟩
  | .hbm, ⟨47, _⟩ => ⟨S168x12x16x12x5, .f32⟩
  | .hbm, ⟨48, _⟩ => ⟨S168x12x16x12x5, .f32⟩
  | .hbm, ⟨49, _⟩ => ⟨S168x192x60, .f32⟩
  | .hbm, ⟨50, _⟩ => ⟨S_, .i32⟩
  | .hbm, ⟨51, _⟩ => ⟨S_, .f32⟩
  | .hbm, ⟨52, _⟩ => ⟨S168x192x64, .f32⟩
  | .hbm, ⟨53, _⟩ => ⟨S168x192x64, .bf16⟩
  | .hbm, ⟨54, _⟩ => ⟨S168x192x64, .f32⟩
  | .hbm, ⟨55, _⟩ => ⟨S168x192x64, .f32⟩
  | .hbm, ⟨56, _⟩ => ⟨S168x192x64, .bf16⟩
  | .hbm, ⟨57, _⟩ => ⟨S168x192x64, .f32⟩
  | .hbm, ⟨58, _⟩ => ⟨S168x192x64, .f32⟩
  | .hbm, ⟨59, _⟩ => ⟨S168x192x64, .bf16⟩
  | .hbm, ⟨60, _⟩ => ⟨S168x192x384, .bf16⟩
  | .hbm, ⟨61, _⟩ => ⟨S384x1, .f32⟩
  | .hbm, ⟨62, _⟩ => ⟨S384x128, .f32⟩
  | .hbm, ⟨63, _⟩ => ⟨S384x1, .f32⟩
  | .hbm, ⟨64, _⟩ => ⟨S384x128, .f32⟩
  | .hbm, ⟨65, _⟩ => ⟨S384x1, .f32⟩
  | .hbm, ⟨66, _⟩ => ⟨S384x128, .f32⟩
  | .hbm, ⟨67, _⟩ => ⟨S168x4096x384, .bf16⟩
  | .hbm, ⟨68, _⟩ => ⟨S168x4096x192, .fp8e4m3⟩
  | .hbm, ⟨69, _⟩ => ⟨S168x6x4096, .f32⟩
  | .local _ .vmem, ⟨0, _⟩ => ⟨S1x6x80x192, .bf16⟩
  | .local _ .vmem, ⟨1, _⟩ => ⟨S1x6x80x192, .bf16⟩
  | .local _ .vmem, ⟨2, _⟩ => ⟨S8x192x384, .bf16⟩
  | .local _ .vmem, ⟨3, _⟩ => ⟨S8x192x384, .bf16⟩
  | .local _ .vmem, ⟨4, _⟩ => ⟨S1152x512, .bf16⟩
  | .local _ .vmem, ⟨5, _⟩ => ⟨S1152x512, .bf16⟩
  | .local _ .vmem, ⟨6, _⟩ => ⟨S400x192, .bf16⟩
  | .local _ .vmem, ⟨7, _⟩ => ⟨S384x128, .f32⟩
  | .local _ .vmem, ⟨8, _⟩ => ⟨S384x512, .f32⟩
  | .local _ .vmem, ⟨9, _⟩ => ⟨S384x512, .f32⟩
  | .local _ .vmem, ⟨10, _⟩ => ⟨S384x128, .f32⟩
  | .local _ .vmem, ⟨11, _⟩ => ⟨S384x128, .f32⟩
  | .local _ .vmem, ⟨12, _⟩ => ⟨S8x512x384, .bf16⟩
  | .local _ .vmem, ⟨13, _⟩ => ⟨S8x512x384, .bf16⟩
  | .local _ .vmem, ⟨14, _⟩ => ⟨S8x512x192, .fp8e4m3⟩
  | .local _ .vmem, ⟨15, _⟩ => ⟨S8x512x192, .fp8e4m3⟩
  | .local _ .vmem, ⟨16, _⟩ => ⟨S8x6x512, .f32⟩
  | .local _ .vmem, ⟨17, _⟩ => ⟨S8x6x512, .f32⟩
  | .local _ .vmem, ⟨18, _⟩ => ⟨S4x480x128, .f32⟩
  | .local _ .vmem, ⟨19, _⟩ => ⟨S4x512x128, .f32⟩
  | .local _ .vmem, ⟨20, _⟩ => ⟨S400x512, .f32⟩
  | _, _ => ⟨S840x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_1 : Ref sig .tc := ⟨.hbm, 50, rfl⟩
abbrev main_call0_v0 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54_0 : Ref sig .tc := ⟨.hbm, 67, rfl⟩
abbrev main_v54_1 : Ref sig .tc := ⟨.hbm, 68, rfl⟩
abbrev main_v54_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 21], ![false, false]⟩

@[reducible] def k0_t1_loop : Scf.Loop 32 :=
  let c0_i32 : BitVec 32 := 0#32
  let c8_i32 : BitVec 32 := 8#32
  let v2536 : BitVec 32 := Scalar.addi c0_i32 c8_i32
  let c1_i32 : BitVec 32 := 1#32
  ⟨c0_i32, v2536, c1_i32⟩
def k0_off1 (k0_t1 : Fin k0_t1_loop.trips) : Fin 3 → Nat :=
  let c0_1549 : Index := 0#32
  let c0_i32 : BitVec 32 := 0#32
  let c1_i32 : BitVec 32 := 1#32
  let arg16 : BitVec 32 := Scf.iv c0_i32 c1_i32 k0_t1
  let v2537 : Index := Scalar.indexCast arg16
  let c0_1550 : Index := 0#32
  ![0, v2537.toNat, 0]
def k0_off2 (k0_t1 : Fin k0_t1_loop.trips) : Fin 3 → Nat :=
  let c1_1551 : Index := 1#32
  let c0_i32 : BitVec 32 := 0#32
  let c1_i32 : BitVec 32 := 1#32
  let arg16 : BitVec 32 := Scf.iv c0_i32 c1_i32 k0_t1
  let v2540 : Index := Scalar.indexCast arg16
  let c0_1552 : Index := 0#32
  ![1, v2540.toNat, 0]
def k0_off3 (k0_t1 : Fin k0_t1_loop.trips) : Fin 3 → Nat :=
  let c2_1553 : Index := 2#32
  let c0_i32 : BitVec 32 := 0#32
  let c1_i32 : BitVec 32 := 1#32
  let arg16 : BitVec 32 := Scf.iv c0_i32 c1_i32 k0_t1
  let v2543 : Index := Scalar.indexCast arg16
  let c0_1554 : Index := 0#32
  ![2, v2543.toNat, 0]
def k0_off4 (k0_t1 : Fin k0_t1_loop.trips) : Fin 3 → Nat :=
  let c3_1555 : Index := 3#32
  let c0_i32 : BitVec 32 := 0#32
  let c1_i32 : BitVec 32 := 1#32
  let arg16 : BitVec 32 := Scf.iv c0_i32 c1_i32 k0_t1
  let v2546 : Index := Scalar.indexCast arg16
  let c0_1556 : Index := 0#32
  ![3, v2546.toNat, 0]
def k0_off5 (k0_t1 : Fin k0_t1_loop.trips) : Fin 3 → Nat :=
  let c0_i32 : BitVec 32 := 0#32
  let c1_i32 : BitVec 32 := 1#32
  let arg16 : BitVec 32 := Scf.iv c0_i32 c1_i32 k0_t1
  let v2557 : Index := Scalar.indexCast arg16
  let c0_1557 : Index := 0#32
  let c0_1558 : Index := 0#32
  ![v2557.toNat, 0, 0]
def k0_off6 (k0_t1 : Fin k0_t1_loop.trips) : Fin 3 → Nat :=
  let c0_i32 : BitVec 32 := 0#32
  let c1_i32 : BitVec 32 := 1#32
  let arg16 : BitVec 32 := Scf.iv c0_i32 c1_i32 k0_t1
  let v2653 : Index := Scalar.indexCast arg16
  let c0_1579 : Index := 0#32
  let c0_1580 : Index := 0#32
  ![v2653.toNat, 0, 0]
def k0_off7 (k0_t1 : Fin k0_t1_loop.trips) : Fin 3 → Nat :=
  let c0_i32 : BitVec 32 := 0#32
  let c1_i32 : BitVec 32 := 1#32
  let arg16 : BitVec 32 := Scf.iv c0_i32 c1_i32 k0_t1
  let v2660 : Index := Scalar.indexCast arg16
  let c0_1581 : Index := 0#32
  let c0_1582 : Index := 0#32
  ![v2660.toNat, 0, 0]
def k0_off8 (k0_t1 : Fin k0_t1_loop.trips) : Fin 3 → Nat :=
  let c0_i32 : BitVec 32 := 0#32
  let c1_i32 : BitVec 32 := 1#32
  let arg16 : BitVec 32 := Scf.iv c0_i32 c1_i32 k0_t1
  let v3122 : Index := Scalar.indexCast arg16
  let c0_1836 : Index := 0#32
  let c0_1837 : Index := 0#32
  ![v3122.toNat, 0, 0]
def k0_off9 (k0_t1 : Fin k0_t1_loop.trips) : Fin 3 → Nat :=
  let c0_i32 : BitVec 32 := 0#32
  let c1_i32 : BitVec 32 := 1#32
  let arg16 : BitVec 32 := Scf.iv c0_i32 c1_i32 k0_t1
  let v3224 : Index := Scalar.indexCast arg16
  let c0_1886 : Index := 0#32
  let c128_1887 : Index := 128#32
  ![v3224.toNat, 0, 128]
def k0_off10 (k0_t1 : Fin k0_t1_loop.trips) : Fin 3 → Nat :=
  let c0_i32 : BitVec 32 := 0#32
  let c1_i32 : BitVec 32 := 1#32
  let arg16 : BitVec 32 := Scf.iv c0_i32 c1_i32 k0_t1
  let v3326 : Index := Scalar.indexCast arg16
  let c0_1936 : Index := 0#32
  let c256_1937 : Index := 256#32
  ![v3326.toNat, 0, 256]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x6x80x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x192x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S400x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S384x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S384x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512x192 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x6x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "inv_384" => some ((1 / 384 : ℝ) : EReal)
  | _ => none
-- ==== ReferenceIdeal.lean ====
abbrev S840x192 : Shape := ⟨2, ![840, 192]⟩
abbrev S1152x4096 : Shape := ⟨2, ![1152, 4096]⟩
abbrev S400x192 : Shape := ⟨2, ![400, 192]⟩
abbrev S384 : Shape := ⟨1, ![384]⟩
abbrev S384x4096 : Shape := ⟨2, ![384, 4096]⟩
abbrev S12x6x16x4096 : Shape := ⟨4, ![12, 6, 16, 4096]⟩
abbrev S12x1x16x4096 : Shape := ⟨4, ![12, 1, 16, 4096]⟩
abbrev S12x16x4096 : Shape := ⟨3, ![12, 16, 4096]⟩
abbrev S840x12x16 : Shape := ⟨3, ![840, 12, 16]⟩
abbrev S12x840x16 : Shape := ⟨3, ![12, 840, 16]⟩
abbrev S5x168x12x16 : Shape := ⟨4, ![5, 168, 12, 16]⟩
abbrev S12x16x5x168 : Shape := ⟨4, ![12, 16, 5, 168]⟩
abbrev S12x16x5x168x1 : Shape := ⟨5, ![12, 16, 5, 168, 1]⟩
abbrev S384x192 : Shape := ⟨2, ![384, 192]⟩
abbrev S384x1x1 : Shape := ⟨3, ![384, 1, 1]⟩
abbrev S384x1x4096 : Shape := ⟨3, ![384, 1, 4096]⟩
abbrev S168x4096x384 : Shape := ⟨3, ![168, 4096, 384]⟩
abbrev S168x4096x192 : Shape := ⟨3, ![168, 4096, 192]⟩
abbrev S168x6x4096 : Shape := ⟨3, ![168, 6, 4096]⟩
abbrev S12x840x4096 : Shape := ⟨3, ![12, 840, 4096]⟩
abbrev S12x5x168x4096 : Shape := ⟨4, ![12, 5, 168, 4096]⟩
abbrev S12x168x4096 : Shape := ⟨3, ![12, 168, 4096]⟩
abbrev S12x1x168x4096 : Shape := ⟨4, ![12, 1, 168, 4096]⟩
abbrev S12x1x5x168x4096 : Shape := ⟨5, ![12, 1, 5, 168, 4096]⟩
abbrev S12x16x5x168x4096 : Shape := ⟨5, ![12, 16, 5, 168, 4096]⟩
abbrev S12x16x168x4096 : Shape := ⟨4, ![12, 16, 168, 4096]⟩
abbrev S6x32x168x4096 : Shape := ⟨4, ![6, 32, 168, 4096]⟩
abbrev S6x168x4096 : Shape := ⟨3, ![6, 168, 4096]⟩
abbrev S6x1x168x4096 : Shape := ⟨4, ![6, 1, 168, 4096]⟩
abbrev S192x168x4096 : Shape := ⟨3, ![192, 168, 4096]⟩
abbrev S192x688128 : Shape := ⟨2, ![192, 688128]⟩
abbrev S384x688128 : Shape := ⟨2, ![384, 688128]⟩
abbrev S384x168x4096 : Shape := ⟨3, ![384, 168, 4096]⟩
abbrev S168x4096 : Shape := ⟨2, ![168, 4096]⟩
abbrev S1x168x4096 : Shape := ⟨3, ![1, 168, 4096]⟩

abbrev nBuf : Space → Nat
  | .hbm => 31
  | .vmem => 11
  | .smem => 0
  | _ => 0

abbrev bufTy : (tb : Table) → Fin (tcTables nBuf tb) → BufTy
  | .hbm, ⟨0, _⟩ => ⟨S840x192, .f32⟩
  | .hbm, ⟨1, _⟩ => ⟨S840x192, .f32⟩
  | .hbm, ⟨2, _⟩ => ⟨S1152x4096, .bf16⟩
  | .hbm, ⟨3, _⟩ => ⟨S400x192, .bf16⟩
  | .hbm, ⟨4, _⟩ => ⟨S384, .f32⟩
  | .hbm, ⟨5, _⟩ => ⟨S384x4096, .f32⟩
  | .hbm, ⟨6, _⟩ => ⟨S384, .f32⟩
  | .hbm, ⟨7, _⟩ => ⟨S384, .f32⟩
  | .hbm, ⟨8, _⟩ => ⟨S1152x4096, .f32⟩
  | .hbm, ⟨9, _⟩ => ⟨S12x6x16x4096, .f32⟩
  | .hbm, ⟨10, _⟩ => ⟨S12x1x16x4096, .f32⟩
  | .hbm, ⟨11, _⟩ => ⟨S12x16x4096, .f32⟩
  | .hbm, ⟨12, _⟩ => ⟨S12x1x16x4096, .f32⟩
  | .hbm, ⟨13, _⟩ => ⟨S12x16x4096, .f32⟩
  | .hbm, ⟨14, _⟩ => ⟨S12x16x4096, .f32⟩
  | .hbm, ⟨15, _⟩ => ⟨S12x1x16x4096, .f32⟩
  | .hbm, ⟨16, _⟩ => ⟨S12x16x4096, .f32⟩
  | .hbm, ⟨17, _⟩ => ⟨S12x16x4096, .f32⟩
  | .hbm, ⟨18, _⟩ => ⟨S840x12x16, .f32⟩
  | .hbm, ⟨19, _⟩ => ⟨S12x840x16, .f32⟩
  | .hbm, ⟨20, _⟩ => ⟨S5x168x12x16, .f32⟩
  | .hbm, ⟨21, _⟩ => ⟨S12x16x5x168, .f32⟩
  | .hbm, ⟨22, _⟩ => ⟨S12x16x5x168x1, .f32⟩
  | .hbm, ⟨23, _⟩ => ⟨S384x192, .bf16⟩
  | .hbm, ⟨24, _⟩ => ⟨S384x1x1, .f32⟩
  | .hbm, ⟨25, _⟩ => ⟨S384x1x4096, .f32⟩
  | .hbm, ⟨26, _⟩ => ⟨S384x1x1, .f32⟩
  | .hbm, ⟨27, _⟩ => ⟨S384x1x1, .f32⟩
  | .hbm, ⟨28, _⟩ => ⟨S168x4096x384, .bf16⟩
  | .hbm, ⟨29, _⟩ => ⟨S168x4096x192, .fp8e4m3⟩
  | .hbm, ⟨30, _⟩ => ⟨S168x6x4096, .f32⟩
  | .local _ .vmem, ⟨0, _⟩ => ⟨S12x16x4096, .f32⟩
  | .local _ .vmem, ⟨1, _⟩ => ⟨S12x840x16, .f32⟩
  | .local _ .vmem, ⟨2, _⟩ => ⟨S12x16x5x168x1, .f32⟩
  | .local _ .vmem, ⟨3, _⟩ => ⟨S384x192, .bf16⟩
  | .local _ .vmem, ⟨4, _⟩ => ⟨S384x1x1, .f32⟩
  | .local _ .vmem, ⟨5, _⟩ => ⟨S384x1x4096, .f32⟩
  | .local _ .vmem, ⟨6, _⟩ => ⟨S384x1x1, .f32⟩
  | .local _ .vmem, ⟨7, _⟩ => ⟨S384x1x1, .f32⟩
  | .local _ .vmem, ⟨8, _⟩ => ⟨S168x4096x384, .bf16⟩
  | .local _ .vmem, ⟨9, _⟩ => ⟨S168x4096x192, .fp8e4m3⟩
  | .local _ .vmem, ⟨10, _⟩ => ⟨S168x6x4096, .f32⟩
  | _, _ => ⟨S840x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S12x16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x840x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x16x5x168x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S384x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S168x4096x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S168x4096x192 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S168x6x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Body.lean ====
/-
  The kernel body as a program of repeated steps: one definition for each kind of step the body repeats (a score
  product, a softmax block, a centring step, a normalising step), and the whole body as their sequence. The program
  is written over any signature, so that the kernel and its idealization are both instances of it.
-/
module

public import Idealize.ShloMosaic.Lib.VecWindow
public import Idealize.ShloMosaic.Lib.Scf
public import Idealize.ShloMosaic.Lib.Tactic
public import Idealize.ShloMosaic.PureOps

@[expose] public section

noncomputable section

namespace I2t

open Idealize.ShloMosaic Idealize.SL.Sem

abbrev S1x6x80x192 : Shape := ⟨4, ![1, 6, 80, 192]⟩
abbrev S8x192x384 : Shape := ⟨3, ![8, 192, 384]⟩
abbrev S1152x512 : Shape := ⟨2, ![1152, 512]⟩
abbrev S400x192 : Shape := ⟨2, ![400, 192]⟩
abbrev S384x512 : Shape := ⟨2, ![384, 512]⟩
abbrev S384x128 : Shape := ⟨2, ![384, 128]⟩
abbrev S8x512x384 : Shape := ⟨3, ![8, 512, 384]⟩
abbrev S8x512x192 : Shape := ⟨3, ![8, 512, 192]⟩
abbrev S8x6x512 : Shape := ⟨3, ![8, 6, 512]⟩
abbrev S4x480x128 : Shape := ⟨3, ![4, 480, 128]⟩
abbrev S4x512x128 : Shape := ⟨3, ![4, 512, 128]⟩
abbrev S400x512 : Shape := ⟨2, ![400, 512]⟩
abbrev S1x1x80x192 : Shape := ⟨4, ![1, 1, 80, 192]⟩
abbrev S80x192 : Shape := ⟨2, ![80, 192]⟩
abbrev S192x512 : Shape := ⟨2, ![192, 512]⟩
abbrev S80x512 : Shape := ⟨2, ![80, 512]⟩
abbrev S80x128 : Shape := ⟨2, ![80, 128]⟩
abbrev S1x80x128 : Shape := ⟨3, ![1, 80, 128]⟩
abbrev S1x8x128 : Shape := ⟨3, ![1, 8, 128]⟩
abbrev S8x128 : Shape := ⟨2, ![8, 128]⟩
abbrev S32x128 : Shape := ⟨2, ![32, 128]⟩
abbrev S1x32x128 : Shape := ⟨3, ![1, 32, 128]⟩
abbrev S1x64x128 : Shape := ⟨3, ![1, 64, 128]⟩
abbrev S64x128 : Shape := ⟨2, ![64, 128]⟩
abbrev S64x512 : Shape := ⟨2, ![64, 512]⟩
abbrev S1x192x384 : Shape := ⟨3, ![1, 192, 384]⟩
abbrev S192x384 : Shape := ⟨2, ![192, 384]⟩
abbrev S192x256 : Shape := ⟨2, ![192, 256]⟩
abbrev S256x512 : Shape := ⟨2, ![256, 512]⟩
abbrev S192x128 : Shape := ⟨2, ![192, 128]⟩
abbrev S128x512 : Shape := ⟨2, ![128, 512]⟩
abbrev S6x32x512 : Shape := ⟨3, ![6, 32, 512]⟩
abbrev S6x512 : Shape := ⟨2, ![6, 512]⟩
abbrev S6x1x512 : Shape := ⟨3, ![6, 1, 512]⟩
abbrev S1x6x512 : Shape := ⟨3, ![1, 6, 512]⟩
abbrev S512x192 : Shape := ⟨2, ![512, 192]⟩
abbrev S1x512x192 : Shape := ⟨3, ![1, 512, 192]⟩
abbrev S1x512 : Shape := ⟨2, ![1, 512]⟩
abbrev S16x512 : Shape := ⟨2, ![16, 512]⟩
abbrev S16x128 : Shape := ⟨2, ![16, 128]⟩
abbrev S512 : Shape := ⟨1, ![512]⟩
abbrev S512x128 : Shape := ⟨2, ![512, 128]⟩
abbrev S1x512x128 : Shape := ⟨3, ![1, 512, 128]⟩

/-- A plain product of an `M × K` by a `K × N` matrix. -/
abbrev dotMN (M K N : ℕ) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- A window of two axes inside its shape, axis by axis. -/
theorem inb2 {o0 o1 s0 s1 t0 t1 : ℕ} (h0 : o0 + s0 ≤ t0) (h1 : o1 + s1 ≤ t1) :
    ∀ a : Fin 2, (![o0, o1] : Fin 2 → ℕ) a + (![s0, s1] : Fin 2 → ℕ) a ≤ (![t0, t1] : Fin 2 → ℕ) a := by
  intro a; fin_cases a <;> assumption
/-- A window of three axes. -/
theorem inb3 {o0 o1 o2 s0 s1 s2 t0 t1 t2 : ℕ} (h0 : o0 + s0 ≤ t0) (h1 : o1 + s1 ≤ t1) (h2 : o2 + s2 ≤ t2) :
    ∀ a : Fin 3, (![o0, o1, o2] : Fin 3 → ℕ) a + (![s0, s1, s2] : Fin 3 → ℕ) a ≤ (![t0, t1, t2] : Fin 3 → ℕ) a := by
  intro a; fin_cases a <;> assumption
/-- A window of four axes. -/
theorem inb4 {o0 o1 o2 o3 s0 s1 s2 s3 t0 t1 t2 t3 : ℕ} (h0 : o0 + s0 ≤ t0) (h1 : o1 + s1 ≤ t1) (h2 : o2 + s2 ≤ t2) (h3 : o3 + s3 ≤ t3) :
    ∀ a : Fin 4, (![o0, o1, o2, o3] : Fin 4 → ℕ) a + (![s0, s1, s2, s3] : Fin 4 → ℕ) a ≤ (![t0, t1, t2, t3] : Fin 4 → ℕ) a := by
  intro a; fin_cases a <;> assumption

section
variable {F : FTy → Type} [FloatOps F]

/-! ## The pure pieces -/

/-- Scores of two heads at the kernel's 512 positions. -/
def scoreVec (kb : Vec F S1x1x80x192 .bf16) (qb : Vec F S192x512 .bf16) : FVec F S80x512 .f32 :=
  matmul (dotMN 80 192 512 (by decide)) none (shapeCast S80x192 kb (by decide)) qb (constant S80x512 .f32 0x00000000#32)

theorem slices_lane {l : ℕ} (h : l < 4) : S80x512.Slices ![0, l * 128] S80x128 :=
  ⟨rfl, inb2 (by decide) (by show l * 128 + 128 ≤ 512; omega)⟩

/-- One lane tile of them, as the scratch row block it is stored to. -/
def scoreLane (sc : FVec F S80x512 .f32) (l : ℕ) (h : l < 4) : FVec F S1x80x128 .f32 :=
  shapeCast S1x80x128 (extractStridedSlice S80x128 ![0, l * 128] sc (slices_lane h)) (by decide)

abbrev sq8 (x : Vec F S1x8x128 .f32) : FVec F S8x128 .f32 := shapeCast S8x128 x (by decide)

/-- The largest of the five scores. -/
def smMax (s0 s1 s2 s3 s4 : Vec F S1x8x128 .f32) : FVec F S8x128 .f32 :=
  maximumf (maximumf (maximumf (sq8 s0) (sq8 s1)) (maximumf (sq8 s2) (sq8 s3))) (sq8 s4)
def smExp (s : Vec F S1x8x128 .f32) (m : FVec F S8x128 .f32) : FVec F S8x128 .f32 := exp2 (subf (sq8 s) m)
def smRec (e0 e1 e2 e3 e4 : FVec F S8x128 .f32) : FVec F S8x128 .f32 :=
  divf (broadcast S8x128 (Scalar.ofBits .f32 0x3F800000#32)) (addf (addf (addf e0 e1) (addf e2 e3)) e4)
def smOut (e r : FVec F S8x128 .f32) : FVec F S1x8x128 .f32 := shapeCast S1x8x128 (mulf e r) (by decide)

/-- The zero rows under the probabilities. -/
def zeroRows : FVec F S1x32x128 .f32 :=
  shapeCast S1x32x128 (broadcast S32x128 (Scalar.ofBits .f32 0x00000000#32)) (by decide)

abbrev sq64 (x : Vec F S1x64x128 .f32) : FVec F S64x128 .f32 := shapeCast S64x128 x (by decide)
/-- The probabilities of one row of the tile, the four lane tiles side by side. -/
def probVec (p0 p1 p2 p3 : Vec F S1x64x128 .f32) : FVec F S64x512 .f32 :=
  concatenate S64x512 1 [⟨S64x128, sq64 p0⟩, ⟨S64x128, sq64 p1⟩, ⟨S64x128, sq64 p2⟩, ⟨S64x128, sq64 p3⟩] (show Shape.Concatenates [S64x128, S64x128, S64x128, S64x128] S64x512 1 by decide)

abbrev part1 {s : Shape} (x : FVec F s .f32) : FVec F s .bf16 := truncf .bf16 x (by decide)
abbrev rest1 {s : Shape} (x : FVec F s .f32) : FVec F s .f32 := subf x (extf .f32 (part1 x) (by decide))

/-- The attention output: the products of the three-way split values and probabilities. -/
def outVec (pb : FVec F S64x512 .f32) (vb : Vec F S1x192x384 .bf16) : FVec F S6x32x512 .f32 :=
  shapeCast S6x32x512
    (addf
      (matmul (dotMN 192 256 512 (by decide)) none
        (extractStridedSlice S192x256 ![0, 0] (shapeCast S192x384 vb (by decide)) (by decide))
        (concatenate S256x512 0 [⟨S64x512, part1 pb⟩, ⟨S64x512, part1 (rest1 pb)⟩, ⟨S64x512, part1 (rest1 (rest1 pb))⟩, ⟨S64x512, part1 pb⟩] (show Shape.Concatenates [S64x512, S64x512, S64x512, S64x512] S256x512 0 by decide))
        (constant S192x512 .f32 0x00000000#32))
      (matmul (dotMN 192 128 512 (by decide)) none
        (extractStridedSlice S192x128 ![0, 256] (shapeCast S192x384 vb (by decide)) (by decide))
        (concatenate S128x512 0 [⟨S64x512, part1 (rest1 pb)⟩, ⟨S64x512, part1 pb⟩] (show Shape.Concatenates [S64x512, S64x512] S128x512 0 by decide))
        (constant S192x512 .f32 0x00000000#32))) (by decide)

/-- The rows' largest magnitudes over the format's largest number. -/
def ratioVec (o : FVec F S6x32x512 .f32) : FVec F S6x1x512 .f32 :=
  mulf (shapeCast S6x1x512 (multiReduction .maximumf [1] S6x512 (absf o) 0xFF800000#32 (by decide) (.inl rfl) rfl) (by decide))
    (broadcast S6x1x512 (Scalar.ofBits .f32 0x3B124925#32))

/-- One step of the search for the exponent field: the bit `step` is kept if the number it gives is not too large. -/
def expStep (x : FVec F S6x1x512 .f32) (step : BitVec 32) (e : IVec S6x1x512 32) : IVec S6x1x512 32 :=
  select (cmpf .oge x (bitcastToFloat .f32 (shli (addi e (broadcast S6x1x512 step)) (broadcast S6x1x512 23#32))))
    (addi e (broadcast S6x1x512 step)) e

/-- The exponent field, bit by bit. -/
def expVec (x : FVec F S6x1x512 .f32) : IVec S6x1x512 32 :=
  expStep x 1#32 (expStep x 2#32 (expStep x 4#32 (expStep x 8#32 (expStep x 16#32 (expStep x 32#32 (expStep x 64#32
    (expStep x 128#32 (broadcast S6x1x512 0#32))))))))

/-- The exponent field, 126 in place of 0. -/
def expFix (e : IVec S6x1x512 32) : IVec S6x1x512 32 :=
  select (cmpi .eq e (broadcast S6x1x512 0#32)) (broadcast S6x1x512 126#32) e

def invVec (e : IVec S6x1x512 32) : FVec F S6x1x512 .f32 :=
  bitcastToFloat .f32 (shli (subi (broadcast S6x1x512 253#32) e) (broadcast S6x1x512 23#32))
def scaleVec (e : IVec S6x1x512 32) : FVec F S6x1x512 .f32 :=
  bitcastToFloat .f32 (shli (addi e (broadcast S6x1x512 1#32)) (broadcast S6x1x512 23#32))

/-- The codes: the outputs over their scale, clipped and rounded to the eight-bit format. -/
def codeVec (o : FVec F S6x32x512 .f32) (inv : FVec F S6x1x512 .f32) : FVec F S192x512 .fp8e4m3 :=
  truncf .fp8e4m3
    (shapeCast S192x512
      (minimumf (broadcast S6x32x512 (Scalar.ofBits .f32 0x43E00000#32))
        (maximumf (broadcast S6x32x512 (Scalar.ofBits .f32 0xC3E00000#32))
          (mulf o (broadcastTo S6x32x512 inv (by decide))))) (by decide)) (by decide)

def scaleOut (sc : FVec F S6x1x512 .f32) : FVec F S1x6x512 .f32 :=
  shapeCast S1x6x512 (shapeCast S6x512 sc (by decide)) (by decide)

def codeOut (cd : FVec F S192x512 .fp8e4m3) : FVec F S1x512x192 .fp8e4m3 :=
  shapeCast S1x512x192 (truncf .fp8e4m3 (transpose S512x192 [1, 0] (extf .bf16 cd (by decide)) (by decide)) (by decide)) (by decide)

/-- The codes times their scales, in the 16-bit format. -/
def wideVec (cd : FVec F S192x512 .fp8e4m3) (sc : FVec F S6x1x512 .f32) : FVec F S192x512 .bf16 :=
  shapeCast S192x512
    (mulf (shapeCast S6x32x512 (extf .bf16 cd (by decide)) (by decide))
      (broadcastTo S6x32x512 (truncf .bf16 sc (by decide)) (by decide))) (by decide)

/-- The output projection. -/
def projVec (w : Vec F S400x192 .bf16) (ow : FVec F S192x512 .bf16) : FVec F S400x512 .f32 :=
  shapeCast S400x512 (matmul (dotMN 400 192 512 (by decide)) none w ow (constant S400x512 .f32 0x00000000#32)) (by decide)

/-- A column block repeated over the four lane tiles. -/
def wide4 (v : Vec F S16x128 .f32) : FVec F S16x512 .f32 :=
  concatenate S16x512 1 [⟨S16x128, shapeCast S16x128 v (by decide)⟩, ⟨S16x128, shapeCast S16x128 v (by decide)⟩,
    ⟨S16x128, shapeCast S16x128 v (by decide)⟩, ⟨S16x128, shapeCast S16x128 v (by decide)⟩] (show Shape.Concatenates [S16x128, S16x128, S16x128, S16x128] S16x512 1 by decide)

/-- Sixteen centred rows. -/
def dVec (mu : FVec F S1x512 .f32) (yv : Vec F S16x512 .f32) (so : Vec F S16x128 .f32) (xv : Vec F S16x512 .f32) : FVec F S16x512 .f32 :=
  addf (mulf yv (wide4 so)) (subf xv (broadcastTo S16x512 mu (by decide)))

def dOut (d : FVec F S16x512 .f32) : FVec F S16x512 .f32 := shapeCast S16x512 d (by decide)

/-- One over the standard deviation, `inv` standing for one over the number of channels. -/
def rstdVec (inv : F .f32) (acc : FVec F S16x512 .f32) : FVec F S1x512 .f32 :=
  rsqrt (addf (mulf (shapeCast S1x512 (multiReduction .add [0] S512 acc 0x00000000#32 (by decide) (.inl rfl) rfl) (by decide))
    (broadcast S1x512 inv)) (broadcast S1x512 (Scalar.ofBits .f32 0x3727C5AC#32)))

/-- Sixteen normalised rows. -/
def zVec (rstd : FVec F S1x512 .f32) (yv : Vec F S16x512 .f32) (g b : Vec F S16x128 .f32) : FVec F S16x512 .bf16 :=
  truncf .bf16 (addf (mulf (mulf yv (broadcastTo S16x512 rstd (by decide))) (wide4 g)) (wide4 b)) (by decide)

def imgOut (z0 z1 z2 z3 z4 z5 z6 z7 : FVec F S16x512 .bf16) : FVec F S1x512x128 .bf16 :=
  shapeCast S1x512x128 (transpose S512x128 [1, 0]
    (concatenate S128x512 0 [⟨S16x512, z0⟩, ⟨S16x512, z1⟩, ⟨S16x512, z2⟩, ⟨S16x512, z3⟩, ⟨S16x512, z4⟩, ⟨S16x512, z5⟩,
      ⟨S16x512, z6⟩, ⟨S16x512, z7⟩] (show Shape.Concatenates [S16x512, S16x512, S16x512, S16x512, S16x512, S16x512, S16x512, S16x512] S128x512 0 by decide)) (by decide)) (by decide)

end

/-! ## The program -/

/-- The buffers the body works on. -/
structure Refs (sig : RefSig) where
  k : Memref sig .tc .vmem S1x6x80x192 .bf16
  v : Memref sig .tc .vmem S8x192x384 .bf16
  q : Memref sig .tc .vmem S1152x512 .bf16
  w : Memref sig .tc .vmem S400x192 .bf16
  so : Memref sig .tc .vmem S384x128 .f32
  x : Memref sig .tc .vmem S384x512 .f32
  g : Memref sig .tc .vmem S384x128 .f32
  b : Memref sig .tc .vmem S384x128 .f32
  img : Memref sig .tc .vmem S8x512x384 .bf16
  oc : Memref sig .tc .vmem S8x512x192 .fp8e4m3
  os : Memref sig .tc .vmem S8x6x512 .f32
  s : Memref sig .tc .vmem S4x480x128 .f32
  p : Memref sig .tc .vmem S4x512x128 .f32
  y : Memref sig .tc .vmem S400x512 .f32

section
variable {F : FTy → Type} [FloatOps F] {nD : Nat} {τ : Topo} {sig : RefSig} {Λ : Labels} {α : Type}

variable (nD τ sig Λ F) in
abbrev Pg (α : Type) := Prog (TpuEff nD τ sig (Elt F) Λ .tc) α

/-- A window has elements when its sizes multiply to a positive number. -/
theorem pos_unit {s : Shape} {off size : Fin s.rank → ℕ} {inb : ∀ a, off a + size a ≤ s.size a} (h : 0 < Shape.numel ⟨s.rank, size⟩) :
    0 < (Rect.unit off size inb).shape.numel := h

/-- A load of the window at `off`. -/
abbrev ld {s : Shape} {e : EltTy} (m : Memref sig .tc .vmem s e) (off size : Fin s.rank → ℕ) (inb : ∀ a, off a + size a ≤ s.size a)
    (h : 0 < Shape.numel ⟨s.rank, size⟩) (k : ((Rect.unit off size inb).shape.Idx → Elt F e) → Pg F nD τ sig Λ α) : Pg F nD τ sig Λ α :=
  .op (.load m (Rect.unit off size inb).toLoadRect (View.loadsAt_vmem (show 0 < (Rect.unit off size inb).shape.numel from h))) k

/-- An unmasked store to the window at `off`. -/
abbrev st {s : Shape} {e : EltTy} (m : Memref sig .tc .vmem s e) (off size : Fin s.rank → ℕ) (inb : ∀ a, off a + size a ≤ s.size a)
    (w : (Rect.unit off size inb).shape.Idx → Elt F e) (hs : (m.access (Rect.unit off size inb)).Stores Finset.univ)
    (k : PUnit → Pg F nD τ sig Λ α) : Pg F nD τ sig Λ α :=
  .op (.store m (Rect.unit off size inb) w Finset.univ hs (.inl rfl)) k

variable (M : Refs sig)

/-- The window of the score scratch: lane tile `l`, head pair `n`. -/
theorem inb_s {l n : ℕ} (hl : l < 4) (hn : n < 6) :
    ∀ a : Fin 3, (![l, n * 80, 0] : Fin 3 → ℕ) a + S1x80x128.size a ≤ S4x480x128.size a :=
  inb3 (by omega) (by omega) (by omega)

def scoreStore (sc : FVec F S80x512 .f32) (l n : ℕ) (hl : l < 4) (hn : n < 6) (k : Pg F nD τ sig Λ α) : Pg F nD τ sig Λ α :=
  ld M.s ![l, n * 80, 0] S1x80x128.size (inb_s hl hn) (by decide) fun _ =>
  st M.s ![l, n * 80, 0] S1x80x128.size (inb_s hl hn) (scoreLane sc l hl) (View.stores_vmem_bits_univ (pos_unit (by decide)) rfl) fun _ => k

/-- One score product: head pair `n`. -/
def scoreStep (n : ℕ) (hn : n < 6) (k : Pg F nD τ sig Λ α) : Pg F nD τ sig Λ α :=
  ld M.k ![0, n, 0, 0] S1x1x80x192.size (inb4 (by omega) (by omega) (by omega) (by omega)) (by decide) fun kb =>
  ld M.q ![n * 192, 0] S192x512.size (inb2 (by omega) (by omega)) (by decide) fun qb =>
  scoreStore M (scoreVec kb qb) 0 n (by omega) hn <|
  scoreStore M (scoreVec kb qb) 1 n (by omega) hn <|
  scoreStore M (scoreVec kb qb) 2 n (by omega) hn <|
  scoreStore M (scoreVec kb qb) 3 n (by omega) hn k

/-- The score products of the first `n` head pairs. -/
def scoreUpTo : (n : ℕ) → n ≤ 6 → Pg F nD τ sig Λ α → Pg F nD τ sig Λ α
  | 0, _, k => k
  | n + 1, h, k => scoreUpTo n (by omega) (scoreStep M n h k)

theorem inb_sm {l r R : ℕ} (hl : l < 4) (hr : r + 8 ≤ R) :
    ∀ a : Fin 3, (![l, r, 0] : Fin 3 → ℕ) a + S1x8x128.size a ≤ (![4, R, 128] : Fin 3 → ℕ) a :=
  inb3 (by omega) (by omega) (by omega)

abbrev smLoad (l r : ℕ) (hl : l < 4) (hr : r + 8 ≤ 480) (k : Vec F S1x8x128 .f32 → Pg F nD τ sig Λ α) : Pg F nD τ sig Λ α :=
  ld M.s ![l, r, 0] S1x8x128.size (inb_sm hl hr) (by decide) k
abbrev smStore (l r : ℕ) (hl : l < 4) (hr : r + 8 ≤ 512) (w : FVec F S1x8x128 .f32) (k : Pg F nD τ sig Λ α) : Pg F nD τ sig Λ α :=
  ld M.p ![l, r, 0] S1x8x128.size (inb_sm hl hr) (by decide) fun _ =>
  st M.p ![l, r, 0] S1x8x128.size (inb_sm hl hr) w (View.stores_vmem_bits_univ (pos_unit (by decide)) rfl) fun _ => k

/-- The softmax of head `n` on lane tile `l`. -/
def smStep (l n : ℕ) (hl : l < 4) (hn : n < 12) (k : Pg F nD τ sig Λ α) : Pg F nD τ sig Λ α :=
  smLoad M l (n * 40) hl (by omega) fun s0 =>
  smLoad M l (n * 40 + 8) hl (by omega) fun s1 =>
  smLoad M l (n * 40 + 16) hl (by omega) fun s2 =>
  smLoad M l (n * 40 + 24) hl (by omega) fun s3 =>
  smLoad M l (n * 40 + 32) hl (by omega) fun s4 =>
  let m := smMax s0 s1 s2 s3 s4
  let r := smRec (smExp s0 m) (smExp s1 m) (smExp s2 m) (smExp s3 m) (smExp s4 m)
  smStore M l (n * 40) hl (by omega) (smOut (smExp s0 m) r) <|
  smStore M l (n * 40 + 8) hl (by omega) (smOut (smExp s1 m) r) <|
  smStore M l (n * 40 + 16) hl (by omega) (smOut (smExp s2 m) r) <|
  smStore M l (n * 40 + 24) hl (by omega) (smOut (smExp s3 m) r) <|
  smStore M l (n * 40 + 32) hl (by omega) (smOut (smExp s4 m) r) k

def smUpTo (l : ℕ) (hl : l < 4) : (n : ℕ) → n ≤ 12 → Pg F nD τ sig Λ α → Pg F nD τ sig Λ α
  | 0, _, k => k
  | n + 1, h, k => smUpTo l hl n (by omega) (smStep M l n hl h k)

theorem inb_z {l : ℕ} (hl : l < 4) : ∀ a : Fin 3, (![l, 480, 0] : Fin 3 → ℕ) a + S1x32x128.size a ≤ S4x512x128.size a :=
  inb3 (by omega) (by omega) (by omega)

/-- Lane tile `l`: its twelve heads, then the zero rows. -/
def laneStep (l : ℕ) (hl : l < 4) (k : Pg F nD τ sig Λ α) : Pg F nD τ sig Λ α :=
  smUpTo M l hl 12 le_rfl <|
  ld M.p ![l, 480, 0] S1x32x128.size (inb_z hl) (by decide) fun _ =>
  st M.p ![l, 480, 0] S1x32x128.size (inb_z hl) zeroRows (View.stores_vmem_bits_univ (pos_unit (by decide)) rfl) fun _ => k

def laneUpTo : (n : ℕ) → n ≤ 4 → Pg F nD τ sig Λ α → Pg F nD τ sig Λ α
  | 0, _, k => k
  | n + 1, h, k => laneUpTo n (by omega) (laneStep M n h k)

theorem inb_y {j : ℕ} (hj : j < 24) : ∀ a : Fin 2, (![j * 16, 0] : Fin 2 → ℕ) a + S16x512.size a ≤ S400x512.size a :=
  inb2 (by omega) (by omega)
theorem inb_x {j : ℕ} (hj : j < 24) : ∀ a : Fin 2, (![j * 16, 0] : Fin 2 → ℕ) a + S16x512.size a ≤ S384x512.size a :=
  inb2 (by omega) (by omega)
theorem inb_g {j : ℕ} (hj : j < 24) : ∀ a : Fin 2, (![j * 16, 0] : Fin 2 → ℕ) a + S16x128.size a ≤ S384x128.size a :=
  inb2 (by omega) (by omega)

/-- Rows `16 j … 16 j + 15` centred in place, their squares added up. -/
def dStep (mu : FVec F S1x512 .f32) (j : ℕ) (hj : j < 24) (acc : FVec F S16x512 .f32) (k : FVec F S16x512 .f32 → Pg F nD τ sig Λ α) : Pg F nD τ sig Λ α :=
  ld M.y ![j * 16, 0] S16x512.size (inb_y hj) (by decide) fun yv =>
  ld M.so ![j * 16, 0] S16x128.size (inb_g hj) (by decide) fun so =>
  ld M.x ![j * 16, 0] S16x512.size (inb_x hj) (by decide) fun xv =>
  ld M.y ![j * 16, 0] S16x512.size (inb_y hj) (by decide) fun _ =>
  st M.y ![j * 16, 0] S16x512.size (inb_y hj) (dOut (dVec mu yv so xv)) (View.stores_vmem_bits_univ (pos_unit (by decide)) rfl) fun _ =>
  k (addf acc (mulf (dVec mu yv so xv) (dVec mu yv so xv)))

def dUpTo (mu : FVec F S1x512 .f32) : (n : ℕ) → n ≤ 24 → (FVec F S16x512 .f32 → Pg F nD τ sig Λ α) → Pg F nD τ sig Λ α
  | 0, _, k => k (broadcast S16x512 (Scalar.ofBits .f32 0x00000000#32))
  | n + 1, h, k => dUpTo mu n (by omega) fun acc => dStep M mu n h acc k

/-- Rows `16 j … 16 j + 15` normalised. -/
def zStep (rstd : FVec F S1x512 .f32) (j : ℕ) (hj : j < 24) (k : FVec F S16x512 .bf16 → Pg F nD τ sig Λ α) : Pg F nD τ sig Λ α :=
  ld M.y ![j * 16, 0] S16x512.size (inb_y hj) (by decide) fun yv =>
  ld M.g ![j * 16, 0] S16x128.size (inb_g hj) (by decide) fun gv =>
  ld M.b ![j * 16, 0] S16x128.size (inb_g hj) (by decide) fun bv =>
  k (zVec rstd yv gv bv)

theorem inb_img {t c : ℕ} (ht : t < 8) (hc : c < 3) : ∀ a : Fin 3, (![t, 0, c * 128] : Fin 3 → ℕ) a + S1x512x128.size a ≤ S8x512x384.size a :=
  inb3 (by omega) (by omega) (by omega)

/-- The evidence that the two sub-word result buffers may be stored to, tile row by tile row. -/
structure StoreOk (M : Refs sig) : Prop where
  oc : ∀ t (ht : t < 8), (M.oc.access (Rect.unit (s := S8x512x192) ![t, 0, 0] S1x512x192.size
    (inb3 (by omega) (by omega) (by omega)))).Stores Finset.univ
  img : ∀ t c (ht : t < 8) (hc : c < 3), (M.img.access (Rect.unit (s := S8x512x384) ![t, 0, c * 128] S1x512x128.size
    (inb_img ht hc))).Stores Finset.univ

theorem packed_oc : ∀ t : Fin 8, (Rect.unit (s := S8x512x192) ![t.val, 0, 0] S1x512x192.size
    (inb3 (by omega) (by omega) (by omega))).PackedRows (EltTy.packing .fp8e4m3) := by decide +kernel
theorem packed_img : ∀ (t : Fin 8) (c : Fin 3), (Rect.unit (s := S8x512x384) ![t.val, 0, c.val * 128] S1x512x128.size
    (inb_img t.isLt c.isLt)).PackedRows (EltTy.packing .bf16) := by decide +kernel

/-- Whole buffers may be stored to at these windows: the windows hold whole words. -/
theorem StoreOk.of_whole (h10 : M.img.IsWhole) (h11 : M.oc.IsWhole) : StoreOk M where
  oc t ht := View.stores_vmem (pos_unit (by decide)) (h11.storeExact_slice rfl _ (packed_oc ⟨t, ht⟩)) (fun _ => rfl)
  img t c ht hc := View.stores_vmem (pos_unit (by decide)) (h10.storeExact_slice rfl _ (packed_img ⟨t, ht⟩ ⟨c, hc⟩)) (fun _ => rfl)

/-- A third of the channels: eight normalising steps and the store of the rows they make. -/
def imgStep (hM : StoreOk M) (rstd : FVec F S1x512 .f32) (t c : ℕ) (ht : t < 8) (hc : c < 3) (k : Pg F nD τ sig Λ α) : Pg F nD τ sig Λ α :=
  zStep M rstd (c * 8) (by omega) fun z0 =>
  zStep M rstd (c * 8 + 1) (by omega) fun z1 =>
  zStep M rstd (c * 8 + 2) (by omega) fun z2 =>
  zStep M rstd (c * 8 + 3) (by omega) fun z3 =>
  zStep M rstd (c * 8 + 4) (by omega) fun z4 =>
  zStep M rstd (c * 8 + 5) (by omega) fun z5 =>
  zStep M rstd (c * 8 + 6) (by omega) fun z6 =>
  zStep M rstd (c * 8 + 7) (by omega) fun z7 =>
  ld M.img ![t, 0, c * 128] S1x512x128.size (inb_img ht hc) (by decide) fun _ =>
  st M.img ![t, 0, c * 128] S1x512x128.size (inb_img ht hc) (imgOut z0 z1 z2 z3 z4 z5 z6 z7) (hM.img t c ht hc) fun _ => k

theorem inb_p {l t : ℕ} (hl : l < 4) (ht : t < 8) :
    ∀ a : Fin 3, S1x64x128.size a = 0 ∨ (![l, t, 0] : Fin 3 → ℕ) a + (![1, 8, 1] : Fin 3 → ℕ) a * (S1x64x128.size a - 1) < S4x512x128.size a := by
  intro a; right; fin_cases a
  · show l + 1 * 0 < 4; omega
  · show t + 8 * 63 < 512; omega
  · show 0 + 1 * 127 < 128; omega

/-- The rows `t, t + 8, …` of the probability scratch, on lane tile `l`. -/
abbrev pRect (l t : ℕ) (hl : l < 4) (ht : t < 8) : LoadRect S4x512x128 := ⟨![l, t, 0], S1x64x128.size, ![1, 8, 1], inb_p hl ht⟩

abbrev pLoad (l t : ℕ) (hl : l < 4) (ht : t < 8) (k : Vec F S1x64x128 .f32 → Pg F nD τ sig Λ α) : Pg F nD τ sig Λ α :=
  .op (.load M.p (pRect l t hl ht) (View.loadsAt_vmem (show 0 < S1x64x128.numel by decide))) k

/-- One row of the tile. -/
def tripStep (hM : StoreOk M) (inv : F .f32) (t : ℕ) (ht : t < 8) (k : Pg F nD τ sig Λ α) : Pg F nD τ sig Λ α :=
  pLoad M 0 t (by omega) ht fun p0 => pLoad M 1 t (by omega) ht fun p1 => pLoad M 2 t (by omega) ht fun p2 => pLoad M 3 t (by omega) ht fun p3 =>
  ld M.v ![t, 0, 0] S1x192x384.size (inb3 (by omega) (by omega) (by omega)) (by decide) fun vb =>
  let o := outVec (probVec p0 p1 p2 p3) vb
  let e := expFix (expVec (ratioVec o))
  ld M.os ![t, 0, 0] S1x6x512.size (inb3 (by omega) (by omega) (by omega)) (by decide) fun _ =>
  st M.os ![t, 0, 0] S1x6x512.size (inb3 (by omega) (by omega) (by omega)) (scaleOut (scaleVec e)) (View.stores_vmem_bits_univ (pos_unit (by decide)) rfl) fun _ =>
  ld M.oc ![t, 0, 0] S1x512x192.size (inb3 (by omega) (by omega) (by omega)) (by decide) fun _ =>
  st M.oc ![t, 0, 0] S1x512x192.size (inb3 (by omega) (by omega) (by omega)) (codeOut (codeVec o (invVec e))) (hM.oc t ht) fun _ =>
  ld M.w ![0, 0] S400x192.size (inb2 (by omega) (by omega)) (by decide) fun w =>
  ld M.y ![0, 0] S400x512.size (inb2 (by omega) (by omega)) (by decide) fun _ =>
  st M.y ![0, 0] S400x512.size (inb2 (by omega) (by omega)) (projVec w (wideVec (codeVec o (invVec e)) (scaleVec e))) (View.stores_vmem_bits_univ (pos_unit (by decide)) rfl) fun _ =>
  ld M.y ![384, 0] S1x512.size (inb2 (by omega) (by omega)) (by decide) fun m0 =>
  ld M.y ![385, 0] S1x512.size (inb2 (by omega) (by omega)) (by decide) fun m1 =>
  ld M.y ![386, 0] S1x512.size (inb2 (by omega) (by omega)) (by decide) fun m2 =>
  dUpTo M (addf (addf m0 m1) m2) 24 le_rfl fun acc =>
  imgStep M hM (rstdVec inv acc) t 0 ht (by omega) <|
  imgStep M hM (rstdVec inv acc) t 1 ht (by omega) <|
  imgStep M hM (rstdVec inv acc) t 2 ht (by omega) k

/-- The loop over the eight rows of the tile, its bounds as the kernel states them. -/
@[reducible] def loop8 : Scf.Loop 32 := ⟨0#32, Scalar.addi 0#32 8#32, 1#32⟩

theorem loop8_trips : loop8.trips = 8 := by decide

/-- The row of trip `t`, as the kernel computes it. -/
abbrev tv (t : ℕ) : ℕ := (Scalar.indexCast (Scf.iv 0#32 1#32 t)).toNat

theorem tv_eq : ∀ t : ℕ, t < 8 → tv t = t := by decide

theorem tv_lt (t : Fin loop8.trips) : tv t.val < 8 := by
  have h : t.val < 8 := loop8_trips ▸ t.isLt
  rw [tv_eq _ h]; exact h

/-- The body: scores, softmax, then the eight rows of the tile. -/
def body (hM : StoreOk M) (inv : F .f32) (hlp : loop8.OK) : Pg F nD τ sig Λ PUnit :=
  scoreUpTo M 6 le_rfl <| laneUpTo M 4 le_rfl <|
  (Scf.Loop.for loop8 hlp PUnit.unit (fun t _ => tripStep M hM inv (tv t.val) (tv_lt t) (pure PUnit.unit)) >>= fun _ => pure PUnit.unit)

end

end I2t

end
-- ==== Proof.Run.lean ====
/-
  What the body does to its buffers, over any of them: the contents of every buffer after each kind of step, as
  functions of the contents before, and the run of the body from held buffers to held buffers.
-/
module

public import proofs.«01_k».proof.Proof.Body
public import Idealize.ShloMosaic.Lib.Pipeline.Kit
public import Idealize.ShloMosaic.Lib.Writes
public import Idealize.ShloMosaic.Lib.Exec

@[expose] public section

noncomputable section

namespace I2t

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

/-- The contents of the buffers. -/
structure Cells (F : FTy → Type) where
  k : S1x6x80x192.Idx → Elt F .bf16
  v : S8x192x384.Idx → Elt F .bf16
  q : S1152x512.Idx → Elt F .bf16
  w : S400x192.Idx → Elt F .bf16
  so : S384x128.Idx → Elt F .f32
  x : S384x512.Idx → Elt F .f32
  g : S384x128.Idx → Elt F .f32
  b : S384x128.Idx → Elt F .f32
  img : S8x512x384.Idx → Elt F .bf16
  oc : S8x512x192.Idx → Elt F .fp8e4m3
  os : S8x6x512.Idx → Elt F .f32
  s : S4x480x128.Idx → Elt F .f32
  p : S4x512x128.Idx → Elt F .f32
  y : S400x512.Idx → Elt F .f32

/-! ## The contents after each step -/

section
variable {F : FTy → Type} [FloatOps F]

/-- The scores of head pair `n`. -/
def scoreOf (σ : Cells F) (n : ℕ) (hn : n < 6) : FVec F S80x512 .f32 :=
  scoreVec (window σ.k ![0, n, 0, 0] S1x1x80x192.size (inb4 (by omega) (by omega) (by omega) (by omega)))
    (window σ.q ![n * 192, 0] S192x512.size (inb2 (by omega) (by omega)))

def scoreSet (sc : FVec F S80x512 .f32) (l n : ℕ) (hl : l < 4) (σ : Cells F) : Cells F :=
  { σ with s := put σ.s ![l, n * 80, 0] S1x80x128.size (scoreLane sc l hl) }

def scoreSt (n : ℕ) (hn : n < 6) (σ : Cells F) : Cells F :=
  scoreSet (scoreOf σ n hn) 3 n (by omega) (scoreSet (scoreOf σ n hn) 2 n (by omega)
    (scoreSet (scoreOf σ n hn) 1 n (by omega) (scoreSet (scoreOf σ n hn) 0 n (by omega) σ)))

def scoresSt : (n : ℕ) → n ≤ 6 → Cells F → Cells F
  | 0, _, σ => σ
  | n + 1, h, σ => scoreSt n h (scoresSt n (by omega) σ)

/-- Eight rows of the score scratch. -/
def sRow (σ : Cells F) (l r : ℕ) (hl : l < 4) (hr : r + 8 ≤ 480) : Vec F S1x8x128 .f32 :=
  window σ.s ![l, r, 0] S1x8x128.size (inb_sm hl hr)

/-- The largest score of head `n` on lane tile `l`, and one over the sum of the exponentials. -/
def smM (σ : Cells F) (l n : ℕ) (hl : l < 4) (hn : n < 12) : FVec F S8x128 .f32 :=
  smMax (sRow σ l (n * 40) hl (by omega)) (sRow σ l (n * 40 + 8) hl (by omega)) (sRow σ l (n * 40 + 16) hl (by omega))
    (sRow σ l (n * 40 + 24) hl (by omega)) (sRow σ l (n * 40 + 32) hl (by omega))
def smR (σ : Cells F) (l n : ℕ) (hl : l < 4) (hn : n < 12) : FVec F S8x128 .f32 :=
  smRec (smExp (sRow σ l (n * 40) hl (by omega)) (smM σ l n hl hn)) (smExp (sRow σ l (n * 40 + 8) hl (by omega)) (smM σ l n hl hn))
    (smExp (sRow σ l (n * 40 + 16) hl (by omega)) (smM σ l n hl hn)) (smExp (sRow σ l (n * 40 + 24) hl (by omega)) (smM σ l n hl hn))
    (smExp (sRow σ l (n * 40 + 32) hl (by omega)) (smM σ l n hl hn))

def smSet (l r : ℕ) (w : FVec F S1x8x128 .f32) (σ : Cells F) : Cells F :=
  { σ with p := put σ.p ![l, r, 0] S1x8x128.size w }

/-- The five probability blocks of a head. -/
def smW (σ : Cells F) (l n : ℕ) (hl : l < 4) (hn : n < 12) (r : ℕ) (hr : r + 8 ≤ 480) : FVec F S1x8x128 .f32 :=
  smOut (smExp (sRow σ l r hl hr) (smM σ l n hl hn)) (smR σ l n hl hn)

def smSt (l n : ℕ) (hl : l < 4) (hn : n < 12) (σ : Cells F) : Cells F :=
  smSet l (n * 40 + 32) (smW σ l n hl hn (n * 40 + 32) (by omega)) <|
  smSet l (n * 40 + 24) (smW σ l n hl hn (n * 40 + 24) (by omega)) <|
  smSet l (n * 40 + 16) (smW σ l n hl hn (n * 40 + 16) (by omega)) <|
  smSet l (n * 40 + 8) (smW σ l n hl hn (n * 40 + 8) (by omega)) <|
  smSet l (n * 40) (smW σ l n hl hn (n * 40) (by omega)) σ

def smsSt (l : ℕ) (hl : l < 4) : (n : ℕ) → n ≤ 12 → Cells F → Cells F
  | 0, _, σ => σ
  | n + 1, h, σ => smSt l n hl h (smsSt l hl n (by omega) σ)

def zeroSet (l : ℕ) (σ : Cells F) : Cells F :=
  { σ with p := put σ.p ![l, 480, 0] S1x32x128.size (zeroRows (F := F)) }

def laneSt (l : ℕ) (hl : l < 4) (σ : Cells F) : Cells F := zeroSet l (smsSt l hl 12 le_rfl σ)

def lanesSt : (n : ℕ) → n ≤ 4 → Cells F → Cells F
  | 0, _, σ => σ
  | n + 1, h, σ => laneSt n h (lanesSt n (by omega) σ)

/-- The centred rows of step `j`, over what the projection buffer holds. -/
def dOf (mu : FVec F S1x512 .f32) (j : ℕ) (hj : j < 24) (σ : Cells F) : FVec F S16x512 .f32 :=
  dVec mu (window σ.y ![j * 16, 0] S16x512.size (inb_y hj)) (window σ.so ![j * 16, 0] S16x128.size (inb_g hj))
    (window σ.x ![j * 16, 0] S16x512.size (inb_x hj))

def dSet (mu : FVec F S1x512 .f32) (j : ℕ) (hj : j < 24) (σ : Cells F) : Cells F :=
  { σ with y := put σ.y ![j * 16, 0] S16x512.size (dOut (dOf mu j hj σ)) }

/-- The buffers and the running sum of squares after the first `n` centring steps. -/
def dsSt (mu : FVec F S1x512 .f32) : (n : ℕ) → n ≤ 24 → Cells F → Cells F × FVec F S16x512 .f32
  | 0, _, σ => (σ, broadcast S16x512 (Scalar.ofBits .f32 0x00000000#32))
  | n + 1, h, σ =>
    (dSet mu n h (dsSt mu n (by omega) σ).1,
      addf (dsSt mu n (by omega) σ).2 (mulf (dOf mu n h (dsSt mu n (by omega) σ).1) (dOf mu n h (dsSt mu n (by omega) σ).1)))

def zOf (rstd : FVec F S1x512 .f32) (j : ℕ) (hj : j < 24) (σ : Cells F) : FVec F S16x512 .bf16 :=
  zVec rstd (window σ.y ![j * 16, 0] S16x512.size (inb_y hj)) (window σ.g ![j * 16, 0] S16x128.size (inb_g hj))
    (window σ.b ![j * 16, 0] S16x128.size (inb_g hj))

def imgSet (rstd : FVec F S1x512 .f32) (t c : ℕ) (ht : t < 8) (hc : c < 3) (σ : Cells F) : Cells F :=
  { σ with
    img := put σ.img ![t, 0, c * 128] S1x512x128.size
      (imgOut (zOf rstd (c * 8) (by omega) σ) (zOf rstd (c * 8 + 1) (by omega) σ) (zOf rstd (c * 8 + 2) (by omega) σ) (zOf rstd (c * 8 + 3) (by omega) σ)
        (zOf rstd (c * 8 + 4) (by omega) σ) (zOf rstd (c * 8 + 5) (by omega) σ) (zOf rstd (c * 8 + 6) (by omega) σ) (zOf rstd (c * 8 + 7) (by omega) σ)) }

/-- The probabilities the strided loads read: rows `t, t + 8, …` of one lane tile. -/
def pRow (σ : Cells F) (l t : ℕ) (hl : l < 4) (ht : t < 8) : Vec F S1x64x128 .f32 := fun y => σ.p ((pRect l t hl ht).idx y)

/-- The attention output of row `t`. -/
def outOf (σ : Cells F) (t : ℕ) (ht : t < 8) : FVec F S6x32x512 .f32 :=
  outVec (probVec (pRow σ 0 t (by omega) ht) (pRow σ 1 t (by omega) ht) (pRow σ 2 t (by omega) ht) (pRow σ 3 t (by omega) ht))
    (window σ.v ![t, 0, 0] S1x192x384.size (inb3 (by omega) (by omega) (by omega)))

def expOf (o : FVec F S6x32x512 .f32) : IVec S6x1x512 32 := expFix (expVec (ratioVec o))

/-- The buffers once row `t`'s codes, scales and projection are stored. -/
def headSt (o : FVec F S6x32x512 .f32) (t : ℕ) (σ : Cells F) : Cells F :=
  { σ with
    os := put σ.os ![t, 0, 0] S1x6x512.size (scaleOut (scaleVec (F := F) (expOf o)))
    oc := put σ.oc ![t, 0, 0] S1x512x192.size (codeOut (codeVec o (invVec (expOf o))))
    y := put σ.y ![0, 0] S400x512.size (projVec (window σ.w ![0, 0] S400x192.size (inb2 (by omega) (by omega)))
      (wideVec (codeVec o (invVec (expOf o))) (scaleVec (expOf o)))) }

/-- The mean row: the last three rows of the projection. -/
def muOf (σ : Cells F) : FVec F S1x512 .f32 :=
  addf (addf (window σ.y ![384, 0] S1x512.size (inb2 (by omega) (by omega))) (window σ.y ![385, 0] S1x512.size (inb2 (by omega) (by omega))))
    (window σ.y ![386, 0] S1x512.size (inb2 (by omega) (by omega)))

def tailSt (inv : F .f32) (t : ℕ) (ht : t < 8) (σ : Cells F) : Cells F :=
  imgSet (rstdVec inv (dsSt (muOf σ) 24 le_rfl σ).2) t 2 ht (by omega) <|
  imgSet (rstdVec inv (dsSt (muOf σ) 24 le_rfl σ).2) t 1 ht (by omega) <|
  imgSet (rstdVec inv (dsSt (muOf σ) 24 le_rfl σ).2) t 0 ht (by omega) (dsSt (muOf σ) 24 le_rfl σ).1

def tripSt (inv : F .f32) (t : ℕ) (ht : t < 8) (σ : Cells F) : Cells F :=
  tailSt inv t ht (headSt (outOf σ t ht) t σ)

def tripsSt (inv : F .f32) : (n : ℕ) → n ≤ 8 → Cells F → Cells F
  | 0, _, σ => σ
  | n + 1, h, σ => tripSt inv n h (tripsSt inv n (by omega) σ)

def bodySt (inv : F .f32) (σ : Cells F) : Cells F :=
  tripsSt inv 8 le_rfl (lanesSt 4 le_rfl (scoresSt 6 le_rfl σ))

end

/-! ## The run -/

section
variable {F : FTy → Type} [FloatOps F] {nD : Nat} {τ : Topo} {sig : RefSig} {Λ : Labels}
variable {U : Type} [URA U]

local notation "𝕄" => MT nD τ sig Unit (Elt F) ℕ U ℕ

section Own
variable (c : Dev nD) (M : Refs sig) (R : sProp (MT nD τ sig Unit (Elt F) ℕ U ℕ)) (σ : Cells F)

/-- A buffer held at contents reading `x`. -/
abbrev held {sp : Space} {s : Shape} {e : EltTy} (m : Memref sig .tc sp s e) (x : s.Idx → Elt F e) : sProp 𝕄 :=
  owns (c : Thread nD τ) m fullShare x

/-- All the buffers held, at `σ`. -/
def own (c : Dev nD) (M : Refs sig) (R : sProp 𝕄) (σ : Cells F) : sProp 𝕄 :=
  iprop(held c M.k σ.k ∗ held c M.v σ.v ∗ held c M.q σ.q ∗ held c M.w σ.w ∗ held c M.so σ.so ∗ held c M.x σ.x ∗ held c M.g σ.g
    ∗ held c M.b σ.b ∗ held c M.img σ.img ∗ held c M.oc σ.oc ∗ held c M.os σ.os ∗ held c M.s σ.s ∗ held c M.p σ.p ∗ held c M.y σ.y ∗ R)

theorem ld_k : own c M R σ ⊢ (iprop(held c M.k σ.k ∗ (held c M.k σ.k -∗ own c M R σ)) : sProp 𝕄) := by
  unfold own
  iintro ⟨H0, H⟩
  isplitl [H0]; · iexact H0
  iintro H0
  iframe
theorem ld_v : own c M R σ ⊢ (iprop(held c M.v σ.v ∗ (held c M.v σ.v -∗ own c M R σ)) : sProp 𝕄) := by
  unfold own
  iintro ⟨H0, H1, H⟩
  isplitl [H1]; · iexact H1
  iintro H1
  iframe
theorem ld_q : own c M R σ ⊢ (iprop(held c M.q σ.q ∗ (held c M.q σ.q -∗ own c M R σ)) : sProp 𝕄) := by
  unfold own
  iintro ⟨H0, H1, H2, H⟩
  isplitl [H2]; · iexact H2
  iintro H2
  iframe
theorem ld_w : own c M R σ ⊢ (iprop(held c M.w σ.w ∗ (held c M.w σ.w -∗ own c M R σ)) : sProp 𝕄) := by
  unfold own
  iintro ⟨H0, H1, H2, H3, H⟩
  isplitl [H3]; · iexact H3
  iintro H3
  iframe
theorem ld_so : own c M R σ ⊢ (iprop(held c M.so σ.so ∗ (held c M.so σ.so -∗ own c M R σ)) : sProp 𝕄) := by
  unfold own
  iintro ⟨H0, H1, H2, H3, H4, H⟩
  isplitl [H4]; · iexact H4
  iintro H4
  iframe
theorem ld_x : own c M R σ ⊢ (iprop(held c M.x σ.x ∗ (held c M.x σ.x -∗ own c M R σ)) : sProp 𝕄) := by
  unfold own
  iintro ⟨H0, H1, H2, H3, H4, H5, H⟩
  isplitl [H5]; · iexact H5
  iintro H5
  iframe
theorem ld_g : own c M R σ ⊢ (iprop(held c M.g σ.g ∗ (held c M.g σ.g -∗ own c M R σ)) : sProp 𝕄) := by
  unfold own
  iintro ⟨H0, H1, H2, H3, H4, H5, H6, H⟩
  isplitl [H6]; · iexact H6
  iintro H6
  iframe
theorem ld_b : own c M R σ ⊢ (iprop(held c M.b σ.b ∗ (held c M.b σ.b -∗ own c M R σ)) : sProp 𝕄) := by
  unfold own
  iintro ⟨H0, H1, H2, H3, H4, H5, H6, H7, H⟩
  isplitl [H7]; · iexact H7
  iintro H7
  iframe
theorem ld_img : own c M R σ ⊢ (iprop(held c M.img σ.img ∗ (held c M.img σ.img -∗ own c M R σ)) : sProp 𝕄) := by
  unfold own
  iintro ⟨H0, H1, H2, H3, H4, H5, H6, H7, H8, H⟩
  isplitl [H8]; · iexact H8
  iintro H8
  iframe
theorem st_img : own c M R σ ⊢ (iprop(held c M.img σ.img ∗ (∀ z, held c M.img z -∗ own c M R { σ with img := z })) : sProp 𝕄) := by
  unfold own
  iintro ⟨H0, H1, H2, H3, H4, H5, H6, H7, H8, H⟩
  isplitl [H8]; · iexact H8
  iintro %z H8
  iframe
theorem ld_oc : own c M R σ ⊢ (iprop(held c M.oc σ.oc ∗ (held c M.oc σ.oc -∗ own c M R σ)) : sProp 𝕄) := by
  unfold own
  iintro ⟨H0, H1, H2, H3, H4, H5, H6, H7, H8, H9, H⟩
  isplitl [H9]; · iexact H9
  iintro H9
  iframe
theorem st_oc : own c M R σ ⊢ (iprop(held c M.oc σ.oc ∗ (∀ z, held c M.oc z -∗ own c M R { σ with oc := z })) : sProp 𝕄) := by
  unfold own
  iintro ⟨H0, H1, H2, H3, H4, H5, H6, H7, H8, H9, H⟩
  isplitl [H9]; · iexact H9
  iintro %z H9
  iframe
theorem ld_os : own c M R σ ⊢ (iprop(held c M.os σ.os ∗ (held c M.os σ.os -∗ own c M R σ)) : sProp 𝕄) := by
  unfold own
  iintro ⟨H0, H1, H2, H3, H4, H5, H6, H7, H8, H9, H10, H⟩
  isplitl [H10]; · iexact H10
  iintro H10
  iframe
theorem st_os : own c M R σ ⊢ (iprop(held c M.os σ.os ∗ (∀ z, held c M.os z -∗ own c M R { σ with os := z })) : sProp 𝕄) := by
  unfold own
  iintro ⟨H0, H1, H2, H3, H4, H5, H6, H7, H8, H9, H10, H⟩
  isplitl [H10]; · iexact H10
  iintro %z H10
  iframe
theorem ld_s : own c M R σ ⊢ (iprop(held c M.s σ.s ∗ (held c M.s σ.s -∗ own c M R σ)) : sProp 𝕄) := by
  unfold own
  iintro ⟨H0, H1, H2, H3, H4, H5, H6, H7, H8, H9, H10, H11, H⟩
  isplitl [H11]; · iexact H11
  iintro H11
  iframe
theorem st_s : own c M R σ ⊢ (iprop(held c M.s σ.s ∗ (∀ z, held c M.s z -∗ own c M R { σ with s := z })) : sProp 𝕄) := by
  unfold own
  iintro ⟨H0, H1, H2, H3, H4, H5, H6, H7, H8, H9, H10, H11, H⟩
  isplitl [H11]; · iexact H11
  iintro %z H11
  iframe
theorem ld_p : own c M R σ ⊢ (iprop(held c M.p σ.p ∗ (held c M.p σ.p -∗ own c M R σ)) : sProp 𝕄) := by
  unfold own
  iintro ⟨H0, H1, H2, H3, H4, H5, H6, H7, H8, H9, H10, H11, H12, H⟩
  isplitl [H12]; · iexact H12
  iintro H12
  iframe
theorem st_p : own c M R σ ⊢ (iprop(held c M.p σ.p ∗ (∀ z, held c M.p z -∗ own c M R { σ with p := z })) : sProp 𝕄) := by
  unfold own
  iintro ⟨H0, H1, H2, H3, H4, H5, H6, H7, H8, H9, H10, H11, H12, H⟩
  isplitl [H12]; · iexact H12
  iintro %z H12
  iframe
theorem ld_y : own c M R σ ⊢ (iprop(held c M.y σ.y ∗ (held c M.y σ.y -∗ own c M R σ)) : sProp 𝕄) := by
  unfold own
  iintro ⟨H0, H1, H2, H3, H4, H5, H6, H7, H8, H9, H10, H11, H12, H13, H⟩
  isplitl [H13]; · iexact H13
  iintro H13
  iframe
theorem st_y : own c M R σ ⊢ (iprop(held c M.y σ.y ∗ (∀ z, held c M.y z -∗ own c M R { σ with y := z })) : sProp 𝕄) := by
  unfold own
  iintro ⟨H0, H1, H2, H3, H4, H5, H6, H7, H8, H9, H10, H11, H12, H13, H⟩
  isplitl [H13]; · iexact H13
  iintro %z H13
  iframe

end Own

section Rules
variable {defs : Defs nD τ sig (Elt F) Λ} {𝒱 : Variants} {c : Dev nD} {bd : Option 𝒱.V} {E : Set ℕ} {α : Type}
variable {Q : α → sProp (MT nD τ sig Unit (Elt F) ℕ U ℕ)} {P : sProp (MT nD τ sig Unit (Elt F) ℕ U ℕ)}
variable {s : Shape} {e : EltTy} {P' : (s.Idx → Elt F e) → sProp (MT nD τ sig Unit (Elt F) ℕ U ℕ)} {m : Memref sig .tc .vmem s e} {x : s.Idx → Elt F e}

/-- A load through any box: the program goes on at what the box reads of the contents. -/
theorem load_of {r : LoadRect s} {hl : m.view.LoadsAt r} {k : (r.shape.Idx → Elt F e) → Pg F nD τ sig Λ α}
    (hP : P ⊢ iprop(held c m x ∗ (held c m x -∗ P)))
    (h : P ⊢ wp frame (wpE defs 𝒱 (c : Thread nD τ) bd) E (k (fun y => x (r.idx y))) Q) :
    P ⊢ wp frame (wpE defs 𝒱 (c : Thread nD τ) bd) E (.op (.load m r hl) k) Q := by
  refine hP.trans ?_
  unfold held owns
  iintro ⟨⟨%f, %hf, H⟩, HP⟩
  iapply (wp_load 𝒱 (c : Thread nD τ) bd E (S := m.view.set) (f := f) (m.view.setOn_subset_set r.set)) $$ H
  iintro H
  have hr : m.view.readAt (Elt F) r f = fun y => x (r.idx y) := by subst hf; rfl
  rw [hr]
  iapply h
  iapply HP
  iexists f
  isplitr; · ipureintro; exact hf
  iexact H

/-- A load of a window. -/
theorem ld_of {off size : Fin s.rank → ℕ} {inb : ∀ a, off a + size a ≤ s.size a} {hl : m.view.LoadsAt (Rect.unit off size inb).toLoadRect}
    {k : ((Rect.unit off size inb).shape.Idx → Elt F e) → Pg F nD τ sig Λ α}
    (hP : P ⊢ iprop(held c m x ∗ (held c m x -∗ P)))
    (h : P ⊢ wp frame (wpE defs 𝒱 (c : Thread nD τ) bd) E (k (window x off size inb)) Q) :
    P ⊢ wp frame (wpE defs 𝒱 (c : Thread nD τ) bd) E (.op (.load m (Rect.unit off size inb).toLoadRect hl) k) Q :=
  load_of hP h

/-- A store to a window: the payload is put there. -/
theorem st_of {off size : Fin s.rank → ℕ} {inb : ∀ a, off a + size a ≤ s.size a} {w : (Rect.unit off size inb).shape.Idx → Elt F e}
    {hs : (m.access (Rect.unit off size inb)).Stores Finset.univ} {k : PUnit → Pg F nD τ sig Λ α}
    (hP : P ⊢ iprop(held c m x ∗ (∀ z, held c m z -∗ P' z)))
    (h : P' (put x off size w) ⊢ wp frame (wpE defs 𝒱 (c : Thread nD τ) bd) E (k ⟨⟩) Q) :
    P ⊢ wp frame (wpE defs 𝒱 (c : Thread nD τ) bd) E (st m off size inb w hs k) Q := by
  refine hP.trans ?_
  unfold held owns
  iintro ⟨⟨%f, %hf, H⟩, HP⟩
  iapply (wp_store_writes₀ 𝒱 (c : Thread nD τ) bd E (S := m.view.set) (f := f) (View.set_slice_subset _ (Rect.unit off size inb))) $$ H
  iintro H
  iapply h
  iapply HP $$ %(put x off size w)
  iexists (m.view.writes (Elt F) f [⟨Rect.unit off size inb, w⟩])
  isplitr
  · ipureintro
    rw [View.read_writes_cons_put m.view f inb w [] rfl, View.writes_nil, hf]
  iexact H

end Rules

/-! ### The steps -/

section Steps
variable {defs : Defs nD τ sig (Elt F) Λ} {𝒱 : Variants} {c : Dev nD} {bd : Option 𝒱.V} {E : Set ℕ} {α : Type}
variable {Q : α → sProp (MT nD τ sig Unit (Elt F) ℕ U ℕ)} {M : Refs sig} {R : sProp (MT nD τ sig Unit (Elt F) ℕ U ℕ)} {σ : Cells F}

theorem scoreStore_run {sc : FVec F S80x512 .f32} {l n : ℕ} {hl : l < 4} {hn : n < 6} {k : Pg F nD τ sig Λ α}
    (h : own c M R (scoreSet sc l n hl σ) ⊢ wp frame (wpE defs 𝒱 (c : Thread nD τ) bd) E k Q) :
    own c M R σ ⊢ wp frame (wpE defs 𝒱 (c : Thread nD τ) bd) E (scoreStore M sc l n hl hn k) Q :=
  ld_of (ld_s c M R σ) (st_of (st_s c M R σ) h)

theorem scoreStep_run {n : ℕ} {hn : n < 6} {k : Pg F nD τ sig Λ α}
    (h : own c M R (scoreSt n hn σ) ⊢ wp frame (wpE defs 𝒱 (c : Thread nD τ) bd) E k Q) :
    own c M R σ ⊢ wp frame (wpE defs 𝒱 (c : Thread nD τ) bd) E (scoreStep M n hn k) Q :=
  ld_of (ld_k c M R σ) (ld_of (ld_q c M R σ)
    (scoreStore_run (scoreStore_run (scoreStore_run (scoreStore_run h)))))

theorem scoreUpTo_run {n : ℕ} : ∀ {hn : n ≤ 6} {k : Pg F nD τ sig Λ α}
    (h : own c M R (scoresSt n hn σ) ⊢ wp frame (wpE defs 𝒱 (c : Thread nD τ) bd) E k Q),
    own c M R σ ⊢ wp frame (wpE defs 𝒱 (c : Thread nD τ) bd) E (scoreUpTo M n hn k) Q := by
  induction n with
  | zero => exact fun h => h
  | succ n ih => exact fun h => ih (scoreStep_run h)

theorem smStore_run {l r : ℕ} {hl : l < 4} {hr : r + 8 ≤ 512} {w : FVec F S1x8x128 .f32} {k : Pg F nD τ sig Λ α}
    (h : own c M R (smSet l r w σ) ⊢ wp frame (wpE defs 𝒱 (c : Thread nD τ) bd) E k Q) :
    own c M R σ ⊢ wp frame (wpE defs 𝒱 (c : Thread nD τ) bd) E (smStore M l r hl hr w k) Q :=
  ld_of (ld_p c M R σ) (st_of (st_p c M R σ) h)

theorem smStep_run {l n : ℕ} {hl : l < 4} {hn : n < 12} {k : Pg F nD τ sig Λ α}
    (h : own c M R (smSt l n hl hn σ) ⊢ wp frame (wpE defs 𝒱 (c : Thread nD τ) bd) E k Q) :
    own c M R σ ⊢ wp frame (wpE defs 𝒱 (c : Thread nD τ) bd) E (smStep M l n hl hn k) Q :=
  ld_of (ld_s c M R σ) (ld_of (ld_s c M R σ) (ld_of (ld_s c M R σ)
    (ld_of (ld_s c M R σ) (ld_of (ld_s c M R σ)
      (smStore_run (smStore_run (smStore_run (smStore_run (smStore_run h)))))))))

theorem smUpTo_run {l : ℕ} {hl : l < 4} {n : ℕ} : ∀ {hn : n ≤ 12} {k : Pg F nD τ sig Λ α}
    (h : own c M R (smsSt l hl n hn σ) ⊢ wp frame (wpE defs 𝒱 (c : Thread nD τ) bd) E k Q),
    own c M R σ ⊢ wp frame (wpE defs 𝒱 (c : Thread nD τ) bd) E (smUpTo M l hl n hn k) Q := by
  induction n with
  | zero => exact fun h => h
  | succ n ih => exact fun h => ih (smStep_run h)

theorem laneStep_run {l : ℕ} {hl : l < 4} {k : Pg F nD τ sig Λ α}
    (h : own c M R (laneSt l hl σ) ⊢ wp frame (wpE defs 𝒱 (c : Thread nD τ) bd) E k Q) :
    own c M R σ ⊢ wp frame (wpE defs 𝒱 (c : Thread nD τ) bd) E (laneStep M l hl k) Q :=
  smUpTo_run (ld_of (ld_p c M R _) (st_of (st_p c M R _) h))

theorem laneUpTo_run {n : ℕ} : ∀ {hn : n ≤ 4} {k : Pg F nD τ sig Λ α}
    (h : own c M R (lanesSt n hn σ) ⊢ wp frame (wpE defs 𝒱 (c : Thread nD τ) bd) E k Q),
    own c M R σ ⊢ wp frame (wpE defs 𝒱 (c : Thread nD τ) bd) E (laneUpTo M n hn k) Q := by
  induction n with
  | zero => exact fun h => h
  | succ n ih => exact fun h => ih (laneStep_run h)

theorem dStep_run {mu : FVec F S1x512 .f32} {j : ℕ} {hj : j < 24} {acc : FVec F S16x512 .f32} {k : FVec F S16x512 .f32 → Pg F nD τ sig Λ α}
    (h : own c M R (dSet mu j hj σ) ⊢ wp frame (wpE defs 𝒱 (c : Thread nD τ) bd) E (k (addf acc (mulf (dOf mu j hj σ) (dOf mu j hj σ)))) Q) :
    own c M R σ ⊢ wp frame (wpE defs 𝒱 (c : Thread nD τ) bd) E (dStep M mu j hj acc k) Q :=
  ld_of (ld_y c M R σ) (ld_of (ld_so c M R σ) (ld_of (ld_x c M R σ)
    (ld_of (ld_y c M R σ) (st_of (st_y c M R σ) h))))

theorem dUpTo_run {mu : FVec F S1x512 .f32} {n : ℕ} : ∀ {hn : n ≤ 24} {k : FVec F S16x512 .f32 → Pg F nD τ sig Λ α}
    (h : own c M R (dsSt mu n hn σ).1 ⊢ wp frame (wpE defs 𝒱 (c : Thread nD τ) bd) E (k (dsSt mu n hn σ).2) Q),
    own c M R σ ⊢ wp frame (wpE defs 𝒱 (c : Thread nD τ) bd) E (dUpTo M mu n hn k) Q := by
  induction n with
  | zero => exact fun h => h
  | succ n ih => exact fun h => ih (dStep_run h)

theorem zStep_run {rstd : FVec F S1x512 .f32} {j : ℕ} {hj : j < 24} {k : FVec F S16x512 .bf16 → Pg F nD τ sig Λ α}
    (h : own c M R σ ⊢ wp frame (wpE defs 𝒱 (c : Thread nD τ) bd) E (k (zOf rstd j hj σ)) Q) :
    own c M R σ ⊢ wp frame (wpE defs 𝒱 (c : Thread nD τ) bd) E (zStep M rstd j hj k) Q :=
  ld_of (ld_y c M R σ) (ld_of (ld_g c M R σ) (ld_of (ld_b c M R σ) h))

theorem imgStep_run {hM : StoreOk M} {rstd : FVec F S1x512 .f32} {t d : ℕ} {ht : t < 8} {hd : d < 3} {k : Pg F nD τ sig Λ α}
    (h : own c M R (imgSet rstd t d ht hd σ) ⊢ wp frame (wpE defs 𝒱 (c : Thread nD τ) bd) E k Q) :
    own c M R σ ⊢ wp frame (wpE defs 𝒱 (c : Thread nD τ) bd) E (imgStep M hM rstd t d ht hd k) Q :=
  zStep_run (zStep_run (zStep_run (zStep_run (zStep_run (zStep_run (zStep_run (zStep_run
    (ld_of (ld_img c M R σ) (st_of (st_img c M R σ) h)))))))))

theorem tripStep_run {hM : StoreOk M} {inv : F .f32} {t : ℕ} {ht : t < 8} {k : Pg F nD τ sig Λ α}
    (h : own c M R (tripSt inv t ht σ) ⊢ wp frame (wpE defs 𝒱 (c : Thread nD τ) bd) E k Q) :
    own c M R σ ⊢ wp frame (wpE defs 𝒱 (c : Thread nD τ) bd) E (tripStep M hM inv t ht k) Q :=
  load_of (ld_p c M R σ) (load_of (ld_p c M R σ) (load_of (ld_p c M R σ) (load_of (ld_p c M R σ)
    (ld_of (ld_v c M R σ)
      (ld_of (ld_os c M R _) (st_of (st_os c M R _)
        (ld_of (ld_oc c M R _) (st_of (st_oc c M R _)
          (ld_of (ld_w c M R _) (ld_of (ld_y c M R _) (st_of (st_y c M R _)
            (ld_of (ld_y c M R _) (ld_of (ld_y c M R _) (ld_of (ld_y c M R _)
              (dUpTo_run (imgStep_run (imgStep_run (imgStep_run h))))))))))))))))))

/-- The body runs, and leaves the buffers at `bodySt` of what they held. -/
theorem body_run {hM : StoreOk M} {inv : F .f32} {hlp : loop8.OK} {Q : PUnit → sProp (MT nD τ sig Unit (Elt F) ℕ U ℕ)}
    (h : own c M R (bodySt inv σ) ⊢ Q ⟨⟩) :
    own c M R σ ⊢ wp frame (wpE defs 𝒱 (c : Thread nD τ) bd) E (body M hM inv hlp) Q := by
  refine scoreUpTo_run (laneUpTo_run ?_)
  have key := Scf.wp_for_bind frame (wpE defs 𝒱 (c : Thread nD τ) bd) E loop8.lb loop8.ub loop8.st hlp PUnit.unit
    (fun t _ => tripStep M hM inv (tv t.val) (tv_lt t) (pure PUnit.unit))
    (fun n _ => iprop(∃ h : n ≤ 8, own c M R (tripsSt inv n h (lanesSt 4 le_rfl (scoresSt 6 le_rfl σ)))))
    (by
      intro t _
      iintro ⟨%hn, H⟩
      have ht : t.val < 8 := loop8_trips ▸ t.isLt
      iapply (tripStep_run (M := M) (R := R) (hM := hM) (inv := inv) ?_) $$ H
      rw [wp_pure]
      iintro H
      iexists ht
      have e : tripSt inv (tv t.val) (tv_lt t) (tripsSt inv t.val hn (lanesSt 4 le_rfl (scoresSt 6 le_rfl σ)))
          = tripsSt inv (t.val + 1) ht (lanesSt 4 le_rfl (scoresSt 6 le_rfl σ)) := by
        show _ = tripSt inv t.val ht _
        congr 1
        exact tv_eq _ ht
      rw [e]
      iexact H) (kk := fun _ => pure PUnit.unit) (Q := Q)
  iintro H
  iapply key $$ [H]
  · iexists (Nat.zero_le 8)
    iexact H
  iintro %acc ⟨%hn, H⟩
  have e : ∀ (n : ℕ) (hn : n ≤ 8) (_ : n = 8) (ρ : Cells F), tripsSt inv n hn ρ = tripsSt inv 8 le_rfl ρ := by
    rintro _ _ rfl _; rfl
  rw [e _ _ loop8_trips, wp_pure]
  imodintro
  iapply h
  iexact H

end Steps

end

end I2t

end
-- ==== Proof.Final.lean ====
/-
  What the body leaves in its three result buffers, as functions of the eight input buffers alone: the scratch
  buffers are overwritten before they are read, so that nothing of what they held at entry remains.
-/
module

public import proofs.«01_k».proof.Proof.Run
public import Idealize.ShloMosaic.Lib.ValueIdxCore

@[expose] public section

noncomputable section

namespace I2t

open Idealize.ShloMosaic
open Idealize.ShloMosaic.VecWindow
open Idealize.ShloMosaic.ValueIdx (ix2 ix3 ix4 eq_ix2 eq_ix3)

/-! ## A put over a rank-three vector, at an index -/

theorem put3_in {α : Type} {t0 t1 t2 o0 o1 o2 s0 s1 s2 : ℕ} (x : (⟨3, ![t0, t1, t2]⟩ : Shape).Idx → α)
    (w : (⟨3, ![s0, s1, s2]⟩ : Shape).Idx → α) (y : (⟨3, ![t0, t1, t2]⟩ : Shape).Idx)
    (h0 : o0 ≤ (y 0).val ∧ (y 0).val < o0 + s0) (h1 : o1 ≤ (y 1).val ∧ (y 1).val < o1 + s1) (h2 : o2 ≤ (y 2).val ∧ (y 2).val < o2 + s2) :
    put (s := ⟨3, ![t0, t1, t2]⟩) x ![o0, o1, o2] ![s0, s1, s2] w y
      = w (ix3 ⟨(y 0).val - o0, by omega⟩ ⟨(y 1).val - o1, by omega⟩ ⟨(y 2).val - o2, by omega⟩) := by
  have h : ∀ a : Fin 3, (![o0, o1, o2] : Fin 3 → ℕ) a ≤ (y a).val ∧ (y a).val < (![o0, o1, o2] : Fin 3 → ℕ) a + (![s0, s1, s2] : Fin 3 → ℕ) a := by
    intro a; fin_cases a
    · exact h0
    · exact h1
    · exact h2
  refine (dif_pos h).trans (congrArg w ?_)
  funext a
  fin_cases a <;> rfl

theorem put3_out {α : Type} {t0 t1 t2 o0 o1 o2 s0 s1 s2 : ℕ} (x : (⟨3, ![t0, t1, t2]⟩ : Shape).Idx → α)
    (w : (⟨3, ![s0, s1, s2]⟩ : Shape).Idx → α) (y : (⟨3, ![t0, t1, t2]⟩ : Shape).Idx)
    (h : ¬ ((o0 ≤ (y 0).val ∧ (y 0).val < o0 + s0) ∧ (o1 ≤ (y 1).val ∧ (y 1).val < o1 + s1) ∧ (o2 ≤ (y 2).val ∧ (y 2).val < o2 + s2))) :
    put (s := ⟨3, ![t0, t1, t2]⟩) x ![o0, o1, o2] ![s0, s1, s2] w y = x y := by
  refine dif_neg fun h' => h ⟨h' 0, h' 1, h' 2⟩

section
variable {F : FTy → Type} [FloatOps F]

/-! ## The scores -/

/-- The score scratch once all head pairs are in. -/
def sFin (σ : Cells F) : S4x480x128.Idx → Elt F .f32 := fun y =>
  scoreLane (scoreOf σ ((y 1).val / 80) (by have : (y 1).val < 480 := (y 1).isLt; omega)) (y 0).val (y 0).isLt
    (ix3 (0 : Fin 1) ⟨(y 1).val % 80, Nat.mod_lt _ (by decide)⟩ (y 2))

theorem scoreSet_at (sc : FVec F S80x512 .f32) (l n : ℕ) (hl : l < 4) (hn : n < 6) (σ : Cells F) (y : S4x480x128.Idx) :
    (scoreSet sc l n hl σ).s y = if (y 0).val = l ∧ (y 1).val / 80 = n then
      scoreLane sc (y 0).val (y 0).isLt (ix3 (0 : Fin 1) ⟨(y 1).val % 80, Nat.mod_lt _ (by decide)⟩ (y 2)) else σ.s y := by
  have b2 : (y 2).val < 128 := (y 2).isLt
  split
  · next h =>
    obtain ⟨rfl, rfl⟩ := h
    refine (put3_in (o0 := (y 0).val) (o1 := (y 1).val / 80 * 80) (o2 := 0) (s0 := 1) (s1 := 80) (s2 := 128) σ.s _ y (by omega) (by omega) (by omega)).trans ?_
    congr 1
    funext a
    fin_cases a
    · exact Fin.ext (by show (y 0).val - (y 0).val = 0; omega)
    · exact Fin.ext (by show (y 1).val - (y 1).val / 80 * 80 = (y 1).val % 80; omega)
    · rfl
  · next h => exact put3_out (o0 := l) (o1 := n * 80) (o2 := 0) (s0 := 1) (s1 := 80) (s2 := 128) σ.s (scoreLane sc l hl) y (by omega)

theorem scoreSet_s (sc : FVec F S80x512 .f32) (l n : ℕ) (hl : l < 4) {σ τ : Cells F} (h : ∃ z, τ = { σ with s := z }) :
    ∃ z, scoreSet sc l n hl τ = { σ with s := z } := by
  obtain ⟨z, rfl⟩ := h
  exact ⟨_, rfl⟩

theorem scoreSt_eq (n : ℕ) (hn : n < 6) (σ : Cells F) :
    scoreSt n hn σ = { σ with s := fun y => if (y 1).val / 80 = n then sFin σ y else σ.s y } := by
  obtain ⟨z, h⟩ : ∃ z, scoreSt n hn σ = { σ with s := z } :=
    scoreSet_s _ 3 n _ (scoreSet_s _ 2 n _ (scoreSet_s _ 1 n _ (scoreSet_s _ 0 n _ ⟨σ.s, rfl⟩)))
  have hs : (scoreSt n hn σ).s = fun y => if (y 1).val / 80 = n then sFin σ y else σ.s y := by
    funext y
    unfold scoreSt
    rw [scoreSet_at _ 3 n (by omega) hn, scoreSet_at _ 2 n (by omega) hn, scoreSet_at _ 1 n (by omega) hn, scoreSet_at _ 0 n (by omega) hn]
    have b0 : (y 0).val < 4 := (y 0).isLt
    by_cases hy : (y 1).val / 80 = n
    · subst hy
      unfold sFin
      simp only [and_true, if_true]
      split_ifs <;> first | rfl | omega
    · simp only [hy, and_false, if_false]
  rw [h] at hs ⊢
  exact congrArg (fun z => ({ σ with s := z } : Cells F)) hs

theorem scoresSt_eq (n : ℕ) (hn : n ≤ 6) (σ : Cells F) :
    scoresSt n hn σ = { σ with s := fun y => if (y 1).val < n * 80 then sFin σ y else σ.s y } := by
  induction n with
  | zero => simp [scoresSt]
  | succ n ih =>
    show scoreSt n hn (scoresSt n _ σ) = _
    rw [ih, scoreSt_eq]
    have e : ∀ z, sFin ({ σ with s := z } : Cells F) = sFin σ := fun _ => rfl
    rw [e]
    refine congrArg (fun z => ({ σ with s := z } : Cells F)) (funext fun y => ?_)
    dsimp only
    split_ifs <;> first | rfl | omega

theorem scores_eq (σ : Cells F) : scoresSt 6 le_rfl σ = { σ with s := sFin σ } := by
  rw [scoresSt_eq]
  refine congrArg (fun z => ({ σ with s := z } : Cells F)) (funext fun y => if_pos ?_)
  exact (y 1).isLt

/-! ## The probabilities -/

/-- The probability scratch once all heads are in. -/
def pFin (σ : Cells F) : S4x512x128.Idx → Elt F .f32 := fun y =>
  if h : (y 1).val < 480 then
    smW σ (y 0).val ((y 1).val / 40) (y 0).isLt (by omega) ((y 1).val / 8 * 8) (by omega)
      (ix3 (0 : Fin 1) ⟨(y 1).val % 8, Nat.mod_lt _ (by decide)⟩ (y 2))
  else zeroRows (F := F) (ix3 (0 : Fin 1) ⟨(y 1).val - 480, by have : (y 1).val < 512 := (y 1).isLt; omega⟩ (y 2))

theorem smSet_at (l n r : ℕ) (hl : l < 4) (hn : n < 12) (i : ℕ) (hi : i < 5) (hr : n * 40 + i * 8 = r) (σ τ : Cells F)
    (y : S4x512x128.Idx) :
    (smSet l r (smW σ l n hl hn r (by omega)) τ).p y = if (y 0).val = l ∧ (y 1).val / 8 = n * 5 + i then pFin σ y else τ.p y := by
  have b2 : (y 2).val < 128 := (y 2).isLt
  split
  · next h =>
    obtain ⟨rfl, h⟩ := h
    have en : n = (y 1).val / 40 := by omega
    have er : r = (y 1).val / 8 * 8 := by omega
    subst en er
    refine (put3_in (o0 := (y 0).val) (o1 := (y 1).val / 8 * 8) (o2 := 0) (s0 := 1) (s1 := 8) (s2 := 128) τ.p _ y (by omega) (by omega) (by omega)).trans ?_
    unfold pFin
    rw [dif_pos (by omega)]
    congr 1
    funext a
    fin_cases a
    · exact Fin.ext (by show (y 0).val - (y 0).val = 0; omega)
    · exact Fin.ext (by show (y 1).val - (y 1).val / 8 * 8 = (y 1).val % 8; omega)
    · rfl
  · next h => exact put3_out (o0 := l) (o1 := r) (o2 := 0) (s0 := 1) (s1 := 8) (s2 := 128) τ.p (smW σ l n hl hn r (by omega)) y (by omega)

theorem smSet_p (l r : ℕ) (w : FVec F S1x8x128 .f32) {σ τ : Cells F} (h : ∃ z, τ = { σ with p := z }) :
    ∃ z, smSet l r w τ = { σ with p := z } := by
  obtain ⟨z, rfl⟩ := h
  exact ⟨_, rfl⟩

theorem smSt_eq (l n : ℕ) (hl : l < 4) (hn : n < 12) (σ : Cells F) :
    smSt l n hl hn σ = { σ with p := fun y => if (y 0).val = l ∧ (y 1).val / 40 = n then pFin σ y else σ.p y } := by
  obtain ⟨z, h⟩ : ∃ z, smSt l n hl hn σ = { σ with p := z } :=
    smSet_p l _ _ (smSet_p l _ _ (smSet_p l _ _ (smSet_p l _ _ (smSet_p l _ _ ⟨σ.p, rfl⟩))))
  have hs : (smSt l n hl hn σ).p = fun y => if (y 0).val = l ∧ (y 1).val / 40 = n then pFin σ y else σ.p y := by
    funext y
    unfold smSt
    rw [smSet_at l n (n * 40 + 32) hl hn 4 (by omega) (by omega) σ, smSet_at l n (n * 40 + 24) hl hn 3 (by omega) (by omega) σ,
      smSet_at l n (n * 40 + 16) hl hn 2 (by omega) (by omega) σ, smSet_at l n (n * 40 + 8) hl hn 1 (by omega) (by omega) σ,
      smSet_at l n (n * 40) hl hn 0 (by omega) (by omega) σ]
    split_ifs <;> first | rfl | omega
  rw [h] at hs ⊢
  exact congrArg (fun z => ({ σ with p := z } : Cells F)) hs

theorem smsSt_eq (l : ℕ) (hl : l < 4) (n : ℕ) (hn : n ≤ 12) (σ : Cells F) :
    smsSt l hl n hn σ = { σ with p := fun y => if (y 0).val = l ∧ (y 1).val < n * 40 then pFin σ y else σ.p y } := by
  induction n with
  | zero => simp [smsSt]
  | succ n ih =>
    show smSt l n hl hn (smsSt l hl n _ σ) = _
    rw [ih, smSt_eq]
    have e : ∀ z, pFin ({ σ with p := z } : Cells F) = pFin σ := fun _ => rfl
    rw [e]
    refine congrArg (fun z => ({ σ with p := z } : Cells F)) (funext fun y => ?_)
    dsimp only
    split_ifs <;> first | rfl | omega

theorem lanesSt_eq (n : ℕ) (hn : n ≤ 4) (σ : Cells F) :
    lanesSt n hn σ = { σ with p := fun y => if (y 0).val < n then pFin σ y else σ.p y } := by
  induction n with
  | zero => simp [lanesSt]
  | succ n ih =>
    show laneSt n hn (lanesSt n _ σ) = _
    rw [ih]
    unfold laneSt
    rw [smsSt_eq]
    refine congrArg (fun z => ({ σ with p := z } : Cells F)) (funext fun y => ?_)
    have b0 : (y 0).val < 4 := (y 0).isLt
    have b1 : (y 1).val < 512 := (y 1).isLt
    have b2 : (y 2).val < 128 := (y 2).isLt
    have e : ∀ z, pFin ({ σ with p := z } : Cells F) = pFin σ := fun _ => rfl
    by_cases hy : (y 0).val = n ∧ 480 ≤ (y 1).val
    · obtain ⟨rfl, h⟩ := hy
      refine (put3_in _ _ y (by omega) (by omega) (by omega)).trans ?_
      rw [if_pos (by omega)]
      unfold pFin
      rw [dif_neg (by omega)]
      congr 1
      funext a
      fin_cases a
      · exact Fin.ext (by show (y 0).val - (y 0).val = 0; omega)
      · rfl
      · rfl
    · refine (put3_out _ _ y (by omega)).trans ?_
      rw [e]
      dsimp only
      split_ifs <;> first | rfl | omega

theorem lanes_eq (σ : Cells F) : lanesSt 4 le_rfl σ = { σ with p := pFin σ } := by
  rw [lanesSt_eq]
  refine congrArg (fun z => ({ σ with p := z } : Cells F)) (funext fun y => if_pos ?_)
  exact (y 0).isLt

/-! ## The centring steps -/

/-- The running sum of squares after `n` steps. -/
def accS (mu : FVec F S1x512 .f32) (σ : Cells F) : (n : ℕ) → n ≤ 24 → FVec F S16x512 .f32
  | 0, _ => broadcast S16x512 (Scalar.ofBits .f32 0x00000000#32)
  | n + 1, h => addf (accS mu σ n (by omega)) (mulf (dOf mu n h σ) (dOf mu n h σ))

theorem dsSt_spec (mu : FVec F S1x512 .f32) (n : ℕ) (hn : n ≤ 24) (σ : Cells F) :
    (dsSt mu n hn σ).1 = { σ with y := (dsSt mu n hn σ).1.y } ∧ (dsSt mu n hn σ).2 = accS mu σ n hn
      ∧ ∀ j (hj : j < 24), window (dsSt mu n hn σ).1.y ![j * 16, 0] S16x512.size (inb_y hj)
        = if j < n then dOut (dOf mu j hj σ) else window σ.y ![j * 16, 0] S16x512.size (inb_y hj) := by
  induction n with
  | zero => exact ⟨rfl, rfl, fun j hj => rfl⟩
  | succ n ih =>
    obtain ⟨h1, h2, h3⟩ := ih (by omega)
    have hd : dOf mu n hn (dsSt mu n (by omega) σ).1 = dOf mu n hn σ := by
      have hw := h3 n hn
      rw [if_neg (by omega)] at hw
      rw [h1]
      unfold dOf
      exact congrArg (fun z => dVec mu z (window σ.so ![n * 16, 0] S16x128.size (inb_g hn)) (window σ.x ![n * 16, 0] S16x512.size (inb_x hn))) hw
    refine ⟨?_, ?_, fun j hj => ?_⟩
    · show dSet mu n hn (dsSt mu n _ σ).1 = { σ with y := (dSet mu n hn (dsSt mu n _ σ).1).y }
      conv_lhs => rw [h1]
      conv_rhs => rw [h1]
      rfl
    · show addf (dsSt mu n _ σ).2 _ = addf _ _
      rw [h2, hd]
    · show window (put (dsSt mu n _ σ).1.y ![n * 16, 0] S16x512.size (dOut (dOf mu n hn (dsSt mu n _ σ).1))) _ _ _ = _
      rw [hd]
      by_cases hjn : j = n
      · subst hjn
        rw [if_pos (by omega)]
        exact window_put_same _ _ _ _ _
      · have hne : j * 16 + 16 ≤ n * 16 ∨ n * 16 + 16 ≤ j * 16 := by omega
        refine (window_put_of_disjoint _ _ _ _ _ _ _ (0 : Fin 2) hne).trans ((h3 j hj).trans ?_)
        by_cases h : j < n
        · rw [if_pos h, if_pos (by omega)]
        · rw [if_neg h, if_neg (by omega)]

/-! ## One row of the tile -/

/-- The projection of row `t`. -/
def yOf (σ : Cells F) (t : ℕ) (ht : t < 8) : FVec F S400x512 .f32 :=
  projVec (window σ.w ![0, 0] S400x192.size (inb2 (by omega) (by omega)))
    (wideVec (codeVec (outOf σ t ht) (invVec (expOf (outOf σ t ht)))) (scaleVec (expOf (outOf σ t ht))))

/-- The buffers with row `t`'s projection in the projection buffer. -/
def proj (σ : Cells F) (t : ℕ) (ht : t < 8) : Cells F := { σ with y := yOf σ t ht }

/-- Sixteen rows of the image of row `t`. -/
def zFin (inv : F .f32) (σ : Cells F) (t : ℕ) (ht : t < 8) (j : ℕ) (hj : j < 24) : FVec F S16x512 .bf16 :=
  zVec (rstdVec inv (accS (muOf (proj σ t ht)) (proj σ t ht) 24 le_rfl)) (dOut (dOf (muOf (proj σ t ht)) j hj (proj σ t ht)))
    (window σ.g ![j * 16, 0] S16x128.size (inb_g hj)) (window σ.b ![j * 16, 0] S16x128.size (inb_g hj))

/-- A third of the image of row `t`. -/
def imgRow (inv : F .f32) (σ : Cells F) (t : ℕ) (ht : t < 8) (c : ℕ) (hc : c < 3) : FVec F S1x512x128 .bf16 :=
  imgOut (zFin inv σ t ht (c * 8) (by omega)) (zFin inv σ t ht (c * 8 + 1) (by omega)) (zFin inv σ t ht (c * 8 + 2) (by omega)) (zFin inv σ t ht (c * 8 + 3) (by omega))
    (zFin inv σ t ht (c * 8 + 4) (by omega)) (zFin inv σ t ht (c * 8 + 5) (by omega)) (zFin inv σ t ht (c * 8 + 6) (by omega)) (zFin inv σ t ht (c * 8 + 7) (by omega))

def osRow (σ : Cells F) (t : ℕ) (ht : t < 8) : FVec F S1x6x512 .f32 := scaleOut (scaleVec (F := F) (expOf (outOf σ t ht)))
def ocRow (σ : Cells F) (t : ℕ) (ht : t < 8) : FVec F S1x512x192 .fp8e4m3 := codeOut (codeVec (outOf σ t ht) (invVec (expOf (outOf σ t ht))))

theorem put_full (x w : S400x512.Idx → Elt F .f32) : put x ![0, 0] S400x512.size w = w := by
  funext y
  have h : ∀ a : Fin 2, (![0, 0] : Fin 2 → ℕ) a ≤ (y a).val ∧ (y a).val < (![0, 0] : Fin 2 → ℕ) a + S400x512.size a := by
    intro a
    have := (y a).isLt
    have e : (![0, 0] : Fin 2 → ℕ) a = 0 := by fin_cases a <;> rfl
    rw [e]; omega
  refine (dif_pos h).trans (congrArg w ?_)
  funext a
  fin_cases a <;> rfl

theorem headSt_eq (σ : Cells F) (t : ℕ) (ht : t < 8) :
    headSt (outOf σ t ht) t σ = { proj σ t ht with
      os := put σ.os ![t, 0, 0] S1x6x512.size (osRow σ t ht)
      oc := put σ.oc ![t, 0, 0] S1x512x192.size (ocRow σ t ht) } := by
  unfold headSt proj
  rw [put_full]
  rfl

/-- A third of a row's image, from the buffers as they stand. -/
def imgPart (rstd : FVec F S1x512 .f32) (σ : Cells F) (c : ℕ) (hc : c < 3) : FVec F S1x512x128 .bf16 :=
  imgOut (zOf rstd (c * 8) (by omega) σ) (zOf rstd (c * 8 + 1) (by omega) σ) (zOf rstd (c * 8 + 2) (by omega) σ) (zOf rstd (c * 8 + 3) (by omega) σ)
    (zOf rstd (c * 8 + 4) (by omega) σ) (zOf rstd (c * 8 + 5) (by omega) σ) (zOf rstd (c * 8 + 6) (by omega) σ) (zOf rstd (c * 8 + 7) (by omega) σ)

theorem imgs_eq (rstd : FVec F S1x512 .f32) (t : ℕ) (ht : t < 8) (τ : Cells F) :
    imgSet rstd t 2 ht (by omega) (imgSet rstd t 1 ht (by omega) (imgSet rstd t 0 ht (by omega) τ)) = { τ with
      img := put (put (put τ.img ![t, 0, 0 * 128] S1x512x128.size (imgPart rstd τ 0 (by omega)))
        ![t, 0, 1 * 128] S1x512x128.size (imgPart rstd τ 1 (by omega))) ![t, 0, 2 * 128] S1x512x128.size (imgPart rstd τ 2 (by omega)) } := rfl

theorem accS_congr {mu : FVec F S1x512 .f32} {σ τ : Cells F} (h : ∀ j hj, dOf mu j hj σ = dOf mu j hj τ) (n : ℕ) (hn : n ≤ 24) :
    accS mu σ n hn = accS mu τ n hn := by
  induction n with
  | zero => rfl
  | succ n ih => show addf (accS mu σ n _) _ = addf _ _; rw [ih, h]

theorem imgPart_eq (inv : F .f32) (σ ρ τ : Cells F) (t : ℕ) (ht : t < 8) (acc : FVec F S16x512 .f32)
    (hρ : ρ.y = yOf σ t ht ∧ ρ.so = σ.so ∧ ρ.x = σ.x) (hg : τ.g = σ.g ∧ τ.b = σ.b)
    (ha : acc = accS (muOf ρ) ρ 24 le_rfl)
    (hw : ∀ j (hj : j < 24), window τ.y ![j * 16, 0] S16x512.size (inb_y hj) = dOut (dOf (muOf ρ) j hj ρ)) (c : ℕ) (hc : c < 3) :
    imgPart (rstdVec inv acc) τ c hc = imgRow inv σ t ht c hc := by
  have hmu : muOf ρ = muOf (proj σ t ht) := by
    unfold muOf; rw [hρ.1]; rfl
  have hd : ∀ mu j hj, dOf mu j hj ρ = dOf mu j hj (proj σ t ht) := by
    intro mu j hj
    unfold dOf
    rw [hρ.1, hρ.2.1, hρ.2.2]; rfl
  have hz : ∀ j (hj : j < 24), zOf (rstdVec inv acc) j hj τ = zFin inv σ t ht j hj := by
    intro j hj
    unfold zOf zFin
    rw [hw j hj, ha, hmu, accS_congr (hd _), hd, hg.1, hg.2]
  unfold imgPart imgRow
  simp only [hz]

theorem tripSt_eq (inv : F .f32) (σ : Cells F) (t : ℕ) (ht : t < 8) :
    tripSt inv t ht σ = { σ with
      os := put σ.os ![t, 0, 0] S1x6x512.size (osRow σ t ht)
      oc := put σ.oc ![t, 0, 0] S1x512x192.size (ocRow σ t ht)
      y := (tripSt inv t ht σ).y
      img := put (put (put σ.img ![t, 0, 0 * 128] S1x512x128.size (imgRow inv σ t ht 0 (by omega)))
        ![t, 0, 1 * 128] S1x512x128.size (imgRow inv σ t ht 1 (by omega))) ![t, 0, 2 * 128] S1x512x128.size (imgRow inv σ t ht 2 (by omega)) } := by
  unfold tripSt tailSt
  rw [headSt_eq]
  obtain ⟨ρ, hρ⟩ : ∃ ρ : Cells F, ρ = { proj σ t ht with
      os := put σ.os ![t, 0, 0] S1x6x512.size (osRow σ t ht)
      oc := put σ.oc ![t, 0, 0] S1x512x192.size (ocRow σ t ht) } := ⟨_, rfl⟩
  rw [← hρ]
  obtain ⟨h1, h2, h3⟩ := dsSt_spec (muOf ρ) 24 le_rfl ρ
  generalize (dsSt (muOf ρ) 24 le_rfl ρ).2 = acc at *
  generalize (dsSt (muOf ρ) 24 le_rfl ρ).1 = τ at *
  have hp := imgPart_eq inv σ ρ τ t ht acc (by rw [hρ]; exact ⟨rfl, rfl, rfl⟩) (by rw [h1, hρ]; exact ⟨rfl, rfl⟩) h2
    (fun j hj => (h3 j hj).trans (if_pos hj))
  rw [imgs_eq, hp, hp, hp]
  have e : τ.img = σ.img := by rw [h1, hρ]; rfl
  rw [e]
  generalize put (put (put σ.img ![t, 0, 0 * 128] S1x512x128.size (imgRow inv σ t ht 0 (by omega)))
        ![t, 0, 1 * 128] S1x512x128.size (imgRow inv σ t ht 1 (by omega))) ![t, 0, 2 * 128] S1x512x128.size (imgRow inv σ t ht 2 (by omega)) = im
  generalize hY : τ.y = Y at *
  subst hρ
  rw [h1]
  rfl

/-! ## The whole body -/

/-- The scales. -/
def osFin (σ : Cells F) : S8x6x512.Idx → Elt F .f32 := fun y => osRow σ (y 0).val (y 0).isLt (ix3 (0 : Fin 1) (y 1) (y 2))
/-- The codes. -/
def ocFin (σ : Cells F) : S8x512x192.Idx → Elt F .fp8e4m3 := fun y => ocRow σ (y 0).val (y 0).isLt (ix3 (0 : Fin 1) (y 1) (y 2))
/-- The image. -/
def imgFin (inv : F .f32) (σ : Cells F) : S8x512x384.Idx → Elt F .bf16 := fun y =>
  imgRow inv σ (y 0).val (y 0).isLt ((y 2).val / 128) (by have : (y 2).val < 384 := (y 2).isLt; omega)
    (ix3 (0 : Fin 1) (y 1) ⟨(y 2).val % 128, Nat.mod_lt _ (by decide)⟩)

theorem put_img_at (inv : F .f32) (σ : Cells F) (t : ℕ) (ht : t < 8) (c : ℕ) (hc : c < 3) (x : S8x512x384.Idx → Elt F .bf16) (y : S8x512x384.Idx) :
    put x ![t, 0, c * 128] S1x512x128.size (imgRow inv σ t ht c hc) y
      = if (y 0).val = t ∧ (y 2).val / 128 = c then imgFin inv σ y else x y := by
  have b1 : (y 1).val < 512 := (y 1).isLt
  split
  · next h =>
    obtain ⟨rfl, rfl⟩ := h
    refine (put3_in x _ y (by omega) (by omega) (by omega)).trans ?_
    unfold imgFin
    congr 1
    funext a
    fin_cases a
    · exact Fin.ext (by show (y 0).val - (y 0).val = 0; omega)
    · rfl
    · exact Fin.ext (by show (y 2).val - (y 2).val / 128 * 128 = (y 2).val % 128; omega)
  · next h => exact put3_out x _ y (by omega)

theorem put_imgs_at (inv : F .f32) (σ : Cells F) (t : ℕ) (ht : t < 8) (x : S8x512x384.Idx → Elt F .bf16) (y : S8x512x384.Idx) :
    put (put (put x ![t, 0, 0 * 128] S1x512x128.size (imgRow inv σ t ht 0 (by omega)))
        ![t, 0, 1 * 128] S1x512x128.size (imgRow inv σ t ht 1 (by omega))) ![t, 0, 2 * 128] S1x512x128.size (imgRow inv σ t ht 2 (by omega)) y
      = if (y 0).val = t then imgFin inv σ y else x y := by
  have b2 : (y 2).val < 384 := (y 2).isLt
  rw [put_img_at inv σ t ht 2 (by omega), put_img_at inv σ t ht 1 (by omega), put_img_at inv σ t ht 0 (by omega)]
  split_ifs <;> first | rfl | omega

theorem put_os_at (σ : Cells F) (t : ℕ) (ht : t < 8) (x : S8x6x512.Idx → Elt F .f32) (y : S8x6x512.Idx) :
    put x ![t, 0, 0] S1x6x512.size (osRow σ t ht) y = if (y 0).val = t then osFin σ y else x y := by
  have b1 : (y 1).val < 6 := (y 1).isLt
  have b2 : (y 2).val < 512 := (y 2).isLt
  split
  · next h =>
    subst h
    refine (put3_in x _ y (by omega) (by omega) (by omega)).trans ?_
    unfold osFin
    congr 1
    funext a
    fin_cases a
    · exact Fin.ext (by show (y 0).val - (y 0).val = 0; omega)
    · rfl
    · rfl
  · next h => exact put3_out x _ y (by omega)

theorem put_oc_at (σ : Cells F) (t : ℕ) (ht : t < 8) (x : S8x512x192.Idx → Elt F .fp8e4m3) (y : S8x512x192.Idx) :
    put x ![t, 0, 0] S1x512x192.size (ocRow σ t ht) y = if (y 0).val = t then ocFin σ y else x y := by
  have b1 : (y 1).val < 512 := (y 1).isLt
  have b2 : (y 2).val < 192 := (y 2).isLt
  split
  · next h =>
    subst h
    refine (put3_in x _ y (by omega) (by omega) (by omega)).trans ?_
    unfold ocFin
    congr 1
    funext a
    fin_cases a
    · exact Fin.ext (by show (y 0).val - (y 0).val = 0; omega)
    · rfl
    · rfl
  · next h => exact put3_out x _ y (by omega)

theorem tripsSt_eq (inv : F .f32) (n : ℕ) (hn : n ≤ 8) (σ : Cells F) :
    tripsSt inv n hn σ = { σ with
      os := fun y => if (y 0).val < n then osFin σ y else σ.os y
      oc := fun y => if (y 0).val < n then ocFin σ y else σ.oc y
      y := (tripsSt inv n hn σ).y
      img := fun y => if (y 0).val < n then imgFin inv σ y else σ.img y } := by
  induction n with
  | zero => simp [tripsSt]
  | succ n ih =>
    have h := ih (by omega)
    show tripSt inv n hn (tripsSt inv n _ σ) = _
    refine (tripSt_eq inv (tripsSt inv n _ σ) n hn).trans ?_
    have hY : (tripsSt inv (n + 1) hn σ).y = (tripSt inv n hn (tripsSt inv n (by omega) σ)).y := rfl
    rw [hY]
    generalize (tripSt inv n hn (tripsSt inv n (by omega) σ)).y = Y
    rw [h]
    generalize (tripsSt inv n (by omega) σ).y = Y'
    refine (show ∀ (a a' : S8x6x512.Idx → Elt F .f32) (b b' : S8x512x192.Idx → Elt F .fp8e4m3) (c c' : S8x512x384.Idx → Elt F .bf16), a = a' → b = b' → c = c' →
      ({ σ with os := a, oc := b, y := Y, img := c } : Cells F) = { σ with os := a', oc := b', y := Y, img := c' } from
      by rintro _ _ _ _ _ _ rfl rfl rfl; rfl) _ _ _ _ _ _ (funext fun y => ?_) (funext fun y => ?_) (funext fun y => ?_)
    · refine (put_os_at σ n hn _ y).trans ?_
      dsimp only
      split_ifs <;> first | rfl | omega
    · refine (put_oc_at σ n hn _ y).trans ?_
      dsimp only
      split_ifs <;> first | rfl | omega
    · refine (put_imgs_at inv σ n hn _ y).trans ?_
      dsimp only
      split_ifs <;> first | rfl | omega

/-- The input buffers' contents, the others' put aside. -/
structure Ins (F : FTy → Type) where
  k : S1x6x80x192.Idx → Elt F .bf16
  v : S8x192x384.Idx → Elt F .bf16
  q : S1152x512.Idx → Elt F .bf16
  w : S400x192.Idx → Elt F .bf16
  so : S384x128.Idx → Elt F .f32
  x : S384x512.Idx → Elt F .f32
  g : S384x128.Idx → Elt F .f32
  b : S384x128.Idx → Elt F .f32

def z8 : F .f32 := Scalar.ofBits .f32 0x00000000#32

/-- Buffers with these inputs, the score and the probability scratch as the body fills them. -/
def Ins.cells0 (I : Ins F) : Cells F :=
  { k := I.k, v := I.v, q := I.q, w := I.w, so := I.so, x := I.x, g := I.g, b := I.b
    img := fun _ => FloatOps.ofBits .bf16 0#16, oc := fun _ => FloatOps.ofBits .fp8e4m3 0#8, os := fun _ => z8
    s := fun _ => z8, p := fun _ => z8, y := fun _ => z8 }
def Ins.cells1 (I : Ins F) : Cells F := { I.cells0 with s := sFin I.cells0 }
def Ins.cells (I : Ins F) : Cells F := { I.cells1 with p := pFin I.cells1 }

def Cells.ins (σ : Cells F) : Ins F := ⟨σ.k, σ.v, σ.q, σ.w, σ.so, σ.x, σ.g, σ.b⟩

/-- The body's buffers at the end: inputs as they were, results as functions of the inputs. -/
theorem bodySt_eq (inv : F .f32) (σ : Cells F) :
    bodySt inv σ = { σ with
      os := osFin σ.ins.cells
      oc := ocFin σ.ins.cells
      img := imgFin inv σ.ins.cells
      s := (bodySt inv σ).s
      p := (bodySt inv σ).p
      y := (bodySt inv σ).y } := by
  unfold bodySt
  rw [scores_eq, lanes_eq, tripsSt_eq]
  refine (show ∀ (a a' : S8x6x512.Idx → Elt F .f32) (b b' : S8x512x192.Idx → Elt F .fp8e4m3) (c c' : S8x512x384.Idx → Elt F .bf16) S P Y, a = a' → b = b' → c = c' →
      ({ σ with os := a, oc := b, y := Y, img := c, s := S, p := P } : Cells F) = { σ with os := a', oc := b', y := Y, img := c', s := S, p := P } from
      by rintro _ _ _ _ _ _ _ _ _ rfl rfl rfl; rfl) _ _ _ _ _ _ _ _ _ (funext fun y => ?_) (funext fun y => ?_) (funext fun y => ?_)
  · exact if_pos (y 0).isLt
  · exact if_pos (y 0).isLt
  · exact if_pos (y 0).isLt

end

section Triple
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {nD : Nat} {τ : Topo} {sig : RefSig} {Λ : Labels} {U : Type} [URA U]
variable {defs : Defs nD τ sig (Elt F) Λ} {𝒱 : Variants} {c : Dev nD} {bd : Option 𝒱.V} {E : Set ℕ}
variable {M : Refs sig} {R : sProp (MT nD τ sig Unit (Elt F) ℕ U ℕ)}

local notation "𝕄" => MT nD τ sig Unit (Elt F) ℕ U ℕ

/-- The body from held buffers to held buffers: inputs kept, results at their values, scratch at something. -/
theorem body_triple {hM : StoreOk M} {inv : F .f32} {hlp : loop8.OK} (vk : S1x6x80x192.Idx → Elt F .bf16) (vv : S8x192x384.Idx → Elt F .bf16) (vq : S1152x512.Idx → Elt F .bf16) (vw : S400x192.Idx → Elt F .bf16) (vso : S384x128.Idx → Elt F .f32) (vx : S384x512.Idx → Elt F .f32) (vg : S384x128.Idx → Elt F .f32) (vb : S384x128.Idx → Elt F .f32) (vimg : S8x512x384.Idx → Elt F .bf16) (voc : S8x512x192.Idx → Elt F .fp8e4m3) (vos : S8x6x512.Idx → Elt F .f32) (vs : S4x480x128.Idx → Elt F .f32) (vp : S4x512x128.Idx → Elt F .f32) (vy : S400x512.Idx → Elt F .f32) :
    (iprop(held c M.k vk ∗ held c M.v vv ∗ held c M.q vq ∗ held c M.w vw ∗ held c M.so vso ∗ held c M.x vx ∗ held c M.g vg ∗ held c M.b vb ∗ held c M.img vimg ∗ held c M.oc voc ∗ held c M.os vos ∗ held c M.s vs ∗ held c M.p vp ∗ held c M.y vy ∗ R) : sProp 𝕄) ⊢ wp frame (wpE defs 𝒱 (c : Thread nD τ) bd) E (body M hM inv hlp) (fun _ => iprop(held c M.k vk ∗ held c M.v vv ∗ held c M.q vq ∗ held c M.w vw ∗ held c M.so vso ∗ held c M.x vx ∗ held c M.g vg ∗ held c M.b vb ∗ held c M.img (imgFin inv (Ins.cells ⟨vk, vv, vq, vw, vso, vx, vg, vb⟩)) ∗ held c M.oc (ocFin (Ins.cells ⟨vk, vv, vq, vw, vso, vx, vg, vb⟩)) ∗ held c M.os (osFin (Ins.cells ⟨vk, vv, vq, vw, vso, vx, vg, vb⟩)) ∗ (∃ z, held c M.s z) ∗ (∃ z, held c M.p z) ∗ (∃ z, held c M.y z) ∗ R)) := by
  refine (show (iprop(held c M.k vk ∗ held c M.v vv ∗ held c M.q vq ∗ held c M.w vw ∗ held c M.so vso ∗ held c M.x vx ∗ held c M.g vg ∗ held c M.b vb ∗ held c M.img vimg ∗ held c M.oc voc ∗ held c M.os vos ∗ held c M.s vs ∗ held c M.p vp ∗ held c M.y vy ∗ R) : sProp 𝕄) ⊢ own c M R ⟨vk, vv, vq, vw, vso, vx, vg, vb, vimg, voc, vos, vs, vp, vy⟩ from .rfl).trans (body_run ?_)
  rw [bodySt_eq]
  unfold own
  iintro ⟨H0, H1, H2, H3, H4, H5, H6, H7, H8, H9, H10, H11, H12, H13, HR⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iexact HR

end Triple

end I2t

end
-- ==== Proof.EqKernel.lean ====
module
public import proofs.«01_k».proof.Proof.Body
public import proofs.«01_k».proof.Proof.Gen.Kernel.Skeleton
@[expose] public section
set_option maxRecDepth 100000
set_option maxHeartbeats 0
noncomputable section
namespace Cert.Kernel.Hand
open Idealize.ShloMosaic Idealize.SL.Sem Cert.Kernel.Gen
variable {F : FTy → Type} [FloatOps F]

abbrev refs (arg2 : Memref sig .tc .vmem S1x6x80x192 .bf16) (harg2 : arg2.IsWhole) (arg3 : Memref sig .tc .vmem S8x192x384 .bf16) (harg3 : arg3.IsWhole) (arg4 : Memref sig .tc .vmem S1152x512 .bf16) (harg4 : arg4.IsWhole) (arg5 : Memref sig .tc .vmem S400x192 .bf16) (harg5 : arg5.IsWhole) (arg6 : Memref sig .tc .vmem S384x128 .f32) (harg6 : arg6.IsWhole) (arg7 : Memref sig .tc .vmem S384x512 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S8x512x384 .bf16) (harg10 : arg10.IsWhole) (arg11 : Memref sig .tc .vmem S8x512x192 .fp8e4m3) (harg11 : arg11.IsWhole) (arg12 : Memref sig .tc .vmem S8x6x512 .f32) (harg12 : arg12.IsWhole) (arg13 : Memref sig .tc .vmem S4x480x128 .f32) (harg13 : arg13.IsWhole) (arg14 : Memref sig .tc .vmem S4x512x128 .f32) (harg14 : arg14.IsWhole) (arg15 : Memref sig .tc .vmem S400x512 .f32) (harg15 : arg15.IsWhole) : I2t.Refs sig := ⟨arg2, arg3, arg4, arg5, arg6, arg7, arg8, arg9, arg10, arg11, arg12, arg13, arg14, arg15⟩

theorem body_eq (i : grid0.Coords) (arg2 : Memref sig .tc .vmem S1x6x80x192 .bf16) (harg2 : arg2.IsWhole) (arg3 : Memref sig .tc .vmem S8x192x384 .bf16) (harg3 : arg3.IsWhole) (arg4 : Memref sig .tc .vmem S1152x512 .bf16) (harg4 : arg4.IsWhole) (arg5 : Memref sig .tc .vmem S400x192 .bf16) (harg5 : arg5.IsWhole) (arg6 : Memref sig .tc .vmem S384x128 .f32) (harg6 : arg6.IsWhole) (arg7 : Memref sig .tc .vmem S384x512 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S8x512x384 .bf16) (harg10 : arg10.IsWhole) (arg11 : Memref sig .tc .vmem S8x512x192 .fp8e4m3) (harg11 : arg11.IsWhole) (arg12 : Memref sig .tc .vmem S8x6x512 .f32) (harg12 : arg12.IsWhole) (arg13 : Memref sig .tc .vmem S4x480x128 .f32) (harg13 : arg13.IsWhole) (arg14 : Memref sig .tc .vmem S4x512x128 .f32) (harg14 : arg14.IsWhole) (arg15 : Memref sig .tc .vmem S400x512 .f32) (harg15 : arg15.IsWhole) : cc0_i2t (F := F) i arg2 harg2 arg3 harg3 arg4 harg4 arg5 harg5 arg6 harg6 arg7 harg7 arg8 harg8 arg9 harg9 arg10 harg10 arg11 harg11 arg12 harg12 arg13 harg13 arg14 harg14 arg15 harg15 =
    I2t.body (refs arg2 harg2 arg3 harg3 arg4 harg4 arg5 harg5 arg6 harg6 arg7 harg7 arg8 harg8 arg9 harg9 arg10 harg10 arg11 harg11 arg12 harg12 arg13 harg13 arg14 harg14 arg15 harg15) (I2t.StoreOk.of_whole _ harg10 harg11) (Scalar.ofBits .f32 0x3B2AAAAB#32) (by decide) := by
  rfl
end Cert.Kernel.Hand
-- ==== Proof.FrameKernel.lean ====
/-
  The frame of the kernel: the body run point by point from held buffers to held buffers, the results'
  buffers left at the values `I2t.imgFin`, `I2t.ocFin` and `I2t.osFin` of the point's input blocks.
-/
module

public import proofs.«01_k».proof.Proof.Final
public import proofs.«01_k».proof.Proof.EqKernel
public import proofs.«01_k».proof.Proof.Gen.Kernel.Frame
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One over the number of channels, as this program has it. -/
abbrev invC : F .f32 := Scalar.ofBits .f32 0x3B2AAAAB#32

/-- The input blocks of point `t`. -/
def ins (c : Dev nD) (t : Fin cfg0.N) : I2t.Ins F :=
  ⟨iblk m c 0 t, iblk m c 1 t, iblk m c 2 t, iblk m c 3 t, iblk m c 4 t, iblk m c 5 t, iblk m c 6 t, iblk m c 7 t⟩

/-- The proof data: inputs stay at their blocks, results are left at the body's values of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => I2t.imgFin invC (ins m c t).cells
    | ⟨9, _⟩ => I2t.ocFin (ins m c t).cells
    | ⟨10, _⟩ => I2t.osFin (ins m c t).cells
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = I2t.imgFin invC (ins m c t).cells := by dsimp only [dats]
theorem after0_9 (c : Dev nD) (t : Fin cfg0.N) : (dats m 0 c).after 9 t = I2t.ocFin (ins m c t).cells := by dsimp only [dats]
theorem after0_10 (c : Dev nD) (t : Fin cfg0.N) : (dats m 0 c).after 10 t = I2t.osFin (ins m c t).cells := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body on whole buffers, inputs and results and scratch at anything. -/
theorem kernel_triple (c : Dev nD) (i : grid0.Coords) (arg2 : Memref sig .tc .vmem S1x6x80x192 .bf16) (harg2 : arg2.IsWhole) (arg3 : Memref sig .tc .vmem S8x192x384 .bf16) (harg3 : arg3.IsWhole) (arg4 : Memref sig .tc .vmem S1152x512 .bf16) (harg4 : arg4.IsWhole) (arg5 : Memref sig .tc .vmem S400x192 .bf16) (harg5 : arg5.IsWhole) (arg6 : Memref sig .tc .vmem S384x128 .f32) (harg6 : arg6.IsWhole) (arg7 : Memref sig .tc .vmem S384x512 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S8x512x384 .bf16) (harg10 : arg10.IsWhole) (arg11 : Memref sig .tc .vmem S8x512x192 .fp8e4m3) (harg11 : arg11.IsWhole) (arg12 : Memref sig .tc .vmem S8x6x512 .f32) (harg12 : arg12.IsWhole) (arg13 : Memref sig .tc .vmem S4x480x128 .f32) (harg13 : arg13.IsWhole) (arg14 : Memref sig .tc .vmem S4x512x128 .f32) (harg14 : arg14.IsWhole) (arg15 : Memref sig .tc .vmem S400x512 .f32) (harg15 : arg15.IsWhole)
    (x2 : Vec F S1x6x80x192 .bf16) (x3 : Vec F S8x192x384 .bf16) (x4 : Vec F S1152x512 .bf16) (x5 : Vec F S400x192 .bf16) (x6 : Vec F S384x128 .f32) (x7 : Vec F S384x512 .f32) (x8 : Vec F S384x128 .f32) (x9 : Vec F S384x128 .f32) (x10 : Vec F S8x512x384 .bf16) (x11 : Vec F S8x512x192 .fp8e4m3) (x12 : Vec F S8x6x512 .f32) (x13 : Vec F S4x480x128 .f32) (x14 : Vec F S4x512x128 .f32) (x15 : Vec F S400x512 .f32) (R : sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ R) : sProp 𝕄)
      ⊢ wp frame (wpE (defs₀ (F := F)) Variants.none c none) Set.univ (cc0_i2t i arg2 harg2 arg3 harg3 arg4 harg4 arg5 harg5 arg6 harg6 arg7 harg7 arg8 harg8 arg9 harg9 arg10 harg10 arg11 harg11 arg12 harg12 arg13 harg13 arg14 harg14 arg15 harg15) (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (I2t.imgFin invC (I2t.Ins.cells ⟨x2, x3, x4, x5, x6, x7, x8, x9⟩)) ∗ owns (c : Thread nD τ) arg11 fullShare (I2t.ocFin (I2t.Ins.cells ⟨x2, x3, x4, x5, x6, x7, x8, x9⟩)) ∗ owns (c : Thread nD τ) arg12 fullShare (I2t.osFin (I2t.Ins.cells ⟨x2, x3, x4, x5, x6, x7, x8, x9⟩)) ∗ (∃ z, owns (c : Thread nD τ) arg13 fullShare z) ∗ (∃ z, owns (c : Thread nD τ) arg14 fullShare z) ∗ (∃ z, owns (c : Thread nD τ) arg15 fullShare z) ∗ R)) := by
  rw [body_eq]
  exact I2t.body_triple (F := F) (U := UR sig nD τ) (defs := defs₀ (F := F)) (𝒱 := Variants.none) (c := c) (bd := none) (E := Set.univ) (R := R) (inv := invC) (hM := I2t.StoreOk.of_whole _ harg10 harg11) (hlp := by decide) (M := refs arg2 harg2 arg3 harg3 arg4 harg4 arg5 harg5 arg6 harg6 arg7 harg7 arg8 harg8 arg9 harg9 arg10 harg10 arg11 harg11 arg12 harg12 arg13 harg13 arg14 harg14 arg15 harg15) x2 x3 x4 x5 x6 x7 x8 x9 x10 x11 x12 x13 x14 x15

/-- The scratch buffers, as memrefs. -/
theorem scratch_eq (c : Dev nD) : (Pipeline.scopedRest (Ix := Unit) (Name := ℕ) (U := UR sig nD τ) (Lvl := ℕ) (Val := Elt F) spec0 c : sProp 𝕄)
    = iprop((∃ z, owns (c : Thread nD τ) (Memref.whole cc0_scratch0) fullShare z) ∗ (∃ z, owns (c : Thread nD τ) (Memref.whole cc0_scratch1) fullShare z)
      ∗ (∃ z, owns (c : Thread nD τ) (Memref.whole cc0_scratch2) fullShare z)) := by
  rw [scopedRest0_eq]
  simp only [owns_whole]

theorem kernel_wand (c : Dev nD) (i : grid0.Coords) (arg2 : Memref sig .tc .vmem S1x6x80x192 .bf16) (harg2 : arg2.IsWhole) (arg3 : Memref sig .tc .vmem S8x192x384 .bf16) (harg3 : arg3.IsWhole) (arg4 : Memref sig .tc .vmem S1152x512 .bf16) (harg4 : arg4.IsWhole) (arg5 : Memref sig .tc .vmem S400x192 .bf16) (harg5 : arg5.IsWhole) (arg6 : Memref sig .tc .vmem S384x128 .f32) (harg6 : arg6.IsWhole) (arg7 : Memref sig .tc .vmem S384x512 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S8x512x384 .bf16) (harg10 : arg10.IsWhole) (arg11 : Memref sig .tc .vmem S8x512x192 .fp8e4m3) (harg11 : arg11.IsWhole) (arg12 : Memref sig .tc .vmem S8x6x512 .f32) (harg12 : arg12.IsWhole) (arg13 : Memref sig .tc .vmem S4x480x128 .f32) (harg13 : arg13.IsWhole) (arg14 : Memref sig .tc .vmem S4x512x128 .f32) (harg14 : arg14.IsWhole) (arg15 : Memref sig .tc .vmem S400x512 .f32) (harg15 : arg15.IsWhole)
    (x2 : Vec F S1x6x80x192 .bf16) (x3 : Vec F S8x192x384 .bf16) (x4 : Vec F S1152x512 .bf16) (x5 : Vec F S400x192 .bf16) (x6 : Vec F S384x128 .f32) (x7 : Vec F S384x512 .f32) (x8 : Vec F S384x128 .f32) (x9 : Vec F S384x128 .f32) (x10 : Vec F S8x512x384 .bf16) (x11 : Vec F S8x512x192 .fp8e4m3) (x12 : Vec F S8x6x512 .f32) (x13 : Vec F S4x480x128 .f32) (x14 : Vec F S4x512x128 .f32) (x15 : Vec F S400x512 .f32) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (I2t.imgFin invC (I2t.Ins.cells ⟨x2, x3, x4, x5, x6, x7, x8, x9⟩)) ∗ owns (c : Thread nD τ) arg11 fullShare (I2t.ocFin (I2t.Ins.cells ⟨x2, x3, x4, x5, x6, x7, x8, x9⟩)) ∗ owns (c : Thread nD τ) arg12 fullShare (I2t.osFin (I2t.Ins.cells ⟨x2, x3, x4, x5, x6, x7, x8, x9⟩)) ∗ (∃ z, owns (c : Thread nD τ) arg13 fullShare z) ∗ (∃ z, owns (c : Thread nD τ) arg14 fullShare z) ∗ (∃ z, owns (c : Thread nD τ) arg15 fullShare z)) -∗ K ⟨⟩)) : sProp 𝕄)
      ⊢ wp frame (wpE (defs₀ (F := F)) Variants.none c none) Set.univ (cc0_i2t i arg2 harg2 arg3 harg3 arg4 harg4 arg5 harg5 arg6 harg6 arg7 harg7 arg8 harg8 arg9 harg9 arg10 harg10 arg11 harg11 arg12 harg12 arg13 harg13 arg14 harg14 arg15 harg15) K := by
  refine (kernel_triple c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x13 x14 x15 _).trans (wp_mono _ _ _ fun _ => ?_)
  iintro ⟨H0, H1, H2, H3, H4, H5, H6, H7, H8, H9, H10, S0, S1, S2, HK⟩
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  iexact S2

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10,
    show (dats m 0 c).Φ t.castSucc = Pipeline.ΦA spec0 c from rfl]
  unfold Pipeline.ΦA
  rw [scratch_eq]
  iintro ⟨⟨⟨⟨%f0, S0⟩, ⟨%f1, S1⟩, ⟨%f2, S2⟩⟩, P⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernel_wand c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ f0 f1 f2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  iintro ⟨H0, H1, H2, H3, H4, H5, H6, H7, H8, H9, H10, S0, S1, S2⟩
  isplitl [S0 S1 S2 P]
  · isplitr [P]
    · isplitl [S0]; · iexact S0
      isplitl [S1]; · iexact S1
      iexact S2
    · iexact P
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array of the pipeline as the proof data has it, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.EqKernelIdeal.lean ====
module
public import proofs.«01_k».proof.Proof.Body
public import proofs.«01_k».proof.Proof.Gen.KernelIdeal.Skeleton
@[expose] public section
set_option maxRecDepth 100000
set_option maxHeartbeats 0
noncomputable section
namespace Cert.KernelIdeal.Hand
open Idealize.ShloMosaic Idealize.SL.Sem Cert.KernelIdeal.Gen
variable {F : FTy → Type} [FloatOps F] [Named F]

abbrev refs (arg2 : Memref sig .tc .vmem S1x6x80x192 .bf16) (harg2 : arg2.IsWhole) (arg3 : Memref sig .tc .vmem S8x192x384 .bf16) (harg3 : arg3.IsWhole) (arg4 : Memref sig .tc .vmem S1152x512 .bf16) (harg4 : arg4.IsWhole) (arg5 : Memref sig .tc .vmem S400x192 .bf16) (harg5 : arg5.IsWhole) (arg6 : Memref sig .tc .vmem S384x128 .f32) (harg6 : arg6.IsWhole) (arg7 : Memref sig .tc .vmem S384x512 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S8x512x384 .bf16) (harg10 : arg10.IsWhole) (arg11 : Memref sig .tc .vmem S8x512x192 .fp8e4m3) (harg11 : arg11.IsWhole) (arg12 : Memref sig .tc .vmem S8x6x512 .f32) (harg12 : arg12.IsWhole) (arg13 : Memref sig .tc .vmem S4x480x128 .f32) (harg13 : arg13.IsWhole) (arg14 : Memref sig .tc .vmem S4x512x128 .f32) (harg14 : arg14.IsWhole) (arg15 : Memref sig .tc .vmem S400x512 .f32) (harg15 : arg15.IsWhole) : I2t.Refs sig := ⟨arg2, arg3, arg4, arg5, arg6, arg7, arg8, arg9, arg10, arg11, arg12, arg13, arg14, arg15⟩

theorem body_eq (i : grid0.Coords) (arg2 : Memref sig .tc .vmem S1x6x80x192 .bf16) (harg2 : arg2.IsWhole) (arg3 : Memref sig .tc .vmem S8x192x384 .bf16) (harg3 : arg3.IsWhole) (arg4 : Memref sig .tc .vmem S1152x512 .bf16) (harg4 : arg4.IsWhole) (arg5 : Memref sig .tc .vmem S400x192 .bf16) (harg5 : arg5.IsWhole) (arg6 : Memref sig .tc .vmem S384x128 .f32) (harg6 : arg6.IsWhole) (arg7 : Memref sig .tc .vmem S384x512 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S8x512x384 .bf16) (harg10 : arg10.IsWhole) (arg11 : Memref sig .tc .vmem S8x512x192 .fp8e4m3) (harg11 : arg11.IsWhole) (arg12 : Memref sig .tc .vmem S8x6x512 .f32) (harg12 : arg12.IsWhole) (arg13 : Memref sig .tc .vmem S4x480x128 .f32) (harg13 : arg13.IsWhole) (arg14 : Memref sig .tc .vmem S4x512x128 .f32) (harg14 : arg14.IsWhole) (arg15 : Memref sig .tc .vmem S400x512 .f32) (harg15 : arg15.IsWhole) : cc0_i2t (F := F) i arg2 harg2 arg3 harg3 arg4 harg4 arg5 harg5 arg6 harg6 arg7 harg7 arg8 harg8 arg9 harg9 arg10 harg10 arg11 harg11 arg12 harg12 arg13 harg13 arg14 harg14 arg15 harg15 =
    I2t.body (refs arg2 harg2 arg3 harg3 arg4 harg4 arg5 harg5 arg6 harg6 arg7 harg7 arg8 harg8 arg9 harg9 arg10 harg10 arg11 harg11 arg12 harg12 arg13 harg13 arg14 harg14 arg15 harg15) (I2t.StoreOk.of_whole _ harg10 harg11) (Named.named (F := F) κ "inv_384" 0x3B2AAAAB#32) (by decide) := by
  rfl
end Cert.KernelIdeal.Hand
-- ==== Proof.FrameKernelIdeal.lean ====
/-
  The frame of the idealized kernel: the body run point by point from held buffers to held buffers, the results'
  buffers left at the values `I2t.imgFin`, `I2t.ocFin` and `I2t.osFin` of the point's input blocks.
-/
module

public import proofs.«01_k».proof.Proof.Final
public import proofs.«01_k».proof.Proof.EqKernelIdeal
public import proofs.«01_k».proof.Proof.Gen.KernelIdeal.Frame
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One over the number of channels, as this program has it. -/
abbrev invC : F .f32 := Named.named (F := F) κ "inv_384" 0x3B2AAAAB#32

/-- The input blocks of point `t`. -/
def ins (c : Dev nD) (t : Fin cfg0.N) : I2t.Ins F :=
  ⟨iblk m c 0 t, iblk m c 1 t, iblk m c 2 t, iblk m c 3 t, iblk m c 4 t, iblk m c 5 t, iblk m c 6 t, iblk m c 7 t⟩

/-- The proof data: inputs stay at their blocks, results are left at the body's values of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => I2t.imgFin invC (ins m c t).cells
    | ⟨9, _⟩ => I2t.ocFin (ins m c t).cells
    | ⟨10, _⟩ => I2t.osFin (ins m c t).cells
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = I2t.imgFin invC (ins m c t).cells := by dsimp only [dats]
theorem after0_9 (c : Dev nD) (t : Fin cfg0.N) : (dats m 0 c).after 9 t = I2t.ocFin (ins m c t).cells := by dsimp only [dats]
theorem after0_10 (c : Dev nD) (t : Fin cfg0.N) : (dats m 0 c).after 10 t = I2t.osFin (ins m c t).cells := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body on whole buffers, inputs and results and scratch at anything. -/
theorem kernel_triple (c : Dev nD) (i : grid0.Coords) (arg2 : Memref sig .tc .vmem S1x6x80x192 .bf16) (harg2 : arg2.IsWhole) (arg3 : Memref sig .tc .vmem S8x192x384 .bf16) (harg3 : arg3.IsWhole) (arg4 : Memref sig .tc .vmem S1152x512 .bf16) (harg4 : arg4.IsWhole) (arg5 : Memref sig .tc .vmem S400x192 .bf16) (harg5 : arg5.IsWhole) (arg6 : Memref sig .tc .vmem S384x128 .f32) (harg6 : arg6.IsWhole) (arg7 : Memref sig .tc .vmem S384x512 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S8x512x384 .bf16) (harg10 : arg10.IsWhole) (arg11 : Memref sig .tc .vmem S8x512x192 .fp8e4m3) (harg11 : arg11.IsWhole) (arg12 : Memref sig .tc .vmem S8x6x512 .f32) (harg12 : arg12.IsWhole) (arg13 : Memref sig .tc .vmem S4x480x128 .f32) (harg13 : arg13.IsWhole) (arg14 : Memref sig .tc .vmem S4x512x128 .f32) (harg14 : arg14.IsWhole) (arg15 : Memref sig .tc .vmem S400x512 .f32) (harg15 : arg15.IsWhole)
    (x2 : Vec F S1x6x80x192 .bf16) (x3 : Vec F S8x192x384 .bf16) (x4 : Vec F S1152x512 .bf16) (x5 : Vec F S400x192 .bf16) (x6 : Vec F S384x128 .f32) (x7 : Vec F S384x512 .f32) (x8 : Vec F S384x128 .f32) (x9 : Vec F S384x128 .f32) (x10 : Vec F S8x512x384 .bf16) (x11 : Vec F S8x512x192 .fp8e4m3) (x12 : Vec F S8x6x512 .f32) (x13 : Vec F S4x480x128 .f32) (x14 : Vec F S4x512x128 .f32) (x15 : Vec F S400x512 .f32) (R : sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ R) : sProp 𝕄)
      ⊢ wp frame (wpE (defs₀ (F := F)) Variants.none c none) Set.univ (cc0_i2t i arg2 harg2 arg3 harg3 arg4 harg4 arg5 harg5 arg6 harg6 arg7 harg7 arg8 harg8 arg9 harg9 arg10 harg10 arg11 harg11 arg12 harg12 arg13 harg13 arg14 harg14 arg15 harg15) (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (I2t.imgFin invC (I2t.Ins.cells ⟨x2, x3, x4, x5, x6, x7, x8, x9⟩)) ∗ owns (c : Thread nD τ) arg11 fullShare (I2t.ocFin (I2t.Ins.cells ⟨x2, x3, x4, x5, x6, x7, x8, x9⟩)) ∗ owns (c : Thread nD τ) arg12 fullShare (I2t.osFin (I2t.Ins.cells ⟨x2, x3, x4, x5, x6, x7, x8, x9⟩)) ∗ (∃ z, owns (c : Thread nD τ) arg13 fullShare z) ∗ (∃ z, owns (c : Thread nD τ) arg14 fullShare z) ∗ (∃ z, owns (c : Thread nD τ) arg15 fullShare z) ∗ R)) := by
  rw [body_eq]
  exact I2t.body_triple (F := F) (U := UR sig nD τ) (defs := defs₀ (F := F)) (𝒱 := Variants.none) (c := c) (bd := none) (E := Set.univ) (R := R) (inv := invC) (hM := I2t.StoreOk.of_whole _ harg10 harg11) (hlp := by decide) (M := refs arg2 harg2 arg3 harg3 arg4 harg4 arg5 harg5 arg6 harg6 arg7 harg7 arg8 harg8 arg9 harg9 arg10 harg10 arg11 harg11 arg12 harg12 arg13 harg13 arg14 harg14 arg15 harg15) x2 x3 x4 x5 x6 x7 x8 x9 x10 x11 x12 x13 x14 x15

/-- The scratch buffers, as memrefs. -/
theorem scratch_eq (c : Dev nD) : (Pipeline.scopedRest (Ix := Unit) (Name := ℕ) (U := UR sig nD τ) (Lvl := ℕ) (Val := Elt F) spec0 c : sProp 𝕄)
    = iprop((∃ z, owns (c : Thread nD τ) (Memref.whole cc0_scratch0) fullShare z) ∗ (∃ z, owns (c : Thread nD τ) (Memref.whole cc0_scratch1) fullShare z)
      ∗ (∃ z, owns (c : Thread nD τ) (Memref.whole cc0_scratch2) fullShare z)) := by
  rw [scopedRest0_eq]
  simp only [owns_whole]

theorem kernel_wand (c : Dev nD) (i : grid0.Coords) (arg2 : Memref sig .tc .vmem S1x6x80x192 .bf16) (harg2 : arg2.IsWhole) (arg3 : Memref sig .tc .vmem S8x192x384 .bf16) (harg3 : arg3.IsWhole) (arg4 : Memref sig .tc .vmem S1152x512 .bf16) (harg4 : arg4.IsWhole) (arg5 : Memref sig .tc .vmem S400x192 .bf16) (harg5 : arg5.IsWhole) (arg6 : Memref sig .tc .vmem S384x128 .f32) (harg6 : arg6.IsWhole) (arg7 : Memref sig .tc .vmem S384x512 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S8x512x384 .bf16) (harg10 : arg10.IsWhole) (arg11 : Memref sig .tc .vmem S8x512x192 .fp8e4m3) (harg11 : arg11.IsWhole) (arg12 : Memref sig .tc .vmem S8x6x512 .f32) (harg12 : arg12.IsWhole) (arg13 : Memref sig .tc .vmem S4x480x128 .f32) (harg13 : arg13.IsWhole) (arg14 : Memref sig .tc .vmem S4x512x128 .f32) (harg14 : arg14.IsWhole) (arg15 : Memref sig .tc .vmem S400x512 .f32) (harg15 : arg15.IsWhole)
    (x2 : Vec F S1x6x80x192 .bf16) (x3 : Vec F S8x192x384 .bf16) (x4 : Vec F S1152x512 .bf16) (x5 : Vec F S400x192 .bf16) (x6 : Vec F S384x128 .f32) (x7 : Vec F S384x512 .f32) (x8 : Vec F S384x128 .f32) (x9 : Vec F S384x128 .f32) (x10 : Vec F S8x512x384 .bf16) (x11 : Vec F S8x512x192 .fp8e4m3) (x12 : Vec F S8x6x512 .f32) (x13 : Vec F S4x480x128 .f32) (x14 : Vec F S4x512x128 .f32) (x15 : Vec F S400x512 .f32) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (I2t.imgFin invC (I2t.Ins.cells ⟨x2, x3, x4, x5, x6, x7, x8, x9⟩)) ∗ owns (c : Thread nD τ) arg11 fullShare (I2t.ocFin (I2t.Ins.cells ⟨x2, x3, x4, x5, x6, x7, x8, x9⟩)) ∗ owns (c : Thread nD τ) arg12 fullShare (I2t.osFin (I2t.Ins.cells ⟨x2, x3, x4, x5, x6, x7, x8, x9⟩)) ∗ (∃ z, owns (c : Thread nD τ) arg13 fullShare z) ∗ (∃ z, owns (c : Thread nD τ) arg14 fullShare z) ∗ (∃ z, owns (c : Thread nD τ) arg15 fullShare z)) -∗ K ⟨⟩)) : sProp 𝕄)
      ⊢ wp frame (wpE (defs₀ (F := F)) Variants.none c none) Set.univ (cc0_i2t i arg2 harg2 arg3 harg3 arg4 harg4 arg5 harg5 arg6 harg6 arg7 harg7 arg8 harg8 arg9 harg9 arg10 harg10 arg11 harg11 arg12 harg12 arg13 harg13 arg14 harg14 arg15 harg15) K := by
  refine (kernel_triple c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x13 x14 x15 _).trans (wp_mono _ _ _ fun _ => ?_)
  iintro ⟨H0, H1, H2, H3, H4, H5, H6, H7, H8, H9, H10, S0, S1, S2, HK⟩
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  iexact S2

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10,
    show (dats m 0 c).Φ t.castSucc = Pipeline.ΦA spec0 c from rfl]
  unfold Pipeline.ΦA
  rw [scratch_eq]
  iintro ⟨⟨⟨⟨%f0, S0⟩, ⟨%f1, S1⟩, ⟨%f2, S2⟩⟩, P⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernel_wand c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ f0 f1 f2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  iintro ⟨H0, H1, H2, H3, H4, H5, H6, H7, H8, H9, H10, S0, S1, S2⟩
  isplitl [S0 S1 S2 P]
  · isplitr [P]
    · isplitl [S0]; · iexact S0
      isplitl [S1]; · iexact S1
      iexact S2
    · iexact P
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array of the pipeline as the proof data has it, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.HostKer.lean ====
/-
  What the host operations before the call leave in the buffers the call reads, at an index. The operations are read in
  stretches, each from the contents the one before it leaves.
-/
module

public import proofs.«01_k».proof.Proof.FrameKernelIdeal
public import Idealize.ShloMosaic.Lib.Pointwise
public import Idealize.ShloMosaic.Lib.Pipeline.ValueKit

@[expose] public section

set_option maxRecDepth 16384

noncomputable section

namespace Cert.KernelIdeal.Hand

open Idealize.ShloMosaic Idealize.ShloMosaic.Pointwise Idealize.ShloMosaic.TcCoe Cert.KernelIdeal Cert.KernelIdeal.Gen

section
variable {F : FTy → Type} [FloatOps F] [Named F]
abbrev opsA : List (HloOp τ sig (Elt F)) :=
  [ StableHlo.nullary main_cst (constant S_ .f32 0x3EB8AA3B#32),
    StableHlo.unary main_cst main_v0 (broadcastInDim S840x192 ![] bcast_S_S840x192 : (⟨S_, .f32⟩ : BufTy).Contents (Elt F) → (⟨S840x192, .f32⟩ : BufTy).Contents (Elt F)),
    StableHlo.binary main_arg0 main_v0 main_v1 (mulf : (⟨S840x192, .f32⟩ : BufTy).Contents (Elt F) → (⟨S840x192, .f32⟩ : BufTy).Contents (Elt F) → (⟨S840x192, .f32⟩ : BufTy).Contents (Elt F)),
    StableHlo.reshape main_v1 main_v2 (rfl : (.f32 : EltTy) = .f32) shapeCasts_S840x192_S5x21x8x6x2x16,
    StableHlo.unary main_v2 main_v3 ((truncf .bf16 · bitsLt_bf16_f32) : (⟨S5x21x8x6x2x16, .f32⟩ : BufTy).Contents (Elt F) → (⟨S5x21x8x6x2x16, .bf16⟩ : BufTy).Contents (Elt F)) ]
abbrev opsB : List (HloOp τ sig (Elt F)) :=
  [ StableHlo.unary main_v3 main_v4 ((extf .f32 · bitsLt_bf16_f32) : (⟨S5x21x8x6x2x16, .bf16⟩ : BufTy).Contents (Elt F) → (⟨S5x21x8x6x2x16, .f32⟩ : BufTy).Contents (Elt F)),
    StableHlo.binary main_v2 main_v4 main_v5 (subf : (⟨S5x21x8x6x2x16, .f32⟩ : BufTy).Contents (Elt F) → (⟨S5x21x8x6x2x16, .f32⟩ : BufTy).Contents (Elt F) → (⟨S5x21x8x6x2x16, .f32⟩ : BufTy).Contents (Elt F)),
    StableHlo.unary main_v5 main_v6 ((truncf .bf16 · bitsLt_bf16_f32) : (⟨S5x21x8x6x2x16, .f32⟩ : BufTy).Contents (Elt F) → (⟨S5x21x8x6x2x16, .bf16⟩ : BufTy).Contents (Elt F)),
    StableHlo.unary main_v6 main_v7 ((extf .f32 · bitsLt_bf16_f32) : (⟨S5x21x8x6x2x16, .bf16⟩ : BufTy).Contents (Elt F) → (⟨S5x21x8x6x2x16, .f32⟩ : BufTy).Contents (Elt F)),
    StableHlo.binary main_v5 main_v7 main_v8 (subf : (⟨S5x21x8x6x2x16, .f32⟩ : BufTy).Contents (Elt F) → (⟨S5x21x8x6x2x16, .f32⟩ : BufTy).Contents (Elt F) → (⟨S5x21x8x6x2x16, .f32⟩ : BufTy).Contents (Elt F)),
    StableHlo.unary main_v8 main_v9 ((truncf .bf16 · bitsLt_bf16_f32) : (⟨S5x21x8x6x2x16, .f32⟩ : BufTy).Contents (Elt F) → (⟨S5x21x8x6x2x16, .bf16⟩ : BufTy).Contents (Elt F)) ]
abbrev opsC : List (HloOp τ sig (Elt F)) :=
  [ StableHlo.nary ![main_v3, main_v6, main_v3, main_v6, main_v9, main_v3] main_v10 (fun u => (concatenate S5x21x8x6x2x96 5 [⟨S5x21x8x6x2x16, (u 0 : (⟨S5x21x8x6x2x16, .bf16⟩ : BufTy).Contents (Elt F))⟩, ⟨S5x21x8x6x2x16, (u 1 : (⟨S5x21x8x6x2x16, .bf16⟩ : BufTy).Contents (Elt F))⟩, ⟨S5x21x8x6x2x16, (u 2 : (⟨S5x21x8x6x2x16, .bf16⟩ : BufTy).Contents (Elt F))⟩, ⟨S5x21x8x6x2x16, (u 3 : (⟨S5x21x8x6x2x16, .bf16⟩ : BufTy).Contents (Elt F))⟩, ⟨S5x21x8x6x2x16, (u 4 : (⟨S5x21x8x6x2x16, .bf16⟩ : BufTy).Contents (Elt F))⟩, ⟨S5x21x8x6x2x16, (u 5 : (⟨S5x21x8x6x2x16, .bf16⟩ : BufTy).Contents (Elt F))⟩] concatenates_S5x21x8x6x2x16_S5x21x8x6x2x16_S5x21x8x6x2x16_S5x21x8x6x2x16_S5x21x8x6x2x16_S5x21x8x6x2x16_S5x21x8x6x2x96_d5 : (⟨S5x21x8x6x2x96, .bf16⟩ : BufTy).Contents (Elt F))),
    StableHlo.unary main_v10 main_v11 ((transpose S21x6x2x5x8x96 [1, 3, 4, 0, 2, 5] · transposes_S5x21x8x6x2x96_S21x6x2x5x8x96_1_3_4_0_2_5) : (⟨S5x21x8x6x2x96, .bf16⟩ : BufTy).Contents (Elt F) → (⟨S21x6x2x5x8x96, .bf16⟩ : BufTy).Contents (Elt F)) ]
abbrev opsD : List (HloOp τ sig (Elt F)) :=
  [ StableHlo.unary main_v11 main_v12 ((extractStridedSlice S21x6x1x5x8x96 ![0, 0, 0, 0, 0, 0] · slices_S21x6x2x5x8x96_S21x6x1x5x8x96_0_0_0_0_0_0) : (⟨S21x6x2x5x8x96, .bf16⟩ : BufTy).Contents (Elt F) → (⟨S21x6x1x5x8x96, .bf16⟩ : BufTy).Contents (Elt F)),
    StableHlo.reshape main_v12 main_v13 (rfl : (.bf16 : EltTy) = .bf16) shapeCasts_S21x6x1x5x8x96_S21x6x5x8x96,
    StableHlo.nullary main_cst_0 (constant S_ .bf16 0x0000#16),
    StableHlo.unary main_cst_0 main_v14 (broadcastInDim S21x6x5x8x96 ![] bcast_S_S21x6x5x8x96 : (⟨S_, .bf16⟩ : BufTy).Contents (Elt F) → (⟨S21x6x5x8x96, .bf16⟩ : BufTy).Contents (Elt F)),
    StableHlo.unary main_v11 main_v15 ((extractStridedSlice S21x6x1x5x8x96 ![0, 0, 0, 0, 0, 0] · slices_S21x6x2x5x8x96_S21x6x1x5x8x96_0_0_0_0_0_0) : (⟨S21x6x2x5x8x96, .bf16⟩ : BufTy).Contents (Elt F) → (⟨S21x6x1x5x8x96, .bf16⟩ : BufTy).Contents (Elt F)),
    StableHlo.reshape main_v15 main_v16 (rfl : (.bf16 : EltTy) = .bf16) shapeCasts_S21x6x1x5x8x96_S21x6x5x8x96,
    StableHlo.binary main_v16 main_v14 main_v17 ((fun a b => concatenate S21x6x5x8x192 4 [⟨S21x6x5x8x96, a⟩, ⟨S21x6x5x8x96, b⟩] concatenates_S21x6x5x8x96_S21x6x5x8x96_S21x6x5x8x192_d4) : (⟨S21x6x5x8x96, .bf16⟩ : BufTy).Contents (Elt F) → (⟨S21x6x5x8x96, .bf16⟩ : BufTy).Contents (Elt F) → (⟨S21x6x5x8x192, .bf16⟩ : BufTy).Contents (Elt F)),
    StableHlo.unary main_v11 main_v18 ((extractStridedSlice S21x6x1x5x8x96 ![0, 0, 1, 0, 0, 0] · slices_S21x6x2x5x8x96_S21x6x1x5x8x96_0_0_1_0_0_0) : (⟨S21x6x2x5x8x96, .bf16⟩ : BufTy).Contents (Elt F) → (⟨S21x6x1x5x8x96, .bf16⟩ : BufTy).Contents (Elt F)),
    StableHlo.reshape main_v18 main_v19 (rfl : (.bf16 : EltTy) = .bf16) shapeCasts_S21x6x1x5x8x96_S21x6x5x8x96,
    StableHlo.binary main_v14 main_v19 main_v20 ((fun a b => concatenate S21x6x5x8x192 4 [⟨S21x6x5x8x96, a⟩, ⟨S21x6x5x8x96, b⟩] concatenates_S21x6x5x8x96_S21x6x5x8x96_S21x6x5x8x192_d4) : (⟨S21x6x5x8x96, .bf16⟩ : BufTy).Contents (Elt F) → (⟨S21x6x5x8x96, .bf16⟩ : BufTy).Contents (Elt F) → (⟨S21x6x5x8x192, .bf16⟩ : BufTy).Contents (Elt F)),
    StableHlo.unary main_v17 main_v21 (broadcastInDim S21x6x1x5x8x192 ![0, 1, 3, 4, 5] bcast_S21x6x5x8x192_S21x6x1x5x8x192_0_1_3_4_5 : (⟨S21x6x5x8x192, .bf16⟩ : BufTy).Contents (Elt F) → (⟨S21x6x1x5x8x192, .bf16⟩ : BufTy).Contents (Elt F)),
    StableHlo.unary main_v20 main_v22 (broadcastInDim S21x6x1x5x8x192 ![0, 1, 3, 4, 5] bcast_S21x6x5x8x192_S21x6x1x5x8x192_0_1_3_4_5 : (⟨S21x6x5x8x192, .bf16⟩ : BufTy).Contents (Elt F) → (⟨S21x6x1x5x8x192, .bf16⟩ : BufTy).Contents (Elt F)),
    StableHlo.binary main_v21 main_v22 main_v23 ((fun a b => concatenate S21x6x2x5x8x192 2 [⟨S21x6x1x5x8x192, a⟩, ⟨S21x6x1x5x8x192, b⟩] concatenates_S21x6x1x5x8x192_S21x6x1x5x8x192_S21x6x2x5x8x192_d2) : (⟨S21x6x1x5x8x192, .bf16⟩ : BufTy).Contents (Elt F) → (⟨S21x6x1x5x8x192, .bf16⟩ : BufTy).Contents (Elt F) → (⟨S21x6x2x5x8x192, .bf16⟩ : BufTy).Contents (Elt F)),
    StableHlo.reshape main_v23 main_v24 (rfl : (.bf16 : EltTy) = .bf16) shapeCasts_S21x6x2x5x8x192_S21x6x80x192 ]
abbrev opsE : List (HloOp τ sig (Elt F)) :=
  [ StableHlo.reshape main_arg1 main_v25 (rfl : (.f32 : EltTy) = .f32) shapeCasts_S840x192_S5x168x12x16,
    StableHlo.unary main_v25 main_v26 ((transpose S168x12x16x5 [1, 2, 3, 0] · transposes_S5x168x12x16_S168x12x16x5_1_2_3_0) : (⟨S5x168x12x16, .f32⟩ : BufTy).Contents (Elt F) → (⟨S168x12x16x5, .f32⟩ : BufTy).Contents (Elt F)),
    StableHlo.nullary main_v27 (iotaInDim S12x12 32 0),
    StableHlo.nullary main_v28 (iotaInDim S12x12 32 1),
    StableHlo.nullary main_c (constantI S_ 32 0#32),
    StableHlo.unary main_c main_v29 (broadcastInDim S12x12 ![] bcast_S_S12x12 : (⟨S_, .i32⟩ : BufTy).Contents (Elt F) → (⟨S12x12, .i32⟩ : BufTy).Contents (Elt F)),
    StableHlo.binary main_v27 main_v29 main_v30 (addi : (⟨S12x12, .i32⟩ : BufTy).Contents (Elt F) → (⟨S12x12, .i32⟩ : BufTy).Contents (Elt F) → (⟨S12x12, .i32⟩ : BufTy).Contents (Elt F)),
    StableHlo.binary main_v30 main_v28 main_v31 (cmpi .eq : (⟨S12x12, .i32⟩ : BufTy).Contents (Elt F) → (⟨S12x12, .i32⟩ : BufTy).Contents (Elt F) → (⟨S12x12, .i1⟩ : BufTy).Contents (Elt F)),
    StableHlo.unary main_v31 main_v32 (uitofp .f32 : (⟨S12x12, .i1⟩ : BufTy).Contents (Elt F) → (⟨S12x12, .f32⟩ : BufTy).Contents (Elt F)) ]
abbrev opsG : List (HloOp τ sig (Elt F)) :=
  [ StableHlo.unary main_v26 main_v33 (broadcastInDim S168x12x16x1x5 ![0, 1, 2, 4] bcast_S168x12x16x5_S168x12x16x1x5_0_1_2_4 : (⟨S168x12x16x5, .f32⟩ : BufTy).Contents (Elt F) → (⟨S168x12x16x1x5, .f32⟩ : BufTy).Contents (Elt F)),
    StableHlo.unary main_v32 main_v34 (broadcastInDim S1x12x1x12x1 ![1, 3] bcast_S12x12_S1x12x1x12x1_1_3 : (⟨S12x12, .f32⟩ : BufTy).Contents (Elt F) → (⟨S1x12x1x12x1, .f32⟩ : BufTy).Contents (Elt F)),
    StableHlo.unary main_v33 main_v35 (broadcastInDim S168x12x16x12x5 ![0, 1, 2, 3, 4] bcast_S168x12x16x1x5_S168x12x16x12x5_0_1_2_3_4 : (⟨S168x12x16x1x5, .f32⟩ : BufTy).Contents (Elt F) → (⟨S168x12x16x12x5, .f32⟩ : BufTy).Contents (Elt F)),
    StableHlo.unary main_v34 main_v36 (broadcastInDim S168x12x16x12x5 ![0, 1, 2, 3, 4] bcast_S1x12x1x12x1_S168x12x16x12x5_0_1_2_3_4 : (⟨S1x12x1x12x1, .f32⟩ : BufTy).Contents (Elt F) → (⟨S168x12x16x12x5, .f32⟩ : BufTy).Contents (Elt F)),
    StableHlo.binary main_v35 main_v36 main_v37 (mulf : (⟨S168x12x16x12x5, .f32⟩ : BufTy).Contents (Elt F) → (⟨S168x12x16x12x5, .f32⟩ : BufTy).Contents (Elt F) → (⟨S168x12x16x12x5, .f32⟩ : BufTy).Contents (Elt F)),
    StableHlo.reshape main_v37 main_v38 (rfl : (.f32 : EltTy) = .f32) shapeCasts_S168x12x16x12x5_S168x192x60,
    StableHlo.nullary main_c_1 (constantI S_ 32 0#32) ]
abbrev opsH : List (HloOp τ sig (Elt F)) :=
  [ StableHlo.unary main_v39 main_v40 ((truncf .bf16 · bitsLt_bf16_f32) : (⟨S168x192x64, .f32⟩ : BufTy).Contents (Elt F) → (⟨S168x192x64, .bf16⟩ : BufTy).Contents (Elt F)),
    StableHlo.unary main_v40 main_v41 ((extf .f32 · bitsLt_bf16_f32) : (⟨S168x192x64, .bf16⟩ : BufTy).Contents (Elt F) → (⟨S168x192x64, .f32⟩ : BufTy).Contents (Elt F)),
    StableHlo.binary main_v39 main_v41 main_v42 (subf : (⟨S168x192x64, .f32⟩ : BufTy).Contents (Elt F) → (⟨S168x192x64, .f32⟩ : BufTy).Contents (Elt F) → (⟨S168x192x64, .f32⟩ : BufTy).Contents (Elt F)),
    StableHlo.unary main_v42 main_v43 ((truncf .bf16 · bitsLt_bf16_f32) : (⟨S168x192x64, .f32⟩ : BufTy).Contents (Elt F) → (⟨S168x192x64, .bf16⟩ : BufTy).Contents (Elt F)),
    StableHlo.unary main_v43 main_v44 ((extf .f32 · bitsLt_bf16_f32) : (⟨S168x192x64, .bf16⟩ : BufTy).Contents (Elt F) → (⟨S168x192x64, .f32⟩ : BufTy).Contents (Elt F)),
    StableHlo.binary main_v42 main_v44 main_v45 (subf : (⟨S168x192x64, .f32⟩ : BufTy).Contents (Elt F) → (⟨S168x192x64, .f32⟩ : BufTy).Contents (Elt F) → (⟨S168x192x64, .f32⟩ : BufTy).Contents (Elt F)),
    StableHlo.unary main_v45 main_v46 ((truncf .bf16 · bitsLt_bf16_f32) : (⟨S168x192x64, .f32⟩ : BufTy).Contents (Elt F) → (⟨S168x192x64, .bf16⟩ : BufTy).Contents (Elt F)) ]
abbrev opsI : List (HloOp τ sig (Elt F)) :=
  [ StableHlo.nary ![main_v40, main_v40, main_v40, main_v43, main_v43, main_v46] main_v47 (fun u => (concatenate S168x192x384 2 [⟨S168x192x64, (u 0 : (⟨S168x192x64, .bf16⟩ : BufTy).Contents (Elt F))⟩, ⟨S168x192x64, (u 1 : (⟨S168x192x64, .bf16⟩ : BufTy).Contents (Elt F))⟩, ⟨S168x192x64, (u 2 : (⟨S168x192x64, .bf16⟩ : BufTy).Contents (Elt F))⟩, ⟨S168x192x64, (u 3 : (⟨S168x192x64, .bf16⟩ : BufTy).Contents (Elt F))⟩, ⟨S168x192x64, (u 4 : (⟨S168x192x64, .bf16⟩ : BufTy).Contents (Elt F))⟩, ⟨S168x192x64, (u 5 : (⟨S168x192x64, .bf16⟩ : BufTy).Contents (Elt F))⟩] concatenates_S168x192x64_S168x192x64_S168x192x64_S168x192x64_S168x192x64_S168x192x64_S168x192x384_d2 : (⟨S168x192x384, .bf16⟩ : BufTy).Contents (Elt F))) ]
abbrev opsJ : List (HloOp τ sig (Elt F)) :=
  [ StableHlo.reshape main_arg4 main_v48 (rfl : (.f32 : EltTy) = .f32) shapeCasts_S384_S384x1,
    StableHlo.unary main_v48 main_v49 (broadcastInDim S384x128 ![0, 1] bcast_S384x1_S384x128_0_1 : (⟨S384x1, .f32⟩ : BufTy).Contents (Elt F) → (⟨S384x128, .f32⟩ : BufTy).Contents (Elt F)),
    StableHlo.reshape main_arg6 main_v50 (rfl : (.f32 : EltTy) = .f32) shapeCasts_S384_S384x1,
    StableHlo.unary main_v50 main_v51 (broadcastInDim S384x128 ![0, 1] bcast_S384x1_S384x128_0_1 : (⟨S384x1, .f32⟩ : BufTy).Contents (Elt F) → (⟨S384x128, .f32⟩ : BufTy).Contents (Elt F)),
    StableHlo.reshape main_arg7 main_v52 (rfl : (.f32 : EltTy) = .f32) shapeCasts_S384_S384x1,
    StableHlo.unary main_v52 main_v53 (broadcastInDim S384x128 ![0, 1] bcast_S384x1_S384x128_0_1 : (⟨S384x1, .f32⟩ : BufTy).Contents (Elt F) → (⟨S384x128, .f32⟩ : BufTy).Contents (Elt F)) ]
end

theorem after_app (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

section
variable (σ : Valuation τ sig (Elt Ideal))

theorem keep_opsE_v24 : StableHlo.after (opsE (F := Ideal)) σ (Proc.devRef .tc main_v24) = σ (Proc.devRef .tc main_v24) := by
  entry_read
  rfl
theorem keep_opsG_v24 : StableHlo.after (opsG (F := Ideal)) σ (Proc.devRef .tc main_v24) = σ (Proc.devRef .tc main_v24) := by
  entry_read
  rfl
theorem keep_hostOps0_1_v24 : StableHlo.after (hostOps0_1 (F := Ideal)) σ (Proc.devRef .tc main_v24) = σ (Proc.devRef .tc main_v24) := by
  entry_read
  rfl
theorem keep_opsH_v24 : StableHlo.after (opsH (F := Ideal)) σ (Proc.devRef .tc main_v24) = σ (Proc.devRef .tc main_v24) := by
  entry_read
  rfl
theorem keep_opsI_v24 : StableHlo.after (opsI (F := Ideal)) σ (Proc.devRef .tc main_v24) = σ (Proc.devRef .tc main_v24) := by
  entry_read
  rfl
theorem keep_opsJ_v24 : StableHlo.after (opsJ (F := Ideal)) σ (Proc.devRef .tc main_v24) = σ (Proc.devRef .tc main_v24) := by
  entry_read
  rfl
theorem keep_opsJ_v47 : StableHlo.after (opsJ (F := Ideal)) σ (Proc.devRef .tc main_v47) = σ (Proc.devRef .tc main_v47) := by
  entry_read
  rfl
theorem keep_opsB_v3 : StableHlo.after (opsB (F := Ideal)) σ (Proc.devRef .tc main_v3) = σ (Proc.devRef .tc main_v3) := by
  entry_read
  rfl
theorem keep_opsA_arg1 : StableHlo.after (opsA (F := Ideal)) σ (Proc.devRef .tc main_arg1) = σ (Proc.devRef .tc main_arg1) := by
  entry_read
  rfl
theorem keep_opsB_arg1 : StableHlo.after (opsB (F := Ideal)) σ (Proc.devRef .tc main_arg1) = σ (Proc.devRef .tc main_arg1) := by
  entry_read
  rfl
theorem keep_opsC_arg1 : StableHlo.after (opsC (F := Ideal)) σ (Proc.devRef .tc main_arg1) = σ (Proc.devRef .tc main_arg1) := by
  entry_read
  rfl
theorem keep_opsD_arg1 : StableHlo.after (opsD (F := Ideal)) σ (Proc.devRef .tc main_arg1) = σ (Proc.devRef .tc main_arg1) := by
  entry_read
  rfl
theorem keep_opsA_arg4 : StableHlo.after (opsA (F := Ideal)) σ (Proc.devRef .tc main_arg4) = σ (Proc.devRef .tc main_arg4) := by
  entry_read
  rfl
theorem keep_opsA_arg6 : StableHlo.after (opsA (F := Ideal)) σ (Proc.devRef .tc main_arg6) = σ (Proc.devRef .tc main_arg6) := by
  entry_read
  rfl
theorem keep_opsA_arg7 : StableHlo.after (opsA (F := Ideal)) σ (Proc.devRef .tc main_arg7) = σ (Proc.devRef .tc main_arg7) := by
  entry_read
  rfl
theorem keep_opsB_arg4 : StableHlo.after (opsB (F := Ideal)) σ (Proc.devRef .tc main_arg4) = σ (Proc.devRef .tc main_arg4) := by
  entry_read
  rfl
theorem keep_opsB_arg6 : StableHlo.after (opsB (F := Ideal)) σ (Proc.devRef .tc main_arg6) = σ (Proc.devRef .tc main_arg6) := by
  entry_read
  rfl
theorem keep_opsB_arg7 : StableHlo.after (opsB (F := Ideal)) σ (Proc.devRef .tc main_arg7) = σ (Proc.devRef .tc main_arg7) := by
  entry_read
  rfl
theorem keep_opsC_arg4 : StableHlo.after (opsC (F := Ideal)) σ (Proc.devRef .tc main_arg4) = σ (Proc.devRef .tc main_arg4) := by
  entry_read
  rfl
theorem keep_opsC_arg6 : StableHlo.after (opsC (F := Ideal)) σ (Proc.devRef .tc main_arg6) = σ (Proc.devRef .tc main_arg6) := by
  entry_read
  rfl
theorem keep_opsC_arg7 : StableHlo.after (opsC (F := Ideal)) σ (Proc.devRef .tc main_arg7) = σ (Proc.devRef .tc main_arg7) := by
  entry_read
  rfl
theorem keep_opsD_arg4 : StableHlo.after (opsD (F := Ideal)) σ (Proc.devRef .tc main_arg4) = σ (Proc.devRef .tc main_arg4) := by
  entry_read
  rfl
theorem keep_opsD_arg6 : StableHlo.after (opsD (F := Ideal)) σ (Proc.devRef .tc main_arg6) = σ (Proc.devRef .tc main_arg6) := by
  entry_read
  rfl
theorem keep_opsD_arg7 : StableHlo.after (opsD (F := Ideal)) σ (Proc.devRef .tc main_arg7) = σ (Proc.devRef .tc main_arg7) := by
  entry_read
  rfl
theorem keep_opsE_arg4 : StableHlo.after (opsE (F := Ideal)) σ (Proc.devRef .tc main_arg4) = σ (Proc.devRef .tc main_arg4) := by
  entry_read
  rfl
theorem keep_opsE_arg6 : StableHlo.after (opsE (F := Ideal)) σ (Proc.devRef .tc main_arg6) = σ (Proc.devRef .tc main_arg6) := by
  entry_read
  rfl
theorem keep_opsE_arg7 : StableHlo.after (opsE (F := Ideal)) σ (Proc.devRef .tc main_arg7) = σ (Proc.devRef .tc main_arg7) := by
  entry_read
  rfl
theorem keep_opsG_arg4 : StableHlo.after (opsG (F := Ideal)) σ (Proc.devRef .tc main_arg4) = σ (Proc.devRef .tc main_arg4) := by
  entry_read
  rfl
theorem keep_opsG_arg6 : StableHlo.after (opsG (F := Ideal)) σ (Proc.devRef .tc main_arg6) = σ (Proc.devRef .tc main_arg6) := by
  entry_read
  rfl
theorem keep_opsG_arg7 : StableHlo.after (opsG (F := Ideal)) σ (Proc.devRef .tc main_arg7) = σ (Proc.devRef .tc main_arg7) := by
  entry_read
  rfl
theorem keep_hostOps0_1_arg4 : StableHlo.after (hostOps0_1 (F := Ideal)) σ (Proc.devRef .tc main_arg4) = σ (Proc.devRef .tc main_arg4) := by
  entry_read
  rfl
theorem keep_hostOps0_1_arg6 : StableHlo.after (hostOps0_1 (F := Ideal)) σ (Proc.devRef .tc main_arg6) = σ (Proc.devRef .tc main_arg6) := by
  entry_read
  rfl
theorem keep_hostOps0_1_arg7 : StableHlo.after (hostOps0_1 (F := Ideal)) σ (Proc.devRef .tc main_arg7) = σ (Proc.devRef .tc main_arg7) := by
  entry_read
  rfl
theorem keep_opsH_arg4 : StableHlo.after (opsH (F := Ideal)) σ (Proc.devRef .tc main_arg4) = σ (Proc.devRef .tc main_arg4) := by
  entry_read
  rfl
theorem keep_opsH_arg6 : StableHlo.after (opsH (F := Ideal)) σ (Proc.devRef .tc main_arg6) = σ (Proc.devRef .tc main_arg6) := by
  entry_read
  rfl
theorem keep_opsH_arg7 : StableHlo.after (opsH (F := Ideal)) σ (Proc.devRef .tc main_arg7) = σ (Proc.devRef .tc main_arg7) := by
  entry_read
  rfl
theorem keep_opsI_arg4 : StableHlo.after (opsI (F := Ideal)) σ (Proc.devRef .tc main_arg4) = σ (Proc.devRef .tc main_arg4) := by
  entry_read
  rfl
theorem keep_opsI_arg6 : StableHlo.after (opsI (F := Ideal)) σ (Proc.devRef .tc main_arg6) = σ (Proc.devRef .tc main_arg6) := by
  entry_read
  rfl
theorem keep_opsI_arg7 : StableHlo.after (opsI (F := Ideal)) σ (Proc.devRef .tc main_arg7) = σ (Proc.devRef .tc main_arg7) := by
  entry_read
  rfl

/-- The scale of the scores. -/
def cE : EReal := Ideal.ofBits .f32 1052289595#32

theorem v3_at (t : Fin 5) (g : Fin 21) (b : Fin 8) (p : Fin 6) (u : Fin 2) (d : Fin 16) :
    (StableHlo.after (opsA (F := Ideal)) σ (Proc.devRef .tc main_v3) : S5x21x8x6x2x16.Idx → EReal) (ix6 t g b p u d)
      = (fun x : EReal => x * cE) ((σ (Proc.devRef .tc main_arg0) : S840x192.Idx → EReal) (ix2 ⟨t.val * 168 + g.val * 8 + b.val, by omega⟩ ⟨p.val * 32 + u.val * 16 + d.val, by omega⟩)) := by
  entry_read
  pointwise
  rfl
theorem v2_at (t : Fin 5) (g : Fin 21) (b : Fin 8) (p : Fin 6) (u : Fin 2) (d : Fin 16) :
    (StableHlo.after (opsA (F := Ideal)) σ (Proc.devRef .tc main_v2) : S5x21x8x6x2x16.Idx → EReal) (ix6 t g b p u d)
      = (fun x : EReal => x * cE) ((σ (Proc.devRef .tc main_arg0) : S840x192.Idx → EReal) (ix2 ⟨t.val * 168 + g.val * 8 + b.val, by omega⟩ ⟨p.val * 32 + u.val * 16 + d.val, by omega⟩)) := by
  entry_read
  pointwise
  rfl
theorem v6_at (t : Fin 5) (g : Fin 21) (b : Fin 8) (p : Fin 6) (u : Fin 2) (d : Fin 16) :
    (StableHlo.after (opsB (F := Ideal)) σ (Proc.devRef .tc main_v6) : S5x21x8x6x2x16.Idx → EReal) (ix6 t g b p u d)
      = (fun a b : EReal => a - b) ((σ (Proc.devRef .tc main_v2) : S5x21x8x6x2x16.Idx → EReal) (ix6 t g b p u d)) ((σ (Proc.devRef .tc main_v3) : S5x21x8x6x2x16.Idx → EReal) (ix6 t g b p u d)) := by
  entry_read
  pointwise
theorem v9_at (t : Fin 5) (g : Fin 21) (b : Fin 8) (p : Fin 6) (u : Fin 2) (d : Fin 16) :
    (StableHlo.after (opsB (F := Ideal)) σ (Proc.devRef .tc main_v9) : S5x21x8x6x2x16.Idx → EReal) (ix6 t g b p u d)
      = (fun a b : EReal => a - b - (a - b)) ((σ (Proc.devRef .tc main_v2) : S5x21x8x6x2x16.Idx → EReal) (ix6 t g b p u d)) ((σ (Proc.devRef .tc main_v3) : S5x21x8x6x2x16.Idx → EReal) (ix6 t g b p u d)) := by
  entry_read
  pointwise
/-- The six pieces side by side, the second, fourth and fifth of them zero. -/
theorem v11_at (g : Fin 21) (p : Fin 6) (u : Fin 2) (t : Fin 5) (b : Fin 8) (x : Fin 96)
    (h6 : ∀ d, (σ (Proc.devRef .tc main_v6) : S5x21x8x6x2x16.Idx → EReal) (ix6 t g b p u d) = (0 : EReal))
    (h9 : ∀ d, (σ (Proc.devRef .tc main_v9) : S5x21x8x6x2x16.Idx → EReal) (ix6 t g b p u d) = (0 : EReal)) :
    (StableHlo.after (opsC (F := Ideal)) σ (Proc.devRef .tc main_v11) : S21x6x2x5x8x96.Idx → EReal) (ix6 g p u t b x)
      = if x.val / 16 = 0 ∨ x.val / 16 = 2 ∨ x.val / 16 = 5 then
          (σ (Proc.devRef .tc main_v3) : S5x21x8x6x2x16.Idx → EReal) (ix6 t g b p u ⟨x.val % 16, Nat.mod_lt _ (by decide)⟩) else (0 : EReal) := by
  have hc : ∀ (d d' : Fin 16), d = d' → (σ (Proc.devRef .tc main_v3) : S5x21x8x6x2x16.Idx → EReal) (ix6 t g b p u d) = (σ (Proc.devRef .tc main_v3) : S5x21x8x6x2x16.Idx → EReal) (ix6 t g b p u d') := by
    rintro d _ rfl; rfl
  entry_read
  pointwise
  by_cases h0 : x.val < 16
  · refine (dif_pos h0).trans (Eq.trans ?_ (if_pos (by omega)).symm); exact hc _ _ (Fin.ext (by dsimp only; omega))
  refine (dif_neg h0).trans ?_
  by_cases h1 : x.val - 16 < 16
  · refine (dif_pos h1).trans (Eq.trans ?_ (if_neg (by omega)).symm); exact h6 _
  refine (dif_neg h1).trans ?_
  by_cases h2 : x.val - 16 - 16 < 16
  · refine (dif_pos h2).trans (Eq.trans ?_ (if_pos (by omega)).symm); exact hc _ _ (Fin.ext (by dsimp only; omega))
  refine (dif_neg h2).trans ?_
  by_cases h3 : x.val - 16 - 16 - 16 < 16
  · refine (dif_pos h3).trans (Eq.trans ?_ (if_neg (by omega)).symm); exact h6 _
  refine (dif_neg h3).trans ?_
  by_cases h4 : x.val - 16 - 16 - 16 - 16 < 16
  · refine (dif_pos h4).trans (Eq.trans ?_ (if_neg (by omega)).symm); exact h9 _
  refine (dif_neg h4).trans (Eq.trans ?_ (if_pos (by omega)).symm); exact hc _ _ (Fin.ext (by dsimp only; omega))
theorem v24_at (g : Fin 21) (n : Fin 6) (r : Fin 80) (x : Fin 192) :
    (StableHlo.after (opsD (F := Ideal)) σ (Proc.devRef .tc main_v24) : S21x6x80x192.Idx → EReal) (ix4 g n r x)
      = if r.val / 40 = x.val / 96 then (σ (Proc.devRef .tc main_v11) : S21x6x2x5x8x96.Idx → EReal) (ix6 g n ⟨r.val / 40, by omega⟩ ⟨r.val % 40 / 8, by omega⟩ ⟨r.val % 8, by omega⟩ ⟨x.val % 96, by omega⟩) else (0 : EReal) := by
  have hc : ∀ (u u' : Fin 2) (t t' : Fin 5) (b b' : Fin 8) (d d' : Fin 96), u = u' → t = t' → b = b' → d = d' →
      (σ (Proc.devRef .tc main_v11) : S21x6x2x5x8x96.Idx → EReal) (ix6 g n u t b d) = (σ (Proc.devRef .tc main_v11) : S21x6x2x5x8x96.Idx → EReal) (ix6 g n u' t' b' d') := by
    rintro u _ t _ b _ d _ rfl rfl rfl rfl; rfl
  entry_read
  pointwise
  by_cases h0 : r.val / 40 < 1
  · refine (dif_pos h0).trans ?_
    by_cases h1 : x.val < 96
    · refine (dif_pos h1).trans (Eq.trans ?_ (if_pos (by omega)).symm); exact hc _ _ _ _ _ _ _ _ (Fin.ext (by show 0 = r.val / 40; omega)) (Fin.ext (by dsimp only; omega)) (Fin.ext (by dsimp only)) (Fin.ext (by dsimp only; omega))
    · refine (dif_neg h1).trans (Eq.trans ?_ (if_neg (by omega)).symm); rfl
  · refine (dif_neg h0).trans ?_
    by_cases h1 : x.val < 96
    · refine (dif_pos h1).trans (Eq.trans ?_ (if_neg (by omega)).symm); rfl
    · refine (dif_neg h1).trans (Eq.trans ?_ (if_pos (by omega)).symm); exact hc _ _ _ _ _ _ _ _ (Fin.ext (by show 1 = r.val / 40; omega)) (Fin.ext (by dsimp only; omega)) (Fin.ext (by dsimp only)) (Fin.ext (by dsimp only; omega))
theorem v26_at (b : Fin 168) (h : Fin 12) (d : Fin 16) (t : Fin 5) :
    (StableHlo.after (opsE (F := Ideal)) σ (Proc.devRef .tc main_v26) : S168x12x16x5.Idx → EReal) (ix4 b h d t)
      = (σ (Proc.devRef .tc main_arg1) : S840x192.Idx → EReal) (ix2 ⟨t.val * 168 + b.val, by omega⟩ ⟨h.val * 16 + d.val, by omega⟩) := by
  entry_read
  pointwise
/-- The identity matrix. -/
theorem v32_at (a b : Fin 12) :
    (StableHlo.after (opsE (F := Ideal)) σ (Proc.devRef .tc main_v32) : S12x12.Idx → EReal) (ix2 a b) = if a = b then (1 : EReal) else 0 := by
  entry_read
  pointwise
  have h : ∀ a b : Fin 12, IntOp.cmpi CmpIPredicate.eq (IntOp.addi (BitVec.ofNat 32 a.val) 0#32) (BitVec.ofNat 32 b.val) = if a = b then 1#1 else 0#1 := by decide
  rw [h]
  split_ifs
  · show (((1#1 : BitVec 1).toNat : ℝ) : EReal) = 1
    simp
  · show (((0#1 : BitVec 1).toNat : ℝ) : EReal) = 0
    simp
theorem v38_at (b : Fin 168) (a : Fin 192) (x : Fin 60) :
    (StableHlo.after (opsG (F := Ideal)) σ (Proc.devRef .tc main_v38) : S168x192x60.Idx → EReal) (ix3 b a x)
      = (fun a b : EReal => a * b) ((σ (Proc.devRef .tc main_v26) : S168x12x16x5.Idx → EReal) (ix4 b ⟨a.val / 16, by omega⟩ ⟨a.val % 16, by omega⟩ ⟨x.val % 5, by omega⟩))
        ((σ (Proc.devRef .tc main_v32) : S12x12.Idx → EReal) (ix2 ⟨a.val / 16, by omega⟩ ⟨x.val / 5, by omega⟩)) := by
  entry_read
  pointwise
theorem c1_eq : (StableHlo.after (opsG (F := Ideal)) σ (Proc.devRef .tc main_c_1) : S_.Idx → BitVec 32) = fun _ => 0#32 := by
  entry_read
  rfl
theorem pad_at (z : FVec Ideal S168x192x60 .f32) (i : IVec S_ 32) (b : Fin 168) (a : Fin 192) (x : Fin 64) (h0 : i = fun _ => 0#32) :
    pad S168x192x64 ![0, 0, 0] ![0, 0, 4] ![0, 0, 0] z (sitofp .f32 i : FVec Ideal S_ .f32) pads_S168x192x60_S168x192x64_000_000_040 h_S_ (ix3 b a x)
      = if h : x.val < 60 then z (ix3 b a ⟨x.val, h⟩) else (0 : EReal) := by
  subst h0
  pointwise
  rw [show (FloatOps.sitofp FTy.f32 0#32 : Ideal .f32) = (0 : EReal) from by
    show (((0#32 : BitVec 32).toInt : ℝ) : EReal) = 0
    simp]
theorem v39_at (b : Fin 168) (a : Fin 192) (x : Fin 64) (h0 : (σ (Proc.devRef .tc main_c_1) : S_.Idx → BitVec 32) = fun _ => 0#32) :
    (StableHlo.after (hostOps0_1 (F := Ideal)) σ (Proc.devRef .tc main_v39) : S168x192x64.Idx → EReal) (ix3 b a x)
      = if h : x.val < 60 then (σ (Proc.devRef .tc main_v38) : S168x192x60.Idx → EReal) (ix3 b a ⟨x.val, h⟩) else (0 : EReal) :=
  Eq.trans rfl (pad_at (σ (Proc.devRef .tc main_v38)) (σ (Proc.devRef .tc main_c_1)) b a x h0)
theorem v40_at (b : Fin 168) (a : Fin 192) (x : Fin 64) :
    (StableHlo.after (opsH (F := Ideal)) σ (Proc.devRef .tc main_v40) : S168x192x64.Idx → EReal) (ix3 b a x) = (σ (Proc.devRef .tc main_v39) : S168x192x64.Idx → EReal) (ix3 b a x) := by
  entry_read
  pointwise
theorem v43_at (b : Fin 168) (a : Fin 192) (x : Fin 64) :
    (StableHlo.after (opsH (F := Ideal)) σ (Proc.devRef .tc main_v43) : S168x192x64.Idx → EReal) (ix3 b a x) = (fun a : EReal => a - a) ((σ (Proc.devRef .tc main_v39) : S168x192x64.Idx → EReal) (ix3 b a x)) := by
  entry_read
  pointwise
theorem v46_at (b : Fin 168) (a : Fin 192) (x : Fin 64) :
    (StableHlo.after (opsH (F := Ideal)) σ (Proc.devRef .tc main_v46) : S168x192x64.Idx → EReal) (ix3 b a x) = (fun a : EReal => a - a - (a - a)) ((σ (Proc.devRef .tc main_v39) : S168x192x64.Idx → EReal) (ix3 b a x)) := by
  entry_read
  pointwise
theorem v47_at (b : Fin 168) (a : Fin 192) (x : Fin 384)
    (h43 : ∀ d, (σ (Proc.devRef .tc main_v43) : S168x192x64.Idx → EReal) (ix3 b a d) = (0 : EReal))
    (h46 : ∀ d, (σ (Proc.devRef .tc main_v46) : S168x192x64.Idx → EReal) (ix3 b a d) = (0 : EReal)) :
    (StableHlo.after (opsI (F := Ideal)) σ (Proc.devRef .tc main_v47) : S168x192x384.Idx → EReal) (ix3 b a x)
      = if x.val < 192 then (σ (Proc.devRef .tc main_v40) : S168x192x64.Idx → EReal) (ix3 b a ⟨x.val % 64, Nat.mod_lt _ (by decide)⟩) else (0 : EReal) := by
  have hc : ∀ (d d' : Fin 64), d = d' → (σ (Proc.devRef .tc main_v40) : S168x192x64.Idx → EReal) (ix3 b a d) = (σ (Proc.devRef .tc main_v40) : S168x192x64.Idx → EReal) (ix3 b a d') := by
    rintro d _ rfl; rfl
  entry_read
  pointwise
  by_cases h0 : x.val < 64
  · refine (dif_pos h0).trans (Eq.trans ?_ (if_pos (by omega)).symm); exact hc _ _ (Fin.ext (by dsimp only; omega))
  refine (dif_neg h0).trans ?_
  by_cases h1 : x.val - 64 < 64
  · refine (dif_pos h1).trans (Eq.trans ?_ (if_pos (by omega)).symm); exact hc _ _ (Fin.ext (by dsimp only; omega))
  refine (dif_neg h1).trans ?_
  by_cases h2 : x.val - 64 - 64 < 64
  · refine (dif_pos h2).trans (Eq.trans ?_ (if_pos (by omega)).symm); exact hc _ _ (Fin.ext (by dsimp only; omega))
  refine (dif_neg h2).trans (Eq.trans ?_ (if_neg (by omega)).symm)
  split_ifs <;> first
    | exact h43 _
    | exact h46 _
theorem v49_at (r : Fin 384) (n : Fin 128) :
    (StableHlo.after (opsJ (F := Ideal)) σ (Proc.devRef .tc main_v49) : S384x128.Idx → EReal) (ix2 r n) = (σ (Proc.devRef .tc main_arg4) : S384.Idx → EReal) (ix1 r) := by
  entry_read
  pointwise
theorem v51_at (r : Fin 384) (n : Fin 128) :
    (StableHlo.after (opsJ (F := Ideal)) σ (Proc.devRef .tc main_v51) : S384x128.Idx → EReal) (ix2 r n) = (σ (Proc.devRef .tc main_arg6) : S384.Idx → EReal) (ix1 r) := by
  entry_read
  pointwise
theorem v53_at (r : Fin 384) (n : Fin 128) :
    (StableHlo.after (opsJ (F := Ideal)) σ (Proc.devRef .tc main_v53) : S384x128.Idx → EReal) (ix2 r n) = (σ (Proc.devRef .tc main_arg7) : S384.Idx → EReal) (ix1 r) := by
  entry_read
  pointwise

end

end Cert.KernelIdeal.Hand
-- ==== Proof.Spec.lean ====
/-
  The image call's mathematics at one position of one set, as functions of extended reals: softmax weights, attention
  output, the power-of-two scale of thirty-two channels and the codes.
-/
module

public import Idealize.ShloMosaic.Lib.Pointwise

@[expose] public section

noncomputable section

namespace I2t.Spec

open Idealize.ShloMosaic

/-- The largest of the five scores. -/
def mx (s : Fin 5 → EReal) : EReal := Finset.fold max (Ideal.ofBits .f32 4286578688#32) s Finset.univ
/-- The softmax weight of token `t`. -/
def prob (s : Fin 5 → EReal) (t : Fin 5) : EReal :=
  Ideal.div (Ideal.exp2 (s t - mx s)) (∑ x, Ideal.exp2 (s x - mx s))
/-- One channel of the attention output. -/
def attn (s v : Fin 5 → EReal) : EReal := ∑ t, prob s t * v t
/-- The largest magnitude of thirty-two channels over the format's largest number. -/
def ratio (o : Fin 32 → EReal) : EReal :=
  Finset.fold max (Ideal.ofBits .f32 4286578688#32) (fun x => max (o x) (-(o x))) Finset.univ * Ideal.ofBits .f32 991054117#32
/-- The scale's exponent. -/
def expo (r : EReal) : EReal :=
  if r < Ideal.ofBits .f32 8388608#32 then 0
  else Ideal.liftRound Int.floor (Ideal.div (Ideal.log r) (Ideal.log (Ideal.ofBits .f32 1073741824#32))) + 1
def scale (r : EReal) : EReal := Ideal.exp2 (expo r)
def code (o r : EReal) : EReal :=
  min (Ideal.ofBits .f32 1138753536#32) (max (Ideal.ofBits .f32 3286237184#32) (o * Ideal.exp2 (0 - expo r)))

end I2t.Spec
-- ==== Proof.Quant.lean ====
/-
  Facts of the softmax weights and of the power-of-two scales over the reals: the kernel's search for an exponent field
  finds the scale that the reference computes by a logarithm.
-/
module

public import proofs.«01_k».proof.Proof.Spec

@[expose] public section

noncomputable section

namespace I2t.Spec

open Idealize.ShloMosaic

/-! ## Sums, quotients and maxima of reals -/

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum over the places where the summand may differ from zero. -/
theorem sum_inj {ι κ : Type} [Fintype ι] [Fintype κ] (e : ι → κ) (hi : ∀ a b, e a = e b → a = b) (f : κ → EReal)
    (h : ∀ x, (∀ i, e i ≠ x) → f x = 0) : ∑ i, f (e i) = ∑ x, f x := by
  classical
  have h1 := Finset.sum_map Finset.univ (⟨e, fun a b => hi a b⟩ : ι ↪ κ) f
  refine h1.symm.trans (Finset.sum_subset (Finset.subset_univ _) fun x _ hx => h x fun i hi' => hx ?_)
  rw [← hi']
  exact Finset.mem_map_of_mem (⟨e, fun a b => hi a b⟩ : ι ↪ κ) (Finset.mem_univ i)

theorem coe_max' (a b : ℝ) : ((max a b : ℝ) : EReal) = max (a : EReal) (b : EReal) := EReal.coe_strictMono.monotone.map_max
theorem coe_min' (a b : ℝ) : ((min a b : ℝ) : EReal) = min (a : EReal) (b : EReal) := EReal.coe_strictMono.monotone.map_min

theorem div_coe' (a b : ℝ) (hb : b ≠ 0) : Ideal.div (a : EReal) (b : EReal) = ((a / b : ℝ) : EReal) := by
  have h : (b : EReal) ≠ 0 := fun h => hb (EReal.coe_eq_zero.mp h)
  unfold Ideal.div
  rw [if_neg h, ← EReal.coe_inv, ← EReal.coe_mul, div_eq_mul_inv]

theorem bot_bits : Ideal.ofBits .f32 4286578688#32 = ⊥ := by simp [Ideal.ofBits, Ideal.ieee]

theorem mx_eq (s : Fin 5 → EReal) : mx s = max (max (max (s 0) (s 1)) (max (s 2) (s 3))) (s 4) := by
  unfold mx
  rw [bot_bits, show (Finset.univ : Finset (Fin 5)) = {0, 1, 2, 3, 4} by decide]
  rw [Finset.fold_insert (by decide), Finset.fold_insert (by decide), Finset.fold_insert (by decide), Finset.fold_insert (by decide), Finset.fold_singleton]
  rw [max_bot_right]
  ac_rfl

/-! ## The softmax weights -/

/-- The softmax weights of real scores are real, not negative, and sum to one; and the kernel's product with the
    reciprocal is the quotient. -/
theorem prob_real (s : Fin 5 → ℝ) : ∃ p : Fin 5 → ℝ, (∀ t, 0 ≤ p t) ∧ ∑ t, p t = 1 ∧ (∀ t, prob (fun t => (s t : EReal)) t = p t) ∧
    ∀ t, Ideal.exp2 ((s t : EReal) - mx fun t => (s t : EReal)) * Ideal.div 1
      (((Ideal.exp2 ((s 0 : EReal) - mx fun t => (s t : EReal)) + Ideal.exp2 ((s 1 : EReal) - mx fun t => (s t : EReal)))
        + (Ideal.exp2 ((s 2 : EReal) - mx fun t => (s t : EReal)) + Ideal.exp2 ((s 3 : EReal) - mx fun t => (s t : EReal))))
        + Ideal.exp2 ((s 4 : EReal) - mx fun t => (s t : EReal))) = p t := by
  obtain ⟨M, hM⟩ : ∃ M : ℝ, (mx fun t => (s t : EReal)) = M := ⟨_, by rw [mx_eq, ← coe_max', ← coe_max', ← coe_max', ← coe_max']⟩
  set e : Fin 5 → ℝ := fun t => Real.rpow 2 (s t - M) with he
  have hE : ∀ t, Ideal.exp2 ((s t : EReal) - mx fun t => (s t : EReal)) = (e t : EReal) := by
    intro t; rw [hM, ← EReal.coe_sub, Ideal.exp2_coe]
  have hpos : ∀ t, 0 < e t := fun t => Real.rpow_pos_of_pos (by norm_num) _
  have hS : 0 < ∑ t, e t := Finset.sum_pos (fun t _ => hpos t) Finset.univ_nonempty
  refine ⟨fun t => e t / ∑ x, e x, fun t => (div_pos (hpos t) hS).le, ?_, fun t => ?_, fun t => ?_⟩
  · rw [← Finset.sum_div, div_self hS.ne']
  · unfold prob
    simp only [hE]
    rw [coe_sum, div_coe' _ _ hS.ne']
  · simp only [hE]
    have h5 : e 0 + e 1 + (e 2 + e 3) + e 4 = ∑ x, e x := by
      rw [Fin.sum_univ_five]; ring
    rw [← EReal.coe_add, ← EReal.coe_add, ← EReal.coe_add, ← EReal.coe_add, h5, ← EReal.coe_one, div_coe' _ _ hS.ne', ← EReal.coe_mul]
    congr 1
    ring

/-! ## Powers of two as bit patterns -/

theorem shl23 (x : BitVec 32) : IntOp.shli ArithUnit.vector x 23#32 = x <<< 23 := by
  rfl

/-- What the pattern with exponent field `n` and no fraction denotes. -/
def fb (n : ℕ) : EReal := if n = 0 then 0 else if n < 255 then (((2 : ℝ) ^ ((n : ℤ) - 127) : ℝ) : EReal) else ⊤

theorem ieee_fb (b : BitVec 32) (n : ℕ) (hn : n ≤ 255) (h1 : (b.extractLsb' 23 8).toNat = n) (h2 : (b.extractLsb' 0 23).toNat = 0)
    (h3 : (b.extractLsb' 31 1 == 1#1) = false) : Ideal.ofBits .f32 b = fb n := by
  have e : Ideal.ofBits .f32 b = (if (b.extractLsb' 23 8).toNat = 2 ^ 8 - 1 then (if (b.extractLsb' 0 23).toNat = 0 then (if (b.extractLsb' 31 1 == 1#1) = true then ⊥ else ⊤) else ⊥)
    else if (b.extractLsb' 23 8).toNat = 0 then (((if (b.extractLsb' 31 1 == 1#1) = true then (-1 : ℝ) else 1) * ((b.extractLsb' 0 23).toNat : ℝ) * (2 : ℝ) ^ (1 - ((2 : ℤ) ^ (8 - 1) - 1) - ((23 : ℕ) : ℤ)) : ℝ) : EReal)
    else (((if (b.extractLsb' 31 1 == 1#1) = true then (-1 : ℝ) else 1) * ((2 ^ 23 + (b.extractLsb' 0 23).toNat : ℕ) : ℝ) * (2 : ℝ) ^ (((b.extractLsb' 23 8).toNat : ℤ) - ((2 : ℤ) ^ (8 - 1) - 1) - ((23 : ℕ) : ℤ)) : ℝ) : EReal)) := rfl
  rw [e, h1, h2, h3]
  simp only [Bool.false_eq_true, if_false, one_mul, Nat.add_zero]
  unfold fb
  by_cases h0 : n = 0
  · rw [if_neg (show ¬ n = 2 ^ 8 - 1 by omega), if_pos h0, if_pos h0]; simp
  by_cases h255 : n = 255
  · rw [if_pos (show n = 2 ^ 8 - 1 by omega), if_neg h0, if_neg (show ¬ n < 255 by omega)]; simp
  rw [if_neg (show ¬ n = 2 ^ 8 - 1 by omega), if_neg h0, if_neg h0, if_pos (show n < 255 by omega)]
  rw [show ((2 ^ 23 : ℕ) : ℝ) = (2 : ℝ) ^ (23 : ℤ) by norm_num, ← zpow_add₀ (by norm_num)]
  congr 2
  norm_num

theorem ofBits_fb (n : ℕ) (hn : n ≤ 255) : Ideal.ofBits .f32 (IntOp.shli ArithUnit.vector (BitVec.ofNat 32 n) 23#32) = fb n := by
  rw [shl23]
  have ht : (BitVec.ofNat 32 n <<< 23).toNat = n * 2 ^ 23 := by
    rw [BitVec.toNat_shiftLeft, BitVec.toNat_ofNat, Nat.shiftLeft_eq]
    omega
  generalize BitVec.ofNat 32 n <<< 23 = b at ht ⊢
  refine ieee_fb b n hn ?_ ?_ ?_
  · rw [BitVec.extractLsb'_toNat, ht, Nat.shiftRight_eq_div_pow]
    omega
  · rw [BitVec.extractLsb'_toNat, ht, Nat.shiftRight_eq_div_pow]
    omega
  · have : (b.extractLsb' 31 1).toNat = 0 := by
      rw [BitVec.extractLsb'_toNat, ht, Nat.shiftRight_eq_div_pow]
      omega
    rw [BitVec.eq_of_toNat_eq (y := 0#1) this]; rfl

/-- One step of the search. -/
def stp (x : EReal) (s e : BitVec 32) : BitVec 32 :=
  if Ideal.ofBits .f32 (IntOp.shli ArithUnit.vector (IntOp.addi e s) 23#32) ≤ x then IntOp.addi e s else e

theorem stp_spec (x : EReal) (st : ℕ) (e : BitVec 32) (hst : 1 ≤ st)
    (h : ∃ n, e = BitVec.ofNat 32 n ∧ n + 2 * st ≤ 256 ∧ fb n ≤ x ∧ x < fb (n + 2 * st)) :
    ∃ n, stp x (BitVec.ofNat 32 st) e = BitVec.ofNat 32 n ∧ n + st ≤ 256 ∧ fb n ≤ x ∧ x < fb (n + st) := by
  obtain ⟨n, rfl, hn, h1, h2⟩ := h
  have ha : IntOp.addi (BitVec.ofNat 32 n) (BitVec.ofNat 32 st) = BitVec.ofNat 32 (n + st) := (BitVec.ofNat_add n st).symm
  unfold stp
  rw [ha, ofBits_fb _ (by omega)]
  by_cases hc : fb (n + st) ≤ x
  · rw [if_pos hc]
    exact ⟨n + st, rfl, by omega, hc, by rw [add_assoc, ← two_mul]; exact h2⟩
  · rw [if_neg hc]
    exact ⟨n, rfl, by omega, h1, not_le.mp hc⟩

/-- The exponent field. -/
def fld (x : EReal) : BitVec 32 :=
  stp x 1#32 (stp x 2#32 (stp x 4#32 (stp x 8#32 (stp x 16#32 (stp x 32#32 (stp x 64#32 (stp x 128#32 0#32)))))))
/-- The field, 126 in place of 0. -/
def fix (e : BitVec 32) : BitVec 32 := Scalar.select (IntOp.cmpi CmpIPredicate.eq e 0#32) (126#32) e

theorem fld_spec (x : EReal) (h0 : 0 ≤ x) (h1 : x < ⊤) : ∃ n, fld x = BitVec.ofNat 32 n ∧ n + 1 ≤ 256 ∧ fb n ≤ x ∧ x < fb (n + 1) := by
  unfold fld
  refine stp_spec x 1 _ (by norm_num) (stp_spec x 2 _ (by norm_num) (stp_spec x 4 _ (by norm_num) (stp_spec x 8 _ (by norm_num)
    (stp_spec x 16 _ (by norm_num) (stp_spec x 32 _ (by norm_num) (stp_spec x 64 _ (by norm_num) (stp_spec x 128 _ (by norm_num) ⟨0, rfl, by norm_num, ?_, ?_⟩)))))))
  · simpa [fb] using h0
  · simpa [fb] using h1

/-! ## The scale -/

theorem low_bits : Ideal.ofBits .f32 8388608#32 = (((2 : ℝ) ^ (-126 : ℤ) : ℝ) : EReal) := by
  simp [Ideal.ofBits, Ideal.ieee, -EReal.coe_mul]; norm_num
theorem two_bits : Ideal.ofBits .f32 1073741824#32 = ((2 : ℝ) : EReal) := by
  simp [Ideal.ofBits, Ideal.ieee, -EReal.coe_mul]; norm_num

/-- The kernel's scale and its reciprocal are the reference's, for a real ratio that is not negative and below `2 ^ 126`. -/
theorem scale_eq (r : ℝ) (h0 : 0 ≤ r) (h1 : r < 2 ^ (126 : ℤ)) :
    ∃ k : ℤ, expo (r : EReal) = ((k : ℝ) : EReal) ∧
      Ideal.ofBits .f32 (IntOp.shli ArithUnit.vector (IntOp.addi (fix (fld r)) 1#32) 23#32) = scale r ∧
      Ideal.ofBits .f32 (IntOp.shli ArithUnit.vector (IntOp.subi 253#32 (fix (fld r))) 23#32) = Ideal.exp2 (0 - expo r) := by
  have h2 : (0 : ℝ) < 2 := by norm_num
  have hx : ∀ k : ℤ, Ideal.exp2 ((k : ℝ) : EReal) = (((2 : ℝ) ^ k : ℝ) : EReal) := by
    intro k; rw [Ideal.exp2_coe]; congr 1; exact Real.rpow_intCast 2 k
  obtain ⟨n, hn, hle, hlo, hhi⟩ := fld_spec r (by exact_mod_cast h0) (EReal.coe_lt_top r)
  have key : ∃ k : ℤ, expo (r : EReal) = ((k : ℝ) : EReal) ∧ ∃ m : ℕ, fix (BitVec.ofNat 32 n) = BitVec.ofNat 32 m ∧ 1 ≤ m ∧ m ≤ 252 ∧ k = (m : ℤ) - 126 := by
    by_cases hz : n = 0
    · subst hz
      refine ⟨0, ?_, 126, rfl, by norm_num, by norm_num, by norm_num⟩
      unfold expo
      rw [low_bits, if_pos]
      · simp
      · simpa [fb] using hhi
    · have h255 : n < 255 := by
        by_contra hc
        have : fb n = ⊤ := by unfold fb; rw [if_neg hz, if_neg hc]
        rw [this] at hlo
        exact absurd hlo (not_le.mpr (EReal.coe_lt_top r))
      have hlo' : (2 : ℝ) ^ ((n : ℤ) - 127) ≤ r := by
        unfold fb at hlo; rw [if_neg hz, if_pos h255] at hlo; exact_mod_cast hlo
      have h252 : n ≤ 252 := by
        have := lt_of_le_of_lt hlo' h1
        have := (zpow_lt_zpow_iff_right₀ (by norm_num : (1 : ℝ) < 2)).mp this
        omega
      have hhi' : r < (2 : ℝ) ^ ((n : ℤ) - 126) := by
        unfold fb at hhi; rw [if_neg (by omega), if_pos (by omega)] at hhi
        have := EReal.coe_lt_coe_iff.mp hhi
        rwa [show (((n + 1 : ℕ) : ℤ) - 127) = (n : ℤ) - 126 by push_cast; ring] at this
      have hrpos : 0 < r := lt_of_lt_of_le (zpow_pos h2 _) hlo'
      refine ⟨(n : ℤ) - 126, ?_, n, ?_, by omega, h252, rfl⟩
      · unfold expo
        rw [low_bits, if_neg, two_bits, Ideal.log_coe, Ideal.log_coe, if_neg (not_le.mpr hrpos), if_neg (by norm_num), div_coe' _ _ (Real.log_pos (by norm_num)).ne',
          Ideal.liftRound_coe]
        · have hf : ⌊Real.log r / Real.log 2⌋ = (n : ℤ) - 127 := by
            have hl : 0 < Real.log 2 := Real.log_pos (by norm_num)
            rw [Int.floor_eq_iff]
            constructor
            · rw [le_div_iff₀ hl, ← Real.log_zpow]
              exact Real.log_le_log (zpow_pos h2 _) hlo'
            · rw [div_lt_iff₀ hl]
              have := Real.log_lt_log hrpos hhi'
              rw [Real.log_zpow] at this
              push_cast at this ⊢
              linarith
          rw [hf, ← EReal.coe_one, ← EReal.coe_add]
          congr 1
          push_cast
          ring
        · rw [not_lt]
          have : (2 : ℝ) ^ (-126 : ℤ) ≤ (2 : ℝ) ^ ((n : ℤ) - 127) := zpow_le_zpow_right₀ (by norm_num) (by omega)
          exact_mod_cast this.trans hlo'
      · unfold fix
        have : IntOp.cmpi CmpIPredicate.eq (BitVec.ofNat 32 n) 0#32 = 0#1 := by
          show BitVec.ofBool (BitVec.ofNat 32 n == 0#32) = 0#1
          have : (BitVec.ofNat 32 n == 0#32) = false := by
            rw [beq_eq_false_iff_ne]
            intro h
            have := congrArg BitVec.toNat h
            rw [BitVec.toNat_ofNat] at this
            simp at this
            omega
          rw [this]; rfl
        rw [this]; rfl
  obtain ⟨k, hk, m, hm, h1m, hm2, hkm⟩ := key
  refine ⟨k, hk, ?_, ?_⟩
  · rw [hn, hm, show IntOp.addi (BitVec.ofNat 32 m) 1#32 = BitVec.ofNat 32 (m + 1) from (BitVec.ofNat_add m 1).symm, ofBits_fb _ (by omega)]
    unfold scale fb
    rw [hk, hx, if_neg (by omega), if_pos (by omega), hkm]
    congr 2
    push_cast
    ring
  · have : IntOp.subi 253#32 (BitVec.ofNat 32 m) = BitVec.ofNat 32 (253 - m) := by
      show 253#32 - BitVec.ofNat 32 m = _
      apply BitVec.eq_of_toNat_eq
      rw [BitVec.toNat_sub, BitVec.toNat_ofNat, BitVec.toNat_ofNat, BitVec.toNat_ofNat]
      omega
    rw [hn, hm, this, ofBits_fb _ (by omega), hk, zero_sub, ← EReal.coe_neg, ← Int.cast_neg, hx]
    unfold fb
    rw [if_neg (by omega), if_pos (by omega), hkm]
    congr 2
    omega

end I2t.Spec
-- ==== Proof.KerAttn.lean ====
/-
  The kernel's attention output at an index, over the reals: the scores from the six product terms, the softmax weights
  in the probability scratch, and the products of the split values and probabilities.
-/
module

public import proofs.«01_k».proof.Proof.Final
public import proofs.«01_k».proof.Proof.Quant
public import Idealize.ShloMosaic.Lib.Pointwise

@[expose] public section

set_option maxRecDepth 16384

noncomputable section

namespace I2t

open Idealize.ShloMosaic Idealize.ShloMosaic.Pointwise Idealize.ShloMosaic.VecWindow

/-! ## Reads -/

theorem vix3 {n0 n1 n2 : ℕ} (a : Fin n0) (b : Fin n1) (c : Fin n2) : ValueIdx.ix3 a b c = ix3 a b c := by
  funext i; fin_cases i <;> rfl

theorem window2 {α : Type} {t0 t1 o0 o1 s0 s1 : ℕ} (x : (⟨2, ![t0, t1]⟩ : Shape).Idx → α)
    (h : ∀ a : Fin 2, (![o0, o1] : Fin 2 → ℕ) a + (![s0, s1] : Fin 2 → ℕ) a ≤ (![t0, t1] : Fin 2 → ℕ) a) (i : Fin s0) (j : Fin s1) :
    window (s := ⟨2, ![t0, t1]⟩) x ![o0, o1] ![s0, s1] h (ix2 i j)
      = x (ix2 ⟨o0 + i.val, lt_of_lt_of_le (Nat.add_lt_add_left i.isLt o0) (h 0)⟩ ⟨o1 + j.val, lt_of_lt_of_le (Nat.add_lt_add_left j.isLt o1) (h 1)⟩) := by
  refine congrArg x (funext fun a => Fin.ext ?_)
  fin_cases a
  · show o0 + 1 * i.val = o0 + i.val; omega
  · show o1 + 1 * j.val = o1 + j.val; omega
theorem window3 {α : Type} {t0 t1 t2 o0 o1 o2 s0 s1 s2 : ℕ} (x : (⟨3, ![t0, t1, t2]⟩ : Shape).Idx → α)
    (h : ∀ a : Fin 3, (![o0, o1, o2] : Fin 3 → ℕ) a + (![s0, s1, s2] : Fin 3 → ℕ) a ≤ (![t0, t1, t2] : Fin 3 → ℕ) a) (i : Fin s0) (j : Fin s1) (k : Fin s2) :
    window (s := ⟨3, ![t0, t1, t2]⟩) x ![o0, o1, o2] ![s0, s1, s2] h (ix3 i j k)
      = x (ix3 ⟨o0 + i.val, lt_of_lt_of_le (Nat.add_lt_add_left i.isLt o0) (h 0)⟩ ⟨o1 + j.val, lt_of_lt_of_le (Nat.add_lt_add_left j.isLt o1) (h 1)⟩
        ⟨o2 + k.val, lt_of_lt_of_le (Nat.add_lt_add_left k.isLt o2) (h 2)⟩) := by
  refine congrArg x (funext fun a => Fin.ext ?_)
  fin_cases a
  · show o0 + 1 * i.val = o0 + i.val; omega
  · show o1 + 1 * j.val = o1 + j.val; omega
  · show o2 + 1 * k.val = o2 + k.val; omega
theorem window4 {α : Type} {t0 t1 t2 t3 o0 o1 o2 o3 s0 s1 s2 s3 : ℕ} (x : (⟨4, ![t0, t1, t2, t3]⟩ : Shape).Idx → α)
    (h : ∀ a : Fin 4, (![o0, o1, o2, o3] : Fin 4 → ℕ) a + (![s0, s1, s2, s3] : Fin 4 → ℕ) a ≤ (![t0, t1, t2, t3] : Fin 4 → ℕ) a)
    (i : Fin s0) (j : Fin s1) (k : Fin s2) (l : Fin s3) :
    window (s := ⟨4, ![t0, t1, t2, t3]⟩) x ![o0, o1, o2, o3] ![s0, s1, s2, s3] h (ix4 i j k l)
      = x (ix4 ⟨o0 + i.val, lt_of_lt_of_le (Nat.add_lt_add_left i.isLt o0) (h 0)⟩ ⟨o1 + j.val, lt_of_lt_of_le (Nat.add_lt_add_left j.isLt o1) (h 1)⟩
        ⟨o2 + k.val, lt_of_lt_of_le (Nat.add_lt_add_left k.isLt o2) (h 2)⟩ ⟨o3 + l.val, lt_of_lt_of_le (Nat.add_lt_add_left l.isLt o3) (h 3)⟩) := by
  refine congrArg x (funext fun a => Fin.ext ?_)
  fin_cases a
  · show o0 + 1 * i.val = o0 + i.val; omega
  · show o1 + 1 * j.val = o1 + j.val; omega
  · show o2 + 1 * k.val = o2 + k.val; omega
  · show o3 + 1 * l.val = o3 + l.val; omega

/-! ## The vector pieces -/

theorem scoreVec_at (kb : Vec Ideal S1x1x80x192 .bf16) (qb : Vec Ideal S192x512 .bf16) (r : Fin 80) (l : Fin 512) :
    scoreVec kb qb (ix2 r l) = ∑ x : Fin 192, kb (ix4 0 0 r x) * qb (ix2 x l) := by
  pointwise [scoreVec]
theorem scoreLane_at (sc : FVec Ideal S80x512 .f32) (l : ℕ) (hl : l < 4) (r : Fin 80) (y : Fin 128) :
    scoreLane sc l hl (ix3 0 r y) = sc (ix2 r ⟨l * 128 + y.val, by omega⟩) := by
  pointwise [scoreLane]
theorem sm_at (s0 s1 s2 s3 s4 s : Vec Ideal S1x8x128 .f32) (r : Fin 8) (y : Fin 128) :
    smOut (smExp s (smMax s0 s1 s2 s3 s4)) (smRec (smExp s0 (smMax s0 s1 s2 s3 s4)) (smExp s1 (smMax s0 s1 s2 s3 s4))
      (smExp s2 (smMax s0 s1 s2 s3 s4)) (smExp s3 (smMax s0 s1 s2 s3 s4)) (smExp s4 (smMax s0 s1 s2 s3 s4))) (ix3 0 r y)
    = (fun (f : Fin 5 → EReal) (z : EReal) => Ideal.exp2 (z - Spec.mx f) * Ideal.div 1
        (((Ideal.exp2 (f 0 - Spec.mx f) + Ideal.exp2 (f 1 - Spec.mx f)) + (Ideal.exp2 (f 2 - Spec.mx f) + Ideal.exp2 (f 3 - Spec.mx f)))
          + Ideal.exp2 (f 4 - Spec.mx f)))
      ![s0 (ix3 0 r y), s1 (ix3 0 r y), s2 (ix3 0 r y), s3 (ix3 0 r y), s4 (ix3 0 r y)] (s (ix3 0 r y)) := by
  pointwise [smOut, smExp, smRec, smMax]
  rw [Spec.mx_eq]
  rfl
theorem zeroRows_at (r : Fin 32) (y : Fin 128) : zeroRows (F := Ideal) (ix3 0 r y) = (0 : EReal) := by
  pointwise [zeroRows]
theorem probVec_at (p : (l : ℕ) → l < 4 → Vec Ideal S1x64x128 .f32) (r : Fin 64) (y : Fin 512) :
    probVec (p 0 (by omega)) (p 1 (by omega)) (p 2 (by omega)) (p 3 (by omega)) (ix2 r y)
      = p (y.val / 128) (by omega) (ix3 0 r ⟨y.val % 128, by omega⟩) := by
  have hc : ∀ (l l' : ℕ) (h : l < 4) (h' : l' < 4) (i i' : Fin 128), l = l' → i = i' → p l h (ix3 0 r i) = p l' h' (ix3 0 r i') := by
    rintro l _ h h' i _ rfl rfl; rfl
  pointwise [probVec]
  split_ifs
  all_goals exact hc _ _ _ _ _ _ (by omega) (Fin.ext (by dsimp only; omega))
/-- The output, of real probabilities: the remainders of the split are zero. -/
theorem outVec_at (p : FVec Ideal S64x512 .f32) (v : Vec Ideal S1x192x384 .bf16) (a : Fin 6) (j : Fin 32) (y : Fin 512)
    (P : Fin 64 → ℝ) (hp : ∀ x, p (ix2 x y) = ((P x : ℝ) : EReal))
    (hv : ∀ x : Fin 384, 192 ≤ x.val → v (ix3 0 ⟨a.val * 32 + j.val, by omega⟩ x) = (0 : EReal)) :
    outVec p v (ix3 a j y) = ∑ x : Fin 64, v (ix3 0 ⟨a.val * 32 + j.val, by omega⟩ ⟨x.val, by omega⟩) * p (ix2 x y) := by
  have hz : ∀ x, p (ix2 x y) - p (ix2 x y) = (0 : EReal) := by
    intro x; rw [hp, ← EReal.coe_sub, sub_self, EReal.coe_zero]
  pointwise [outVec]
  simp only [hz, sub_zero, mul_zero, zero_add, Finset.sum_const_zero]
  rw [show (∑ x : Fin 64, v (ix3 0 ⟨a.val * 32 + j.val, by omega⟩ ⟨256 + (64 + x.val), by omega⟩) * p (ix2 x y)) = 0 from
    Finset.sum_eq_zero fun x _ => by rw [hv _ (by show 192 ≤ 256 + (64 + x.val); omega), zero_mul], add_zero]
  rw [← Spec.sum_inj (fun x : Fin 64 => (⟨x.val, by omega⟩ : Fin 256)) (fun x y h => Fin.ext (by simpa using h))]
  · refine Finset.sum_congr rfl fun x _ => ?_
    rw [dif_pos (show ((⟨x.val, by omega⟩ : Fin 256) : ℕ) < 64 from x.isLt)]
  · intro x hx
    have hge : 64 ≤ x.val := by
      by_contra hc
      exact hx ⟨x.val, by omega⟩ (Fin.ext rfl)
    rw [dif_neg (by omega)]
    split_ifs <;> first
      | exact mul_zero _
      | rw [hv _ (by show 192 ≤ x.val; omega), zero_mul]

/-! ## The buffers, of real input blocks -/

section
variable (I : Ins Ideal) (kk : ℕ → ℕ → ℕ → ℕ → ℝ) (qq : ℕ → ℕ → ℕ → ℕ → ℝ) (vv : ℕ → ℕ → ℕ → ℕ → ℝ)

/-- What the host left in the three operands: the keys (head, token, row, channel) in terms 0, 2 and 5 of their head's
    half, the queries (head, term, channel, position), the values (row, head, channel, token) at their head's columns. -/
structure Ops : Prop where
  hk : ∀ (n : Fin 6) (r : Fin 80) (x : Fin 192), I.k (ix4 0 n r x)
    = if r.val / 40 = x.val / 96 ∧ (x.val % 96 / 16 = 0 ∨ x.val % 96 / 16 = 2 ∨ x.val % 96 / 16 = 5)
      then ((kk (n.val * 2 + r.val / 40) (r.val % 40 / 8) (r.val % 8) (x.val % 16) : ℝ) : EReal) else 0
  hq : ∀ (x : Fin 1152) (l : Fin 512), I.q (ix2 x l) = ((qq (x.val / 96) (x.val % 96 / 16) (x.val % 16) l.val : ℝ) : EReal)
  hv : ∀ (t : Fin 8) (a : Fin 192) (x : Fin 384), I.v (ix3 t a x)
    = if x.val < 192 ∧ x.val % 64 < 60 ∧ x.val % 64 / 5 = a.val / 16
      then ((vv t.val (a.val / 16) (a.val % 16) (x.val % 64 % 5) : ℝ) : EReal) else 0

/-- The score of head `h`, token `t`, row `b`, position `l`. -/
def sR (h t b l : ℕ) : ℝ := ∑ d : Fin 16, kk h t b d.val * (qq h 0 d.val l + qq h 2 d.val l + qq h 5 d.val l)

variable {I kk qq vv}
variable (H : Ops I kk qq vv)
include H

theorem scoreOf_at (n : ℕ) (hn : n < 6) (r : Fin 80) (l : Fin 512) :
    scoreOf I.cells0 n hn (ix2 r l) = ((sR kk qq (n * 2 + r.val / 40) (r.val % 40 / 8) (r.val % 8) l.val : ℝ) : EReal) := by
  have hkx : ∀ x : Fin 192, window I.cells0.k ![0, n, 0, 0] S1x1x80x192.size (inb4 (by omega) (by omega) (by omega) (by omega)) (ix4 0 0 r x)
      = I.k (ix4 0 ⟨n, hn⟩ r x) := by
    intro x
    refine (window4 _ _ _ _ _ _).trans (congrArg I.k ?_)
    congr 1 <;> exact Fin.ext (by simp)
  have hqx : ∀ x : Fin 192, window I.cells0.q ![n * 192, 0] S192x512.size (inb2 (by omega) (by omega)) (ix2 x l)
      = I.q (ix2 ⟨n * 192 + x.val, by omega⟩ l) := by
    intro x
    refine (window2 _ _ _ _).trans (congrArg I.q ?_)
    congr 1 <;> exact Fin.ext (by simp)
  unfold scoreOf
  refine (scoreVec_at _ _ r l).trans ?_
  simp only [hkx, hqx]
  let te : Fin 3 → ℕ := ![0, 2, 5]
  have hte : ∀ e, te e < 6 := by decide
  have hinj : ∀ e e', te e = te e' → e = e' := by decide
  have hu : r.val / 40 < 2 := by omega
  rw [← Spec.sum_inj (fun p : Fin 3 × Fin 16 => (⟨r.val / 40 * 96 + te p.1 * 16 + p.2.val, by have := hte p.1; omega⟩ : Fin 192)) (fun p p' h => by
    have h' : r.val / 40 * 96 + te p.1 * 16 + p.2.val = r.val / 40 * 96 + te p'.1 * 16 + p'.2.val := congrArg Fin.val h
    have h1 : te p.1 = te p'.1 := by omega
    exact Prod.ext (hinj _ _ h1) (Fin.ext (by omega)))]
  · rw [Fintype.sum_prod_type]
    have hterm : ∀ (e : Fin 3) (d : Fin 16),
        I.k (ix4 0 ⟨n, hn⟩ r ⟨r.val / 40 * 96 + te e * 16 + d.val, by have := hte e; omega⟩) * I.q (ix2 ⟨n * 192 + (r.val / 40 * 96 + te e * 16 + d.val), by have := hte e; omega⟩ l)
          = ((kk (n * 2 + r.val / 40) (r.val % 40 / 8) (r.val % 8) d.val * qq (n * 2 + r.val / 40) (te e) d.val l.val : ℝ) : EReal) := by
      intro e d
      have h6 := hte e
      have ht3 : te e = 0 ∨ te e = 2 ∨ te e = 5 := by revert e; decide
      rw [H.hk, H.hq, if_pos]
      · rw [← EReal.coe_mul]
        dsimp only
        rw [show (r.val / 40 * 96 + te e * 16 + d.val) % 16 = d.val by omega,
          show (n * 192 + (r.val / 40 * 96 + te e * 16 + d.val)) / 96 = n * 2 + r.val / 40 by omega,
          show (n * 192 + (r.val / 40 * 96 + te e * 16 + d.val)) % 96 / 16 = te e by omega,
          show (n * 192 + (r.val / 40 * 96 + te e * 16 + d.val)) % 16 = d.val by omega]
      · dsimp only
        constructor
        · omega
        · rw [show (r.val / 40 * 96 + te e * 16 + d.val) % 96 / 16 = te e by omega]; exact ht3
    simp only [hterm, Spec.coe_sum]
    congr 1
    unfold sR
    rw [Finset.sum_comm]
    refine Finset.sum_congr rfl fun d _ => ?_
    rw [Fin.sum_univ_three]
    show _ * qq _ 0 _ _ + _ * qq _ 2 _ _ + _ * qq _ 5 _ _ = _
    ring
  · intro x hx
    rw [H.hk, if_neg, zero_mul]
    rintro ⟨h1, h2⟩
    have hx' : ∀ e : Fin 3, te e = x.val % 96 / 16 → False := fun e he =>
      hx (e, ⟨x.val % 16, by omega⟩) (Fin.ext (by show r.val / 40 * 96 + te e * 16 + x.val % 16 = x.val; omega))
    rcases h2 with h2 | h2 | h2
    · exact hx' 0 h2.symm
    · exact hx' 1 h2.symm
    · exact hx' 2 h2.symm

/-- The score scratch. -/
theorem s_at (l : ℕ) (hl : l < 4) (r : ℕ) (hr : r < 480) (y : Fin 128) :
    I.cells1.s (ix3 ⟨l, hl⟩ ⟨r, hr⟩ y) = ((sR kk qq (r / 40) (r % 40 / 8) (r % 8) (l * 128 + y.val) : ℝ) : EReal) := by
  show scoreLane (scoreOf I.cells0 (r / 80) (by omega)) l hl (ValueIdx.ix3 (0 : Fin 1) ⟨r % 80, by omega⟩ y) = _
  rw [vix3]
  refine (scoreLane_at _ _ _ _ _).trans ((scoreOf_at H _ _ _ _).trans ?_)
  dsimp only
  rw [show r / 80 * 2 + r % 80 / 40 = r / 40 by omega, show r % 80 % 40 / 8 = r % 40 / 8 by omega, show r % 80 % 8 = r % 8 by omega]

theorem sRow_at (l : ℕ) (hl : l < 4) (r : ℕ) (hr : r + 8 ≤ 480) (b : Fin 8) (y : Fin 128) :
    sRow I.cells1 l r hl hr (ix3 0 b y) = ((sR kk qq ((r + b.val) / 40) ((r + b.val) % 40 / 8) ((r + b.val) % 8) (l * 128 + y.val) : ℝ) : EReal) := by
  unfold sRow
  refine (window3 _ _ _ _ _).trans (Eq.trans (congrArg I.cells1.s ?_) (s_at H l hl (r + b.val) (by omega) y))
  congr 1 <;> exact Fin.ext (by simp)

/-- The scores of one head at one row and position. -/
def sF (kk qq : ℕ → ℕ → ℕ → ℕ → ℝ) (h b l : ℕ) : Fin 5 → EReal := fun t => ((sR kk qq h t.val b l : ℝ) : EReal)

omit H in
/-- A softmax weight as a real number. -/
def pR (kk qq : ℕ → ℕ → ℕ → ℕ → ℝ) (h b l : ℕ) (t : Fin 5) : ℝ := (Spec.prob (sF kk qq h b l) t).toReal
omit H in
theorem pR_spec (h b l : ℕ) : (∀ t, Spec.prob (sF kk qq h b l) t = ((pR kk qq h b l t : ℝ) : EReal)) ∧ (∀ t, 0 ≤ pR kk qq h b l t) ∧ ∑ t, pR kk qq h b l t = 1 := by
  obtain ⟨p, h0, h1, h2, -⟩ := Spec.prob_real fun t : Fin 5 => sR kk qq h t.val b l
  have e : ∀ t, pR kk qq h b l t = p t := fun t => by
    unfold pR
    rw [show Spec.prob (sF kk qq h b l) t = _ from h2 t, EReal.toReal_coe]
  refine ⟨fun t => by rw [e]; exact h2 t, fun t => by rw [e]; exact h0 t, by simp only [e]; exact h1⟩

theorem smW_at (l : ℕ) (hl : l < 4) (n : ℕ) (hn : n < 12) (i : ℕ) (hi : i < 5) (r : ℕ) (hr : r + 8 ≤ 480)
    (e : r = n * 40 + i * 8) (b : Fin 8) (y : Fin 128) :
    smW I.cells1 l n hl hn r hr (ix3 0 b y) = ((pR kk qq n b.val (l * 128 + y.val) ⟨i, hi⟩ : ℝ) : EReal) := by
  unfold smW smR smM
  refine (sm_at _ _ _ _ _ _ _ _).trans ?_
  obtain ⟨p, h0, h1, h2, h3⟩ := Spec.prob_real fun t : Fin 5 => sR kk qq n t.val b.val (l * 128 + y.val)
  have hs : ∀ (i : ℕ) (hi : i < 5) (r' : ℕ) (h' : r' + 8 ≤ 480), r' = n * 40 + i * 8 → sRow I.cells1 l r' hl h' (ix3 0 b y)
      = ((sR kk qq n i b.val (l * 128 + y.val) : ℝ) : EReal) := by
    intro i hi r' h' e
    rw [sRow_at H, show (r' + b.val) / 40 = n by omega, show (r' + b.val) % 40 / 8 = i by omega, show (r' + b.val) % 8 = b.val by omega]
  rw [hs 0 (by omega) _ _ (by omega), hs 1 (by omega) _ _ (by omega), hs 2 (by omega) _ _ (by omega), hs 3 (by omega) _ _ (by omega), hs 4 (by omega) _ _ (by omega),
    hs i hi r hr e]
  have e5 : (![((sR kk qq n 0 b.val (l * 128 + y.val) : ℝ) : EReal), ((sR kk qq n 1 b.val (l * 128 + y.val) : ℝ) : EReal),
      ((sR kk qq n 2 b.val (l * 128 + y.val) : ℝ) : EReal), ((sR kk qq n 3 b.val (l * 128 + y.val) : ℝ) : EReal),
      ((sR kk qq n 4 b.val (l * 128 + y.val) : ℝ) : EReal)] : Fin 5 → EReal)
      = fun t : Fin 5 => ((sR kk qq n t.val b.val (l * 128 + y.val) : ℝ) : EReal) := by
    funext t; fin_cases t <;> rfl
  rw [e5]
  refine (h3 ⟨i, hi⟩).trans ?_
  rw [← h2]
  exact (pR_spec _ _ _).1 _

/-- The probability scratch. -/
theorem p_at (l : ℕ) (hl : l < 4) (r : ℕ) (hr : r < 512) (y : Fin 128) :
    I.cells.p (ix3 ⟨l, hl⟩ ⟨r, hr⟩ y) = ((if h : r < 480 then pR kk qq (r / 40) (r % 8) (l * 128 + y.val) ⟨r % 40 / 8, by omega⟩ else 0 : ℝ) : EReal) := by
  by_cases h : r < 480
  · rw [dif_pos h]
    refine Eq.trans (dif_pos h : _ = smW I.cells1 l (r / 40) hl (by omega) (r / 8 * 8) (by omega) (ValueIdx.ix3 (0 : Fin 1) ⟨r % 8, Nat.mod_lt _ (by decide)⟩ y)) ?_
    rw [vix3]
    exact smW_at H _ _ _ _ (r % 40 / 8) (by omega) _ _ (by omega) _ _
  · rw [dif_neg h]
    refine Eq.trans (dif_neg h : _ = zeroRows (F := Ideal) (ValueIdx.ix3 (0 : Fin 1) ⟨r - 480, by omega⟩ y)) ?_
    rw [vix3, zeroRows_at, EReal.coe_zero]

/-- The probabilities that row `t` reads. -/
theorem pRow_at (t : ℕ) (ht : t < 8) (l : ℕ) (hl : l < 4) (j : Fin 64) (y : Fin 128) :
    pRow I.cells l t hl ht (ix3 0 j y) = ((if h : j.val < 60 then pR kk qq (j.val / 5) t (l * 128 + y.val) ⟨j.val % 5, by omega⟩ else 0 : ℝ) : EReal) := by
  have e : pRow I.cells l t hl ht (ix3 0 j y) = I.cells.p (ix3 ⟨l, hl⟩ ⟨t + 8 * j.val, by omega⟩ y) := by
    refine congrArg I.cells.p (funext fun a => Fin.ext ?_)
    fin_cases a
    · show l + 1 * 0 = l; omega
    · show t + 8 * j.val = t + 8 * j.val; rfl
    · show 0 + 1 * y.val = y.val; omega
  rw [e, p_at H]
  congr 1
  by_cases h : j.val < 60
  · rw [dif_pos (by omega), dif_pos h]
    have : ∀ (a a' b b' : ℕ) (c c' : Fin 5), a = a' → b = b' → c = c' → pR kk qq a b (l * 128 + y.val) c = pR kk qq a' b' (l * 128 + y.val) c' := by
      rintro a _ b _ c _ rfl rfl rfl; rfl
    exact this _ _ _ _ _ _ (by omega) (by omega) (Fin.ext (by dsimp only; omega))
  · rw [dif_neg (by omega), dif_neg h]

/-- The attention output of row `t`. -/
theorem outOf_at (t : ℕ) (ht : t < 8) (a : Fin 6) (j : Fin 32) (y : Fin 512) :
    outOf I.cells t ht (ix3 a j y) = ((∑ x : Fin 5, pR kk qq (a.val * 2 + j.val / 16) t y.val x * vv t (a.val * 2 + j.val / 16) (j.val % 16) x.val : ℝ) : EReal) := by
  unfold outOf
  have hj2 : j.val / 16 < 2 := by omega
  have hx5 : ∀ x : Fin 5, (a.val * 2 + j.val / 16) * 5 + x.val < 60 := fun x => by omega
  have hP : ∀ x : Fin 64, probVec (pRow I.cells 0 t (by omega) ht) (pRow I.cells 1 t (by omega) ht) (pRow I.cells 2 t (by omega) ht) (pRow I.cells 3 t (by omega) ht) (ix2 x y)
      = ((if h : x.val < 60 then pR kk qq (x.val / 5) t y.val ⟨x.val % 5, by omega⟩ else 0 : ℝ) : EReal) := by
    intro x
    refine (probVec_at (fun l hl => pRow I.cells l t hl ht) x y).trans ((pRow_at H _ _ _ _ _ _).trans ?_)
    dsimp only
    rw [show y.val / 128 * 128 + y.val % 128 = y.val by omega]
  have hV : ∀ x : Fin 384, window I.cells.v ![t, 0, 0] S1x192x384.size (inb3 (by omega) (by omega) (by omega)) (ix3 0 ⟨a.val * 32 + j.val, by omega⟩ x)
      = I.v (ix3 ⟨t, ht⟩ ⟨a.val * 32 + j.val, by omega⟩ x) := by
    intro x
    refine (window3 _ _ _ _ _).trans (congrArg I.v ?_)
    congr 1 <;> exact Fin.ext (by simp)
  refine (outVec_at _ _ a j y _ hP fun x hx => ?_).trans ?_
  · rw [hV, H.hv, if_neg (by omega)]
  · simp only [hV, hP]
    rw [← Spec.sum_inj (fun x : Fin 5 => (⟨(a.val * 2 + j.val / 16) * 5 + x.val, by omega⟩ : Fin 64)) (fun x x' h => Fin.ext (by
      have := congrArg Fin.val h; dsimp only at this; omega))]
    · dsimp only
      rw [← Spec.coe_sum]
      refine Finset.sum_congr rfl fun x _ => ?_
      have h60 := hx5 x
      have hd : (a.val * 32 + j.val) / 16 = a.val * 2 + j.val / 16 := by omega
      have hm : ((a.val * 2 + j.val / 16) * 5 + x.val) % 64 = (a.val * 2 + j.val / 16) * 5 + x.val := Nat.mod_eq_of_lt (by omega)
      have hq : ((a.val * 2 + j.val / 16) * 5 + x.val) / 5 = a.val * 2 + j.val / 16 := by omega
      have hr : ((a.val * 2 + j.val / 16) * 5 + x.val) % 5 = x.val := by omega
      rw [H.hv, if_pos (by dsimp only; rw [hm, hd, hq]; omega), dif_pos (by omega), mul_comm, ← EReal.coe_mul]
      have h1 : ∀ (h h' : ℕ) (c c' : Fin 5), h = h' → c = c' → pR kk qq h t y.val c = pR kk qq h' t y.val c' := by
        rintro h _ c _ rfl rfl; rfl
      rw [h1 (((a.val * 2 + j.val / 16) * 5 + x.val) / 5) (a.val * 2 + j.val / 16) _ x (by omega) (Fin.ext (by dsimp only; omega))]
      dsimp only
      rw [hd, show (a.val * 32 + j.val) % 16 = j.val % 16 by omega, hm, hr]
    · intro x hx
      rw [H.hv]
      by_cases h : x.val < 60 ∧ x.val / 5 = a.val * 2 + j.val / 16
      · exact absurd (Fin.ext (by show (a.val * 2 + j.val / 16) * 5 + x.val % 5 = x.val; omega)) (hx ⟨x.val % 5, by omega⟩)
      · rw [if_neg (by dsimp only; omega), zero_mul]

end

end I2t
-- ==== Proof.KerTail.lean ====
/-
  What follows the attention output in the kernel: the scales, the codes, the projection and the layer norm, in the terms
  of the specification, for real operands.
-/
module

public import proofs.«01_k».proof.Proof.KerAttn
public import Idealize.ShloMosaic.Lib.Pipeline.ValueKit

@[expose] public section

set_option maxRecDepth 16384

noncomputable section

namespace I2t.Spec

open Idealize.ShloMosaic

/-- The largest bound the attention output is known to have. -/
def big : ℝ := 2 ^ 128

theorem ratio_const : Ideal.ofBits .f32 991054117#32 = ((9586981 / 4294967296 : ℝ) : EReal) := by
  simp [Ideal.ofBits, Ideal.ieee, -EReal.coe_mul]; norm_num
theorem hi_bits : Ideal.ofBits .f32 1138753536#32 = ((448 : ℝ) : EReal) := by
  simp [Ideal.ofBits, Ideal.ieee, -EReal.coe_mul]; norm_num
theorem lo_bits : Ideal.ofBits .f32 3286237184#32 = ((-448 : ℝ) : EReal) := by
  simp [Ideal.ofBits, Ideal.ieee, -EReal.coe_mul]; norm_num
theorem d_bits : Ideal.ofBits .f32 1136656384#32 = ((384 : ℝ) : EReal) := by
  simp [Ideal.ofBits, Ideal.ieee, -EReal.coe_mul]; norm_num

theorem fold_real {n : ℕ} (f : Fin n → ℝ) (M : ℝ) (hf : ∀ j, 0 ≤ f j) (hM : ∀ j, f j ≤ M) (s : Finset (Fin n)) (hs : s.Nonempty) :
    ∃ r : ℝ, 0 ≤ r ∧ r ≤ M ∧ Finset.fold max ⊥ (fun j => ((f j : ℝ) : EReal)) s = ((r : ℝ) : EReal) := by
  induction hs using Finset.Nonempty.cons_induction with
  | singleton a => exact ⟨f a, hf a, hM a, by rw [Finset.fold_singleton]; exact max_eq_left bot_le⟩
  | cons a s ha hs ih =>
    obtain ⟨r, h0, h1, h2⟩ := ih
    exact ⟨max (f a) r, le_max_of_le_right h0, max_le (hM a) h1, by rw [Finset.fold_cons, h2, coe_max']⟩

theorem ratio_real (O : Fin 32 → ℝ) (hO : ∀ j, |O j| ≤ big) :
    ∃ r : ℝ, 0 ≤ r ∧ r < 2 ^ (126 : ℤ) ∧ ratio (fun j => ((O j : ℝ) : EReal)) = ((r : ℝ) : EReal) := by
  obtain ⟨r, h0, h1, h2⟩ := fold_real (fun j => |O j|) big (fun j => abs_nonneg _) hO Finset.univ ⟨0, Finset.mem_univ _⟩
  refine ⟨r * (9586981 / 4294967296), by positivity, ?_, ?_⟩
  · unfold big at h1
    have : (2 : ℝ) ^ (126 : ℤ) = 2 ^ 128 / 4 := by norm_num
    rw [this]
    nlinarith [show (0 : ℝ) < 2 ^ 128 by positivity]
  · unfold ratio
    rw [bot_bits, ratio_const, EReal.coe_mul, ← h2]
    congr 1

theorem code_real (o r : ℝ) (k : ℤ) (hk : expo (r : EReal) = ((k : ℝ) : EReal)) : ∃ c : ℝ, code (o : EReal) (r : EReal) = ((c : ℝ) : EReal) := by
  unfold code
  rw [hk, hi_bits, lo_bits, zero_sub, ← EReal.coe_neg, Ideal.exp2_coe, ← EReal.coe_mul, ← coe_max', ← coe_min']
  exact ⟨_, rfl⟩
theorem scale_real (r : ℝ) (k : ℤ) (hk : expo (r : EReal) = ((k : ℝ) : EReal)) : ∃ c : ℝ, scale (r : EReal) = ((c : ℝ) : EReal) := by
  unfold scale
  rw [hk, Ideal.exp2_coe]
  exact ⟨_, rfl⟩

/-- A layer norm over the channels. -/
def ln (z : Fin 384 → EReal) (g b : EReal) (c : Fin 384) : EReal :=
  (z c - Ideal.div (∑ x, z x) (Ideal.ofBits .f32 1136656384#32)) *
    Ideal.rsqrt (Ideal.div (∑ x, (z x - Ideal.div (∑ x, z x) (Ideal.ofBits .f32 1136656384#32)) * (z x - Ideal.div (∑ x, z x) (Ideal.ofBits .f32 1136656384#32)))
      (Ideal.ofBits .f32 1136656384#32) + Ideal.ofBits .f32 925353388#32) * g + b

/-- One position's output in the wide form. -/
def wideAt (o : Fin 6 → Fin 32 → EReal) (x : Fin 192) : EReal :=
  code (o ⟨x.val / 32, by omega⟩ ⟨x.val % 32, by omega⟩) (ratio (o ⟨x.val / 32, by omega⟩)) * scale (ratio (o ⟨x.val / 32, by omega⟩))

end I2t.Spec

namespace I2t

open Idealize.ShloMosaic Idealize.ShloMosaic.Pointwise Idealize.ShloMosaic.VecWindow

theorem ratioVec_at (o : FVec Ideal S6x32x512 .f32) (a : Fin 6) (l : Fin 512) :
    ratioVec o (ix3 a 0 l) = Spec.ratio fun j => o (ix3 a j l) := by
  pointwise [ratioVec]
  unfold Spec.ratio
  exact congrArg (· * Ideal.ofBits .f32 991054117#32) (Finset.fold_congr fun x _ => rfl)
theorem expStep_at (x : FVec Ideal S6x1x512 .f32) (s : BitVec 32) (e : IVec S6x1x512 32) (a : Fin 6) (l : Fin 512) :
    expStep x s e (ix3 a 0 l) = Spec.stp (x (ix3 a 0 l)) s (e (ix3 a 0 l)) := by
  pointwise [expStep]
  rfl
theorem expFix_at (e : IVec S6x1x512 32) (a : Fin 6) (l : Fin 512) : expFix e (ix3 a 0 l) = Spec.fix (e (ix3 a 0 l)) := by
  pointwise [expFix]
  rfl
theorem expOf_at (o : FVec Ideal S6x32x512 .f32) (a : Fin 6) (l : Fin 512) :
    expOf o (ix3 a 0 l) = Spec.fix (Spec.fld (Spec.ratio fun j => o (ix3 a j l))) := by
  unfold expOf expVec
  rw [expFix_at]
  simp only [expStep_at, ratioVec_at]
  rfl
theorem invVec_at (e : IVec S6x1x512 32) (a : Fin 6) (l : Fin 512) :
    invVec (F := Ideal) e (ix3 a 0 l) = Ideal.ofBits .f32 (IntOp.shli ArithUnit.vector (IntOp.subi 253#32 (e (ix3 a 0 l))) 23#32) := by
  pointwise [invVec]
theorem scaleVec_at (e : IVec S6x1x512 32) (a : Fin 6) (l : Fin 512) :
    scaleVec (F := Ideal) e (ix3 a 0 l) = Ideal.ofBits .f32 (IntOp.shli ArithUnit.vector (IntOp.addi (e (ix3 a 0 l)) 1#32) 23#32) := by
  pointwise [scaleVec]
theorem codeVec_at (o : FVec Ideal S6x32x512 .f32) (inv : FVec Ideal S6x1x512 .f32) (c : Fin 192) (l : Fin 512) :
    codeVec o inv (ix2 c l) = min (Ideal.ofBits .f32 1138753536#32) (max (Ideal.ofBits .f32 3286237184#32)
      (o (ix3 ⟨c.val / 32, by omega⟩ ⟨c.val % 32, by omega⟩ l) * inv (ix3 ⟨c.val / 32, by omega⟩ 0 l))) := by
  pointwise [codeVec]
theorem scaleOut_at (sc : FVec Ideal S6x1x512 .f32) (a : Fin 6) (l : Fin 512) : scaleOut sc (ix3 0 a l) = sc (ix3 a 0 l) := by
  pointwise [scaleOut]
theorem codeOut_at (cd : FVec Ideal S192x512 .fp8e4m3) (l : Fin 512) (c : Fin 192) : codeOut cd (ix3 0 l c) = cd (ix2 c l) := by
  pointwise [codeOut]
theorem wideVec_at (cd : FVec Ideal S192x512 .fp8e4m3) (sc : FVec Ideal S6x1x512 .f32) (c : Fin 192) (l : Fin 512) :
    wideVec cd sc (ix2 c l) = cd (ix2 c l) * sc (ix3 ⟨c.val / 32, by omega⟩ 0 l) := by
  pointwise [wideVec]
theorem projVec_at (w : Vec Ideal S400x192 .bf16) (ow : FVec Ideal S192x512 .bf16) (c : Fin 400) (l : Fin 512) :
    projVec w ow (ix2 c l) = ∑ x : Fin 192, w (ix2 c x) * ow (ix2 x l) := by
  pointwise [projVec]
theorem dOut_at (mu : FVec Ideal S1x512 .f32) (yv : Vec Ideal S16x512 .f32) (so : Vec Ideal S16x128 .f32) (xv : Vec Ideal S16x512 .f32)
    (s : EReal) (i : Fin 16) (l : Fin 512) (hs : ∀ n, so (ix2 i n) = s) :
    dOut (dVec mu yv so xv) (ix2 i l) = yv (ix2 i l) * s + (xv (ix2 i l) - mu (ix2 0 l)) := by
  pointwise [dOut, dVec, wide4]
  simp only [hs]
  split_ifs <;> rfl
theorem dVec_at (mu : FVec Ideal S1x512 .f32) (yv : Vec Ideal S16x512 .f32) (so : Vec Ideal S16x128 .f32) (xv : Vec Ideal S16x512 .f32)
    (s : EReal) (i : Fin 16) (l : Fin 512) (hs : ∀ n, so (ix2 i n) = s) :
    dVec mu yv so xv (ix2 i l) = yv (ix2 i l) * s + (xv (ix2 i l) - mu (ix2 0 l)) := by
  pointwise [dVec, wide4]
  simp only [hs]
  split_ifs <;> rfl
theorem rstdVec_at (inv : Ideal .f32) (acc : FVec Ideal S16x512 .f32) (l : Fin 512) :
    rstdVec inv acc (ix2 0 l) = Ideal.rsqrt ((∑ x : Fin 16, acc (ix2 x l)) * inv + Ideal.ofBits .f32 925353388#32) := by
  pointwise [rstdVec]
theorem zVec_at (rstd : FVec Ideal S1x512 .f32) (yv : Vec Ideal S16x512 .f32) (g b : Vec Ideal S16x128 .f32)
    (gs bs : EReal) (i : Fin 16) (l : Fin 512) (hg : ∀ n, g (ix2 i n) = gs) (hb : ∀ n, b (ix2 i n) = bs) :
    zVec rstd yv g b (ix2 i l) = yv (ix2 i l) * rstd (ix2 0 l) * gs + bs := by
  pointwise [zVec, wide4]
  simp only [hg, hb]
  split_ifs <;> rfl
theorem imgOut_at (z : (j : ℕ) → j < 8 → FVec Ideal S16x512 .bf16) (l : Fin 512) (c : Fin 128) :
    imgOut (z 0 (by omega)) (z 1 (by omega)) (z 2 (by omega)) (z 3 (by omega)) (z 4 (by omega)) (z 5 (by omega)) (z 6 (by omega)) (z 7 (by omega)) (ix3 0 l c)
      = z (c.val / 16) (by omega) (ix2 ⟨c.val % 16, by omega⟩ l) := by
  have hc : ∀ (j j' : ℕ) (h : j < 8) (h' : j' < 8) (i i' : Fin 16), j = j' → i = i' → z j h (ix2 i l) = z j' h' (ix2 i' l) := by
    rintro j _ h h' i _ rfl rfl; rfl
  pointwise [imgOut]
  split_ifs
  all_goals exact hc _ _ _ _ _ _ (by omega) (Fin.ext (by dsimp only; omega))

section
variable {I : Ins Ideal} {kk qq vv : ℕ → ℕ → ℕ → ℕ → ℝ} (H : Ops I kk qq vv)

/-- The attention output of row `t` as a real number. -/
def oR (kk qq vv : ℕ → ℕ → ℕ → ℕ → ℝ) (t l : ℕ) (a : Fin 6) (j : Fin 32) : ℝ :=
  ∑ x : Fin 5, pR kk qq (a.val * 2 + j.val / 16) t l x * vv t (a.val * 2 + j.val / 16) (j.val % 16) x.val

theorem oR_attn (t l : ℕ) (a : Fin 6) (j : Fin 32) :
    ((oR kk qq vv t l a j : ℝ) : EReal) = Spec.attn (sF kk qq (a.val * 2 + j.val / 16) t l)
      (fun x => ((vv t (a.val * 2 + j.val / 16) (j.val % 16) x.val : ℝ) : EReal)) := by
  unfold oR Spec.attn
  simp only [(pR_spec _ _ _).1, ← EReal.coe_mul, Spec.coe_sum]

theorem oR_big (hb : ∀ t h d x, |vv t h d x| ≤ Spec.big) (t l : ℕ) (a : Fin 6) (j : Fin 32) : |oR kk qq vv t l a j| ≤ Spec.big := by
  obtain ⟨-, h0, h1⟩ := pR_spec (kk := kk) (qq := qq) (a.val * 2 + j.val / 16) t l
  unfold oR
  refine (Finset.abs_sum_le_sum_abs _ _).trans ?_
  calc _ ≤ ∑ x : Fin 5, pR kk qq (a.val * 2 + j.val / 16) t l x * Spec.big := Finset.sum_le_sum fun x _ => by
          rw [abs_mul, abs_of_nonneg (h0 x)]
          exact mul_le_mul_of_nonneg_left (hb _ _ _ _) (h0 x)
    _ = Spec.big := by rw [← Finset.sum_mul, h1, one_mul]

variable (hb : ∀ t h d x, |vv t h d x| ≤ Spec.big)

/-- The attention output of row `t` at position `l`. -/
def oE (kk qq vv : ℕ → ℕ → ℕ → ℕ → ℝ) (t l : ℕ) (a : Fin 6) (j : Fin 32) : EReal := ((oR kk qq vv t l a j : ℝ) : EReal)

include H hb

theorem scale_at (t : ℕ) (ht : t < 8) (a : Fin 6) (l : Fin 512) :
    scaleVec (F := Ideal) (expOf (outOf I.cells t ht)) (ix3 a 0 l) = Spec.scale (Spec.ratio (oE kk qq vv t l.val a)) := by
  rw [scaleVec_at, expOf_at]
  simp only [outOf_at H]
  obtain ⟨r, h0, h1, h2⟩ := Spec.ratio_real (fun j => oR kk qq vv t l.val a j) (fun j => oR_big hb _ _ _ _)
  show _ = Spec.scale (Spec.ratio fun j => ((oR kk qq vv t l.val a j : ℝ) : EReal))
  refine Eq.trans ?_ (congrArg Spec.scale h2).symm
  obtain ⟨k, -, h, -⟩ := Spec.scale_eq r h0 h1
  rw [← h, ← h2]
  rfl
theorem code_at (t : ℕ) (ht : t < 8) (c : Fin 192) (l : Fin 512) :
    codeVec (outOf I.cells t ht) (invVec (expOf (outOf I.cells t ht))) (ix2 c l)
      = Spec.code (oE kk qq vv t l.val ⟨c.val / 32, by omega⟩ ⟨c.val % 32, by omega⟩) (Spec.ratio (oE kk qq vv t l.val ⟨c.val / 32, by omega⟩)) := by
  rw [codeVec_at, invVec_at, expOf_at]
  simp only [outOf_at H]
  obtain ⟨r, h0, h1, h2⟩ := Spec.ratio_real (fun j => oR kk qq vv t l.val ⟨c.val / 32, by omega⟩ j) (fun j => oR_big hb _ _ _ _)
  obtain ⟨k, -, -, h⟩ := Spec.scale_eq r h0 h1
  have h2' : Spec.ratio (oE kk qq vv t l.val ⟨c.val / 32, by omega⟩) = ((r : ℝ) : EReal) := h2
  unfold Spec.code
  rw [h2', ← h, ← h2]
  rfl

theorem ocRow_at (t : ℕ) (ht : t < 8) (l : Fin 512) (c : Fin 192) :
    ocRow I.cells t ht (ix3 0 l c) = Spec.code (oE kk qq vv t l.val ⟨c.val / 32, by omega⟩ ⟨c.val % 32, by omega⟩) (Spec.ratio (oE kk qq vv t l.val ⟨c.val / 32, by omega⟩)) := by
  unfold ocRow
  rw [codeOut_at]
  exact code_at H hb _ _ _ _
theorem osRow_at (t : ℕ) (ht : t < 8) (a : Fin 6) (l : Fin 512) :
    osRow I.cells t ht (ix3 0 a l) = Spec.scale (Spec.ratio (oE kk qq vv t l.val a)) := by
  unfold osRow
  rw [scaleOut_at]
  exact scale_at H hb _ _ _ _
omit H hb in
theorem ocFin_row (t : Fin 8) (l : Fin 512) (c : Fin 192) : ocFin I.cells (ix3 t l c) = ocRow I.cells t.val t.isLt (ix3 0 l c) :=
  congrArg (ocRow I.cells t.val t.isLt) (vix3 (0 : Fin 1) l c)
omit H hb in
theorem osFin_row (t : Fin 8) (a : Fin 6) (l : Fin 512) : osFin I.cells (ix3 t a l) = osRow I.cells t.val t.isLt (ix3 0 a l) :=
  congrArg (osRow I.cells t.val t.isLt) (vix3 (0 : Fin 1) a l)
/-- The codes. -/
theorem ocFin_at (t : Fin 8) (l : Fin 512) (c : Fin 192) :
    ocFin I.cells (ix3 t l c) = Spec.code (oE kk qq vv t.val l.val ⟨c.val / 32, by omega⟩ ⟨c.val % 32, by omega⟩) (Spec.ratio (oE kk qq vv t.val l.val ⟨c.val / 32, by omega⟩)) := by
  rw [ocFin_row]
  exact ocRow_at H hb _ _ _ _
/-- The scales. -/
theorem osFin_at (t : Fin 8) (a : Fin 6) (l : Fin 512) :
    osFin I.cells (ix3 t a l) = Spec.scale (Spec.ratio (oE kk qq vv t.val l.val a)) := by
  rw [osFin_row]
  exact osRow_at H hb _ _ _ _

/-- The projection. -/
theorem yOf_at (t : ℕ) (ht : t < 8) (c : Fin 400) (l : Fin 512) :
    yOf I.cells t ht (ix2 c l) = ∑ x : Fin 192, I.w (ix2 c x) * Spec.wideAt (oE kk qq vv t l.val) x := by
  unfold yOf
  rw [projVec_at]
  refine Finset.sum_congr rfl fun x _ => ?_
  rw [wideVec_at, code_at H hb, scale_at H hb, window2]
  refine congrArg₂ (· * ·) (congrArg I.w ?_) rfl
  congr 1 <;> exact Fin.ext (by simp)

omit H in
theorem wide_real (t l : ℕ) : ∃ f : Fin 192 → ℝ, ∀ x, Spec.wideAt (oE kk qq vv t l) x = ((f x : ℝ) : EReal) := by
  have : ∀ x : Fin 192, ∃ f : ℝ, Spec.wideAt (oE kk qq vv t l) x = ((f : ℝ) : EReal) := by
    intro x
    obtain ⟨r, h0, h1, h2⟩ := Spec.ratio_real (fun j => oR kk qq vv t l ⟨x.val / 32, by omega⟩ j) (fun j => oR_big hb _ _ _ _)
    obtain ⟨k, hk, -, -⟩ := Spec.scale_eq r h0 h1
    obtain ⟨c, hc⟩ := Spec.code_real (oR kk qq vv t l ⟨x.val / 32, by omega⟩ ⟨x.val % 32, by omega⟩) r k hk
    obtain ⟨s, hs⟩ := Spec.scale_real r k hk
    have h2' : Spec.ratio (oE kk qq vv t l ⟨x.val / 32, by omega⟩) = ((r : ℝ) : EReal) := h2
    have hc' : Spec.code (oE kk qq vv t l ⟨x.val / 32, by omega⟩ ⟨x.val % 32, by omega⟩) ((r : ℝ) : EReal) = ((c : ℝ) : EReal) := hc
    exact ⟨c * s, by unfold Spec.wideAt; rw [h2', hc', hs, ← EReal.coe_mul]⟩
  choose f hf using this
  exact ⟨f, hf⟩

end

/-! ## The image -/

section
variable {I : Ins Ideal} {kk qq vv : ℕ → ℕ → ℕ → ℕ → ℝ}

/-- The other operands, real: the weights (with the three mean rows), the scales, the residual of mean zero. -/
structure Rest (I : Ins Ideal) (w : Fin 400 → Fin 192 → ℝ) (so : Fin 384 → ℝ) (xR : Fin 384 → Fin 512 → ℝ) (g b : Fin 384 → EReal) : Prop where
  hw : ∀ c x, I.w (ix2 c x) = ((w c x : ℝ) : EReal)
  hso : ∀ c n, I.so (ix2 c n) = ((so c : ℝ) : EReal)
  hx : ∀ c l, I.x (ix2 c l) = ((xR c l : ℝ) : EReal)
  hg : ∀ c n, I.g (ix2 c n) = g c
  hb : ∀ c n, I.b (ix2 c n) = b c
  x0 : ∀ l, ∑ c, xR c l = 0
  ws : ∀ x, ∑ c : Fin 384, w ⟨c.val, by omega⟩ x * so c = 384 * (w 384 x + w 385 x + w 386 x)

variable {w : Fin 400 → Fin 192 → ℝ} {so : Fin 384 → ℝ} {xR : Fin 384 → Fin 512 → ℝ} {g b : Fin 384 → EReal}

/-- A projected channel. -/
def yR (w : Fin 400 → Fin 192 → ℝ) (f : Fin 192 → ℝ) (c : Fin 400) : ℝ := ∑ x, w c x * f x
/-- A channel before the layer norm. -/
def zR (w : Fin 400 → Fin 192 → ℝ) (so : Fin 384 → ℝ) (xR : Fin 384 → Fin 512 → ℝ) (f : Fin 192 → ℝ) (l : Fin 512) (c : Fin 384) : ℝ :=
  xR c l + yR w f ⟨c.val, by omega⟩ * so c
/-- A centred channel. -/
def dR (w : Fin 400 → Fin 192 → ℝ) (so : Fin 384 → ℝ) (xR : Fin 384 → Fin 512 → ℝ) (f : Fin 192 → ℝ) (l : Fin 512) (c : Fin 384) : ℝ :=
  zR w so xR f l c - (∑ x, zR w so xR f l x) / 384

theorem mean_eq (R : Rest I w so xR g b) (f : Fin 192 → ℝ) (l : Fin 512) :
    (∑ x, zR w so xR f l x) / 384 = yR w f 384 + yR w f 385 + yR w f 386 := by
  unfold zR
  rw [Finset.sum_add_distrib, R.x0, zero_add]
  have : ∑ c : Fin 384, yR w f ⟨c.val, by omega⟩ * so c = 384 * (yR w f 384 + yR w f 385 + yR w f 386) := by
    unfold yR
    simp only [Finset.sum_mul]
    rw [Finset.sum_comm, ← Finset.sum_add_distrib, ← Finset.sum_add_distrib, Finset.mul_sum]
    refine Finset.sum_congr rfl fun x _ => ?_
    have h := R.ws x
    calc _ = (∑ c : Fin 384, w ⟨c.val, by omega⟩ x * so c) * f x := by
          rw [Finset.sum_mul]; exact Finset.sum_congr rfl fun c _ => by ring
      _ = _ := by rw [h]; ring
  rw [this]; ring

/-- The specification's layer norm of real channels. -/
theorem ln_real (z : Fin 384 → ℝ) (g b : EReal) (c : Fin 384) :
    Spec.ln (fun c => ((z c : ℝ) : EReal)) g b c
      = (((z c - (∑ x, z x) / 384 : ℝ) : EReal) * Ideal.rsqrt ((((∑ x, (z x - (∑ x, z x) / 384) * (z x - (∑ x, z x) / 384)) / 384 : ℝ) : EReal) + Ideal.ofBits .f32 925353388#32)) * g + b := by
  unfold Spec.ln
  simp only [Spec.d_bits, Spec.coe_sum, Spec.div_coe' _ 384 (by norm_num), ← EReal.coe_sub, ← EReal.coe_mul]

variable (H : Ops I kk qq vv) (hv : ∀ t h d x, |vv t h d x| ≤ Spec.big) (R : Rest I w so xR g b)
  (t : ℕ) (ht : t < 8) (f : Fin 192 → ℝ) (l : Fin 512) (hf : ∀ x, Spec.wideAt (oE kk qq vv t l.val) x = ((f x : ℝ) : EReal))

include H hv R hf

theorem y_real (c : Fin 400) : yOf I.cells t ht (ix2 c l) = ((yR w f c : ℝ) : EReal) := by
  rw [yOf_at H hv]
  simp only [hf, R.hw, ← EReal.coe_mul, Spec.coe_sum]
  rfl

theorem mu_real : muOf (proj I.cells t ht) (ix2 0 l) = (((∑ x, zR w so xR f l x) / 384 : ℝ) : EReal) := by
  have h : ∀ (r : ℕ) (hr : r < 400) (h : ∀ a, (![r, 0] : Fin 2 → ℕ) a + S1x512.size a ≤ S400x512.size a),
      window (yOf I.cells t ht) ![r, 0] S1x512.size h (ix2 0 l) = ((yR w f ⟨r, hr⟩ : ℝ) : EReal) := by
    intro r hr h
    refine (window2 _ _ _ _).trans (Eq.trans (congrArg (yOf I.cells t ht) ?_) (y_real H hv R t ht f l hf ⟨r, hr⟩))
    congr 1 <;> exact Fin.ext (by simp)
  unfold muOf
  refine Eq.trans (b := ((window (yOf I.cells t ht) ![384, 0] S1x512.size (inb2 (by omega) (by omega)) (ix2 0 l)
    + window (yOf I.cells t ht) ![385, 0] S1x512.size (inb2 (by omega) (by omega)) (ix2 0 l))
    + window (yOf I.cells t ht) ![386, 0] S1x512.size (inb2 (by omega) (by omega)) (ix2 0 l) : EReal)) rfl ?_
  rw [h 384 (by omega), h 385 (by omega), h 386 (by omega), mean_eq R, EReal.coe_add, EReal.coe_add]
  rfl

theorem d_real (j : ℕ) (hj : j < 24) (i : Fin 16) :
    dOf (muOf (proj I.cells t ht)) j hj (proj I.cells t ht) (ix2 i l) = ((dR w so xR f l ⟨j * 16 + i.val, by omega⟩ : ℝ) : EReal) := by
  have hy : window (yOf I.cells t ht) ![j * 16, 0] S16x512.size (inb_y hj) (ix2 i l) = ((yR w f ⟨j * 16 + i.val, by omega⟩ : ℝ) : EReal) := by
    refine (window2 _ _ _ _).trans (Eq.trans (congrArg (yOf I.cells t ht) ?_) (y_real H hv R t ht f l hf ⟨j * 16 + i.val, by omega⟩))
    congr 1; exact Fin.ext (by simp)
  have hx : window I.x ![j * 16, 0] S16x512.size (inb_x hj) (ix2 i l) = ((xR ⟨j * 16 + i.val, by omega⟩ l : ℝ) : EReal) := by
    refine (window2 _ _ _ _).trans (Eq.trans (congrArg I.x ?_) (R.hx ⟨j * 16 + i.val, by omega⟩ l))
    congr 1; exact Fin.ext (by simp)
  have hs : ∀ n, window I.so ![j * 16, 0] S16x128.size (inb_g hj) (ix2 i n) = ((so ⟨j * 16 + i.val, by omega⟩ : ℝ) : EReal) := by
    intro n
    refine (window2 _ _ _ _).trans (Eq.trans (congrArg I.so ?_) (R.hso ⟨j * 16 + i.val, by omega⟩ n))
    congr 1; exact Fin.ext (by simp)
  unfold dOf
  refine (dVec_at _ _ _ _ _ i l hs).trans ?_
  refine (congrArg₂ (fun a b : EReal => a * ((so ⟨j * 16 + i.val, by omega⟩ : ℝ) : EReal) + b) hy (congrArg₂ (fun a b : EReal => a - b) hx (mu_real H hv R t ht f l hf))).trans ?_
  rw [← EReal.coe_mul, ← EReal.coe_sub, ← EReal.coe_add]
  congr 1
  unfold dR
  rw [show zR w so xR f l ⟨j * 16 + i.val, by omega⟩ = xR ⟨j * 16 + i.val, by omega⟩ l + yR w f ⟨j * 16 + i.val, by omega⟩ * so ⟨j * 16 + i.val, by omega⟩ from rfl]
  ring

/-- The squares of the centred channels, as a function of a number. -/
def sqN (w : Fin 400 → Fin 192 → ℝ) (so : Fin 384 → ℝ) (xR : Fin 384 → Fin 512 → ℝ) (f : Fin 192 → ℝ) (l : Fin 512) (c : ℕ) : ℝ :=
  if h : c < 384 then dR w so xR f l ⟨c, h⟩ * dR w so xR f l ⟨c, h⟩ else 0

theorem acc_real (n : ℕ) (hn : n ≤ 24) (i : Fin 16) :
    accS (muOf (proj I.cells t ht)) (proj I.cells t ht) n hn (ix2 i l) = ((∑ j ∈ Finset.range n, sqN w so xR f l (j * 16 + i.val) : ℝ) : EReal) := by
  induction n with
  | zero =>
    rw [Finset.range_zero, Finset.sum_empty, EReal.coe_zero]
    exact Ideal.ofBits_zero_f32
  | succ n ih =>
    have hd := d_real H hv R t ht f l hf n (by omega) i
    refine Eq.trans (b := ((accS (muOf (proj I.cells t ht)) (proj I.cells t ht) n (by omega) (ix2 i l)
      + dOf (muOf (proj I.cells t ht)) n (by omega) (proj I.cells t ht) (ix2 i l) * dOf (muOf (proj I.cells t ht)) n (by omega) (proj I.cells t ht) (ix2 i l) : EReal))) rfl ?_
    rw [ih (by omega), hd, ← EReal.coe_mul, ← EReal.coe_add, Finset.sum_range_succ]
    congr 2
    unfold sqN
    rw [dif_pos (by omega)]

theorem rstd_real (inv : Ideal .f32) (hinv : inv = ((1 / 384 : ℝ) : EReal)) :
    rstdVec inv (accS (muOf (proj I.cells t ht)) (proj I.cells t ht) 24 le_rfl) (ix2 0 l)
      = Ideal.rsqrt ((((∑ x, dR w so xR f l x * dR w so xR f l x) / 384 : ℝ) : EReal) + Ideal.ofBits .f32 925353388#32) := by
  rw [rstdVec_at]
  simp only [acc_real H hv R t ht f l hf, Spec.coe_sum]
  rw [hinv]
  refine congrArg (fun z : EReal => Ideal.rsqrt (z + Ideal.ofBits .f32 925353388#32)) ?_
  rw [← EReal.coe_mul]
  congr 1
  have h1 : ∑ i : Fin 16, ∑ j ∈ Finset.range 24, sqN w so xR f l (j * 16 + i.val) = ∑ c : Fin 384, dR w so xR f l c * dR w so xR f l c := by
    rw [Finset.sum_comm]
    have h2 : ∑ c : Fin 384, dR w so xR f l c * dR w so xR f l c = ∑ c ∈ Finset.range (24 * 16), sqN w so xR f l c := by
      rw [← Fin.sum_univ_eq_sum_range (fun c => sqN w so xR f l c) 384]
      refine Finset.sum_congr rfl fun c _ => ?_
      unfold sqN
      rw [dif_pos c.isLt]
    rw [h2, Finset.sum_range_mul_split]
    refine Finset.sum_congr rfl fun j _ => ?_
    exact Fin.sum_univ_eq_sum_range (fun i => sqN w so xR f l (j * 16 + i)) 16
  rw [h1]; ring

theorem z_real (inv : Ideal .f32) (hinv : inv = ((1 / 384 : ℝ) : EReal)) (j : ℕ) (hj : j < 24) (i : Fin 16) :
    zFin inv I.cells t ht j hj (ix2 i l) = Spec.ln (fun c => ((zR w so xR f l c : ℝ) : EReal)) (g ⟨j * 16 + i.val, by omega⟩) (b ⟨j * 16 + i.val, by omega⟩) ⟨j * 16 + i.val, by omega⟩ := by
  have hg : ∀ n, window I.g ![j * 16, 0] S16x128.size (inb_g hj) (ix2 i n) = g ⟨j * 16 + i.val, by omega⟩ := by
    intro n
    refine (window2 _ _ _ _).trans (Eq.trans (congrArg I.g ?_) (R.hg ⟨j * 16 + i.val, by omega⟩ n))
    congr 1; exact Fin.ext (by simp)
  have hb : ∀ n, window I.b ![j * 16, 0] S16x128.size (inb_g hj) (ix2 i n) = b ⟨j * 16 + i.val, by omega⟩ := by
    intro n
    refine (window2 _ _ _ _).trans (Eq.trans (congrArg I.b ?_) (R.hb ⟨j * 16 + i.val, by omega⟩ n))
    congr 1; exact Fin.ext (by simp)
  have hd : dOut (dOf (muOf (proj I.cells t ht)) j hj (proj I.cells t ht)) (ix2 i l) = ((dR w so xR f l ⟨j * 16 + i.val, by omega⟩ : ℝ) : EReal) := by
    rw [← d_real H hv R t ht f l hf j hj i]
    generalize dOf (muOf (proj I.cells t ht)) j hj (proj I.cells t ht) = d
    pointwise [dOut]
  unfold zFin
  refine (zVec_at _ _ _ _ _ _ i l hg hb).trans ?_
  rw [hd, rstd_real H hv R t ht f l hf inv hinv, ln_real]
  rfl

theorem imgRow_real (inv : Ideal .f32) (hinv : inv = ((1 / 384 : ℝ) : EReal)) (c : ℕ) (hc : c < 3) (y : Fin 128) :
    imgRow inv I.cells t ht c hc (ix3 0 l y) = Spec.ln (fun c => ((zR w so xR f l c : ℝ) : EReal)) (g ⟨c * 128 + y.val, by omega⟩) (b ⟨c * 128 + y.val, by omega⟩) ⟨c * 128 + y.val, by omega⟩ := by
  unfold imgRow
  refine (imgOut_at (fun j hj => zFin inv I.cells t ht (c * 8 + j) (by omega)) l y).trans ?_
  refine (z_real H hv R t ht f l hf inv hinv _ _ _).trans ?_
  have e : ∀ x x' : Fin 384, x = x' → Spec.ln (fun c => ((zR w so xR f l c : ℝ) : EReal)) (g x) (b x) x = Spec.ln (fun c => ((zR w so xR f l c : ℝ) : EReal)) (g x') (b x') x' := by
    rintro x _ rfl; rfl
  exact e _ _ (Fin.ext (by dsimp only; omega))

omit hf in
/-- The image. -/
theorem imgFin_at (inv : Ideal .f32) (hinv : inv = ((1 / 384 : ℝ) : EReal)) (t : Fin 8) (l : Fin 512) (c : Fin 384) :
    imgFin inv I.cells (ix3 t l c) = Spec.ln (fun c => ((xR c l : ℝ) : EReal)
      + (∑ x : Fin 192, ((w ⟨c.val, by omega⟩ x : ℝ) : EReal) * Spec.wideAt (oE kk qq vv t.val l.val) x) * ((so c : ℝ) : EReal)) (g c) (b c) c := by
  obtain ⟨f, hf⟩ := wide_real hv (kk := kk) (qq := qq) t.val l.val
  refine Eq.trans (b := imgRow inv I.cells t.val t.isLt (c.val / 128) (by omega) (ix3 0 l ⟨c.val % 128, Nat.mod_lt _ (by decide)⟩)) ?_ ?_
  · exact congrArg (imgRow inv I.cells t.val t.isLt (c.val / 128) (by omega)) (vix3 (0 : Fin 1) l _)
  · rw [imgRow_real H hv R t.val t.isLt f l hf inv hinv]
    have e : ∀ x : Fin 384, x = c → Spec.ln (fun c => ((zR w so xR f l c : ℝ) : EReal)) (g x) (b x) x = Spec.ln (fun c => ((zR w so xR f l c : ℝ) : EReal)) (g c) (b c) c := by
      rintro x rfl; rfl
    refine (e _ (Fin.ext (by dsimp only; omega))).trans ?_
    congr 1
    funext c
    simp only [hf, ← EReal.coe_mul, Spec.coe_sum, ← EReal.coe_add]
    rfl

end

end I2t
-- ==== Proof.KerBlk.lean ====
/-
  What the call finds in its operands, at an index of the block of a grid point, for real arguments.
-/
module

public import proofs.«01_k».proof.Proof.HostKer
public import proofs.«01_k».proof.Proof.KerTail

@[expose] public section

set_option maxRecDepth 16384

noncomputable section

namespace Cert.KernelIdeal.Hand

open Idealize.ShloMosaic Idealize.ShloMosaic.Pointwise Idealize.ShloMosaic.TcCoe Cert.KernelIdeal Cert.KernelIdeal.Gen

variable (m : (ℓ : Loc nD τ sig) → Buf (Elt Ideal) ℓ) (c : Dev nD)

def aK : S840x192.Idx → EReal := m ((c : Thread nD τ).loc main_arg0)
def aV : S840x192.Idx → EReal := m ((c : Thread nD τ).loc main_arg1)
def aQ : S1152x4096.Idx → EReal := m ((c : Thread nD τ).loc main_arg2)
def aW : S400x192.Idx → EReal := m ((c : Thread nD τ).loc main_arg3)
def aSo : S384.Idx → EReal := m ((c : Thread nD τ).loc main_arg4)
def aX : S384x4096.Idx → EReal := m ((c : Thread nD τ).loc main_arg5)
def aG : S384.Idx → EReal := m ((c : Thread nD τ).loc main_arg6)
def aB : S384.Idx → EReal := m ((c : Thread nD τ).loc main_arg7)

/-- The contents as launched. -/
abbrev σ0 : Valuation τ sig (Elt Ideal) := fun b => m (c, b)
abbrev σA := StableHlo.after (opsA (F := Ideal)) (σ0 m c)
abbrev σB := StableHlo.after (opsB (F := Ideal)) (σA m c)
abbrev σC := StableHlo.after (opsC (F := Ideal)) (σB m c)
abbrev σD := StableHlo.after (opsD (F := Ideal)) (σC m c)
abbrev σE := StableHlo.after (opsE (F := Ideal)) (σD m c)
abbrev σG := StableHlo.after (opsG (F := Ideal)) (σE m c)
abbrev σP := StableHlo.after (hostOps0_1 (F := Ideal)) (σG m c)
abbrev σH := StableHlo.after (opsH (F := Ideal)) (σP m c)
abbrev σI := StableHlo.after (opsI (F := Ideal)) (σH m c)
abbrev σJ := StableHlo.after (opsJ (F := Ideal)) (σI m c)

theorem flat_eq : (List.flatten [hostOps0, hostOps0_1, hostOps0_2] : List (HloOp τ sig (Elt Ideal)))
    = opsA ++ (opsB ++ (opsC ++ (opsD ++ (opsE ++ (opsG ++ (hostOps0_1 ++ (opsH ++ (opsI ++ opsJ)))))))) := rfl

theorem V_eq (b : Ref sig .tc) : V m c b = σJ m c (Proc.devRef .tc b) := by
  show StableHlo.after (List.flatten [hostOps0, hostOps0_1, hostOps0_2]) (σ0 m c) (Proc.devRef .tc b) = _
  rw [flat_eq]
  simp only [after_app]

section
variable (hK : ∀ i, ∃ r : ℝ, aK m c i = (r : EReal)) (hV : ∀ i, ∃ r : ℝ, aV m c i = (r : EReal))

theorem cE_real : ∃ r : ℝ, cE = (r : EReal) := by
  refine ⟨(Ideal.ofBits .f32 1052289595#32).toReal, ?_⟩
  unfold cE
  simp [Ideal.ofBits, Ideal.ieee, -EReal.coe_mul]

theorem v2_v3 (t : Fin 5) (g : Fin 21) (b : Fin 8) (p : Fin 6) (u : Fin 2) (d : Fin 16) :
    (σA m c (Proc.devRef .tc main_v2) : S5x21x8x6x2x16.Idx → EReal) (ix6 t g b p u d) = (σA m c (Proc.devRef .tc main_v3) : S5x21x8x6x2x16.Idx → EReal) (ix6 t g b p u d) :=
  (v2_at _ t g b p u d).trans (v3_at _ t g b p u d).symm

theorem sub_self' {x y : EReal} (h : x = y) {r : ℝ} (hr : y = (r : EReal)) : x - y = 0 := by
  subst h; rw [hr, ← EReal.coe_sub, sub_self]; rfl

include hK in
theorem v3_real (t : Fin 5) (g : Fin 21) (b : Fin 8) (p : Fin 6) (u : Fin 2) (d : Fin 16) :
    ∃ r : ℝ, (σA m c (Proc.devRef .tc main_v3) : S5x21x8x6x2x16.Idx → EReal) (ix6 t g b p u d) = (r : EReal) := by
  obtain ⟨r, hr⟩ := cE_real
  obtain ⟨k, hk⟩ := hK (ix2 ⟨t.val * 168 + g.val * 8 + b.val, by omega⟩ ⟨p.val * 32 + u.val * 16 + d.val, by omega⟩)
  refine ⟨k * r, (v3_at _ t g b p u d).trans ?_⟩
  rw [EReal.coe_mul, ← hk, ← hr]
  rfl

include hK in
/-- The kernel's keys: three pieces of each equal to the scaled key, the other three zero, block-diagonal in the two heads. -/
theorem v24_real (g : Fin 21) (n : Fin 6) (r : Fin 80) (x : Fin 192) :
    (V m c main_v24 : S21x6x80x192.Idx → EReal) (ix4 g n r x)
      = if r.val / 40 = x.val / 96 ∧ (x.val % 96 / 16 = 0 ∨ x.val % 96 / 16 = 2 ∨ x.val % 96 / 16 = 5) then
          aK m c (ix2 ⟨r.val % 40 / 8 * 168 + g.val * 8 + r.val % 8, by omega⟩ ⟨(n.val * 2 + r.val / 40) * 16 + x.val % 16, by omega⟩) * cE else 0 := by
  refine (congrFun ((V_eq m c main_v24).trans ((keep_opsJ_v24 _).trans ((keep_opsI_v24 _).trans ((keep_opsH_v24 _).trans ((keep_hostOps0_1_v24 _).trans
    ((keep_opsG_v24 _).trans (keep_opsE_v24 (σD m c)))))))) (ix4 g n r x)).trans ((v24_at (σC m c) g n r x).trans ?_)
  have h6 : ∀ t b p u d, (σB m c (Proc.devRef .tc main_v6) : S5x21x8x6x2x16.Idx → EReal) (ix6 t g b p u d) = (0 : EReal) := fun t b p u d => by
    obtain ⟨r, hr⟩ := v3_real m c hK t g b p u d
    exact (v6_at (σA m c) t g b p u d).trans (sub_self' (v2_v3 m c t g b p u d) hr)
  have h9 : ∀ t b p u d, (σB m c (Proc.devRef .tc main_v9) : S5x21x8x6x2x16.Idx → EReal) (ix6 t g b p u d) = (0 : EReal) := fun t b p u d => by
    obtain ⟨r, hr⟩ := v3_real m c hK t g b p u d
    refine (v9_at (σA m c) t g b p u d).trans ?_
    beta_reduce
    rw [sub_self' (v2_v3 m c t g b p u d) hr, sub_zero]
  by_cases h : r.val / 40 = x.val / 96
  · rw [if_pos h]
    refine (v11_at (σB m c) g n _ _ _ _ (h6 _ _ _ _) (h9 _ _ _ _)).trans ?_
    dsimp only
    by_cases h2 : x.val % 96 / 16 = 0 ∨ x.val % 96 / 16 = 2 ∨ x.val % 96 / 16 = 5
    · rw [if_pos h2, if_pos ⟨h, h2⟩]
      refine (congrFun (keep_opsB_v3 (σA m c)) _).trans ((v3_at (σ0 m c) _ _ _ _ _ _).trans ?_)
      have hc : ∀ (i i' : Fin 840) (j j' : Fin 192), i = i' → j = j' → aK m c (ix2 i j) * cE = aK m c (ix2 i' j') * cE := by
        rintro i _ j _ rfl rfl; rfl
      exact hc _ _ _ _ (Fin.ext (by dsimp only)) (Fin.ext (by dsimp only; omega))
    · rw [if_neg h2, if_neg (fun e => h2 e.2)]
  · rw [if_neg h, if_neg (fun e => h e.1)]

theorem v38_real (b : Fin 168) (a : Fin 192) (x : Fin 60) :
    (σG m c (Proc.devRef .tc main_v38) : S168x192x60.Idx → EReal) (ix3 b a x)
      = if x.val / 5 = a.val / 16 then aV m c (ix2 ⟨x.val % 5 * 168 + b.val, by omega⟩ a) else 0 := by
  refine (v38_at (σE m c) b a x).trans ?_
  have e : (σE m c (Proc.devRef .tc main_v26) : S168x12x16x5.Idx → EReal) (ix4 b ⟨a.val / 16, by omega⟩ ⟨a.val % 16, by omega⟩ ⟨x.val % 5, by omega⟩)
      = aV m c (ix2 ⟨x.val % 5 * 168 + b.val, by omega⟩ a) := by
    refine (v26_at (σD m c) _ _ _ _).trans ?_
    refine (congrFun ((keep_opsD_arg1 (σC m c)).trans ((keep_opsC_arg1 (σB m c)).trans ((keep_opsB_arg1 (σA m c)).trans (keep_opsA_arg1 (σ0 m c))))) _).trans ?_
    have hc : ∀ (i i' : Fin 840) (j j' : Fin 192), i = i' → j = j' → aV m c (ix2 i j) = aV m c (ix2 i' j') := by
      rintro i _ j _ rfl rfl; rfl
    exact hc _ _ _ _ rfl (Fin.ext (by dsimp only; omega))
  refine (congrArg₂ (fun a b : EReal => a * b) e (v32_at (σD m c) _ _)).trans ?_
  beta_reduce
  by_cases h : x.val / 5 = a.val / 16
  · rw [if_pos (Fin.ext h.symm), if_pos h, mul_one]
  · rw [if_neg (fun q => h (Fin.mk.inj q).symm), if_neg h, mul_zero]

theorem v39_real (b : Fin 168) (a : Fin 192) (x : Fin 64) :
    (σP m c (Proc.devRef .tc main_v39) : S168x192x64.Idx → EReal) (ix3 b a x)
      = if x.val < 60 ∧ x.val / 5 = a.val / 16 then aV m c (ix2 ⟨x.val % 5 * 168 + b.val, by omega⟩ a) else 0 := by
  refine (v39_at (σG m c) b a x (c1_eq (σE m c))).trans ?_
  by_cases h : x.val < 60
  · rw [dif_pos h]
    refine (v38_real m c b a ⟨x.val, h⟩).trans ?_
    by_cases h2 : x.val / 5 = a.val / 16
    · rw [if_pos h2, if_pos ⟨h, h2⟩]
    · rw [if_neg h2, if_neg (fun e => h2 e.2)]
  · rw [dif_neg h, if_neg (fun e => h e.1)]

include hV in
/-- The kernel's values: three pieces of each equal to the value, the other three zero, block-diagonal in the heads. -/
theorem v47_real (b : Fin 168) (a : Fin 192) (x : Fin 384) :
    (V m c main_v47 : S168x192x384.Idx → EReal) (ix3 b a x)
      = if x.val < 192 ∧ x.val % 64 < 60 ∧ x.val % 64 / 5 = a.val / 16 then aV m c (ix2 ⟨x.val % 64 % 5 * 168 + b.val, by omega⟩ a) else 0 := by
  have hr : ∀ d, ∃ r : ℝ, (σP m c (Proc.devRef .tc main_v39) : S168x192x64.Idx → EReal) (ix3 b a d) = (r : EReal) := fun d => by
    obtain ⟨r, hr⟩ := hV (ix2 ⟨d.val % 5 * 168 + b.val, by omega⟩ a)
    refine ⟨if d.val < 60 ∧ d.val / 5 = a.val / 16 then r else 0, (v39_real m c b a d).trans ?_⟩
    split_ifs
    · exact hr
    · rfl
  refine (congrFun ((V_eq m c main_v47).trans (keep_opsJ_v47 (σI m c))) (ix3 b a x)).trans ?_
  refine (v47_at (σH m c) b a x (fun d => ?_) (fun d => ?_)).trans ?_
  · obtain ⟨r, h⟩ := hr d
    exact (v43_at (σP m c) b a d).trans (sub_self' rfl h)
  · obtain ⟨r, h⟩ := hr d
    refine (v46_at (σP m c) b a d).trans ?_
    beta_reduce
    rw [sub_self' rfl h, sub_zero]
  · by_cases h : x.val < 192
    · rw [if_pos h]
      refine (v40_at (σP m c) b a _).trans ((v39_real m c b a _).trans ?_)
      by_cases h2 : x.val % 64 < 60 ∧ x.val % 64 / 5 = a.val / 16
      · rw [if_pos h2, if_pos ⟨h, h2⟩]
      · rw [if_neg h2, if_neg (fun e => h2 e.2)]
    · rw [if_neg h, if_neg (fun e => h e.1)]
end

theorem v49_real (r : Fin 384) (n : Fin 128) : (V m c main_v49 : S384x128.Idx → EReal) (ix2 r n) = aSo m c (ix1 r) := by
  refine (congrFun (V_eq m c main_v49) _).trans ((v49_at (σI m c) r n).trans ?_)
  exact congrFun ((keep_opsI_arg4 (σH m c)).trans ((keep_opsH_arg4 (σP m c)).trans ((keep_hostOps0_1_arg4 (σG m c)).trans ((keep_opsG_arg4 (σE m c)).trans
    ((keep_opsE_arg4 (σD m c)).trans ((keep_opsD_arg4 (σC m c)).trans ((keep_opsC_arg4 (σB m c)).trans ((keep_opsB_arg4 (σA m c)).trans (keep_opsA_arg4 (σ0 m c))))))))))  (ix1 r)
theorem v51_real (r : Fin 384) (n : Fin 128) : (V m c main_v51 : S384x128.Idx → EReal) (ix2 r n) = aG m c (ix1 r) := by
  refine (congrFun (V_eq m c main_v51) _).trans ((v51_at (σI m c) r n).trans ?_)
  exact congrFun ((keep_opsI_arg6 (σH m c)).trans ((keep_opsH_arg6 (σP m c)).trans ((keep_hostOps0_1_arg6 (σG m c)).trans ((keep_opsG_arg6 (σE m c)).trans
    ((keep_opsE_arg6 (σD m c)).trans ((keep_opsD_arg6 (σC m c)).trans ((keep_opsC_arg6 (σB m c)).trans ((keep_opsB_arg6 (σA m c)).trans (keep_opsA_arg6 (σ0 m c)))))))))) (ix1 r)
theorem v53_real (r : Fin 384) (n : Fin 128) : (V m c main_v53 : S384x128.Idx → EReal) (ix2 r n) = aB m c (ix1 r) := by
  refine (congrFun (V_eq m c main_v53) _).trans ((v53_at (σI m c) r n).trans ?_)
  exact congrFun ((keep_opsI_arg7 (σH m c)).trans ((keep_opsH_arg7 (σP m c)).trans ((keep_hostOps0_1_arg7 (σG m c)).trans ((keep_opsG_arg7 (σE m c)).trans
    ((keep_opsE_arg7 (σD m c)).trans ((keep_opsD_arg7 (σC m c)).trans ((keep_opsC_arg7 (σB m c)).trans ((keep_opsB_arg7 (σA m c)).trans (keep_opsA_arg7 (σ0 m c)))))))))) (ix1 r)

theorem idxK : ∀ t : Fin cfg0.N, win0_0.index t = ![t.val % 21, 0, 0, 0] ∧ win0_1.index t = ![t.val % 21, 0, 0] ∧ win0_2.index t = ![0, t.val / 21]
    ∧ win0_3.index t = ![0, 0] ∧ win0_4.index t = ![0, 0] ∧ win0_5.index t = ![0, t.val / 21] ∧ win0_6.index t = ![0, 0] ∧ win0_7.index t = ![0, 0] :=
  (by decide +kernel : ∀ t : Fin grid0.N, _)

theorem tlt (t : Fin cfg0.N) : t.val < 168 := lt_of_lt_of_eq t.isLt N_0

theorem b0 (t : Fin cfg0.N) (n : Fin 6) (r : Fin 80) (x : Fin 192) :
    (ins m c t).k (ix4 0 n r x) = (V m c main_v24 : S21x6x80x192.Idx → EReal) (ix4 ⟨t.val % 21, Nat.mod_lt _ (by decide)⟩ n r x) := by
  have e := (idxK t).1
  show (iblk m c 0 t : S1x6x80x192.Idx → EReal) (ix4 0 n r x) = _
  blk_ext [iblk, e]
theorem b1 (t : Fin cfg0.N) (b : Fin 8) (a : Fin 192) (x : Fin 384) :
    (ins m c t).v (ix3 b a x) = (V m c main_v47 : S168x192x384.Idx → EReal) (ix3 ⟨t.val % 21 * 8 + b.val, by omega⟩ a x) := by
  have e := (idxK t).2.1
  show (iblk m c 1 t : S8x192x384.Idx → EReal) (ix3 b a x) = _
  blk_ext [iblk, e]
theorem b2 (t : Fin cfg0.N) (x : Fin 1152) (l : Fin 512) :
    (ins m c t).q (ix2 x l) = (V m c main_arg2 : S1152x4096.Idx → EReal) (ix2 x ⟨t.val / 21 * 512 + l.val, by have := tlt t; omega⟩) := by
  have e := (idxK t).2.2.1
  show (iblk m c 2 t : S1152x512.Idx → EReal) (ix2 x l) = _
  blk_ext [iblk, e]
theorem b3 (t : Fin cfg0.N) (r : Fin 400) (x : Fin 192) :
    (ins m c t).w (ix2 r x) = (V m c main_arg3 : S400x192.Idx → EReal) (ix2 r x) := by
  have e := (idxK t).2.2.2.1
  show (iblk m c 3 t : S400x192.Idx → EReal) (ix2 r x) = _
  blk_ext [iblk, e]
theorem b4 (t : Fin cfg0.N) (r : Fin 384) (x : Fin 128) :
    (ins m c t).so (ix2 r x) = (V m c main_v49 : S384x128.Idx → EReal) (ix2 r x) := by
  have e := (idxK t).2.2.2.2.1
  show (iblk m c 4 t : S384x128.Idx → EReal) (ix2 r x) = _
  blk_ext [iblk, e]
theorem b5 (t : Fin cfg0.N) (r : Fin 384) (l : Fin 512) :
    (ins m c t).x (ix2 r l) = (V m c main_arg5 : S384x4096.Idx → EReal) (ix2 r ⟨t.val / 21 * 512 + l.val, by have := tlt t; omega⟩) := by
  have e := (idxK t).2.2.2.2.2.1
  show (iblk m c 5 t : S384x512.Idx → EReal) (ix2 r l) = _
  blk_ext [iblk, e]
theorem b6 (t : Fin cfg0.N) (r : Fin 384) (x : Fin 128) :
    (ins m c t).g (ix2 r x) = (V m c main_v51 : S384x128.Idx → EReal) (ix2 r x) := by
  have e := (idxK t).2.2.2.2.2.2.1
  show (iblk m c 6 t : S384x128.Idx → EReal) (ix2 r x) = _
  blk_ext [iblk, e]
theorem b7 (t : Fin cfg0.N) (r : Fin 384) (x : Fin 128) :
    (ins m c t).b (ix2 r x) = (V m c main_v53 : S384x128.Idx → EReal) (ix2 r x) := by
  have e := (idxK t).2.2.2.2.2.2.2
  show (iblk m c 7 t : S384x128.Idx → EReal) (ix2 r x) = _
  blk_ext [iblk, e]

end Cert.KernelIdeal.Hand
-- ==== Proof.Global.lean ====
/-
  The image call's three results as functions of its arguments.
-/
module

public import proofs.«01_k».proof.Proof.KerTail

@[expose] public section

noncomputable section

namespace I2t.Spec

open Idealize.ShloMosaic Idealize.ShloMosaic.Pointwise

abbrev A2 (a b : ℕ) := (⟨2, ![a, b]⟩ : Shape).Idx → EReal
abbrev A1 (a : ℕ) := (⟨1, ![a]⟩ : Shape).Idx → EReal

/-- The attention output of set `b` at position `l`, channel `j` of group `a`. -/
def out (K V : A2 840 192) (Q : A2 1152 4096) (b : Fin 168) (l : Fin 4096) (a : Fin 6) (j : Fin 32) : EReal :=
  attn (fun t => (∑ d : Fin 16, K (ix2 ⟨t.val * 168 + b.val, by omega⟩ ⟨(a.val * 2 + j.val / 16) * 16 + d.val, by omega⟩)
      * (Q (ix2 ⟨(a.val * 2 + j.val / 16) * 96 + d.val, by omega⟩ l) + Q (ix2 ⟨(a.val * 2 + j.val / 16) * 96 + 32 + d.val, by omega⟩ l)
        + Q (ix2 ⟨(a.val * 2 + j.val / 16) * 96 + 80 + d.val, by omega⟩ l))) * Ideal.ofBits .f32 1052289595#32)
    (fun t => V (ix2 ⟨t.val * 168 + b.val, by omega⟩ ⟨(a.val * 2 + j.val / 16) * 16 + j.val % 16, by omega⟩))

def codes (K V : A2 840 192) (Q : A2 1152 4096) (b : Fin 168) (l : Fin 4096) (c : Fin 192) : EReal :=
  code (out K V Q b l ⟨c.val / 32, by omega⟩ ⟨c.val % 32, by omega⟩) (ratio (out K V Q b l ⟨c.val / 32, by omega⟩))
def scales (K V : A2 840 192) (Q : A2 1152 4096) (b : Fin 168) (a : Fin 6) (l : Fin 4096) : EReal := scale (ratio (out K V Q b l a))
def image (K V : A2 840 192) (Q : A2 1152 4096) (W : A2 400 192) (so : A1 384) (X : A2 384 4096) (g β : A1 384) (b : Fin 168) (l : Fin 4096) (c : Fin 384) : EReal :=
  ln (fun c => X (ix2 c l) + (∑ x : Fin 192, W (ix2 ⟨c.val, by omega⟩ x) * wideAt (out K V Q b l) x) * so (ix1 c)) (g (ix1 c)) (β (ix1 c)) c

end I2t.Spec
-- ==== Proof.KerIns.lean ====
/-
  The arrays the call leaves, for real arguments: each block by the kernel's values at a grid point.
-/
module

public import proofs.«01_k».proof.Proof.KerBlk
public import proofs.«01_k».proof.Proof.Global

@[expose] public section

set_option maxRecDepth 16384

noncomputable section

namespace Cert.KernelIdeal.Hand

open Idealize.ShloMosaic Idealize.ShloMosaic.Pointwise Idealize.ShloMosaic.TcCoe Cert.KernelIdeal Cert.KernelIdeal.Gen I2t

variable (m : (ℓ : Loc nD τ sig) → Buf (Elt Ideal) ℓ) (c : Dev nD)

/-- The arguments real, the residual of mean zero over the channels, the mean rows the means. -/
structure Good : Prop where
  hK : ∀ i, ∃ r : ℝ, aK m c i = (r : EReal)
  hV : ∀ i, ∃ r : ℝ, aV m c i = (r : EReal) ∧ |r| ≤ Spec.big
  hQ : ∀ i, ∃ r : ℝ, aQ m c i = (r : EReal)
  hW : ∀ i, ∃ r : ℝ, aW m c i = (r : EReal)
  hSo : ∀ i, ∃ r : ℝ, aSo m c i = (r : EReal)
  hX : ∀ i, ∃ r : ℝ, aX m c i = (r : EReal)
  x0 : ∀ l : Fin 4096, ∑ r : Fin 384, aX m c (ix2 r l) = 0
  ws : ∀ x : Fin 192, ∑ r : Fin 384, aW m c (ix2 ⟨r.val, by omega⟩ x) * aSo m c (ix1 r)
    = ((384 : ℝ) : EReal) * (aW m c (ix2 ⟨384, by decide⟩ x) + aW m c (ix2 ⟨385, by decide⟩ x) + aW m c (ix2 ⟨386, by decide⟩ x))

def cR : ℝ := cE.toReal
theorem cE_eq : cE = ((cR : ℝ) : EReal) := by
  obtain ⟨r, h⟩ := cE_real
  unfold cR
  rw [h, EReal.toReal_coe]

def nK (i j : ℕ) : ℝ := if h : i < 840 ∧ j < 192 then (aK m c (ix2 ⟨i, h.1⟩ ⟨j, h.2⟩)).toReal else 0
def nV (i j : ℕ) : ℝ := if h : i < 840 ∧ j < 192 then (aV m c (ix2 ⟨i, h.1⟩ ⟨j, h.2⟩)).toReal else 0
def nQ (i j : ℕ) : ℝ := if h : i < 1152 ∧ j < 4096 then (aQ m c (ix2 ⟨i, h.1⟩ ⟨j, h.2⟩)).toReal else 0

section
variable {m c} (R : Good m c)
include R

theorem nK_eq (i j : ℕ) (hi : i < 840) (hj : j < 192) : aK m c (ix2 ⟨i, hi⟩ ⟨j, hj⟩) = ((nK m c i j : ℝ) : EReal) := by
  obtain ⟨r, h⟩ := R.hK (ix2 ⟨i, hi⟩ ⟨j, hj⟩)
  unfold nK
  rw [dif_pos ⟨hi, hj⟩, h, EReal.toReal_coe]
theorem nV_eq (i j : ℕ) (hi : i < 840) (hj : j < 192) : aV m c (ix2 ⟨i, hi⟩ ⟨j, hj⟩) = ((nV m c i j : ℝ) : EReal) := by
  obtain ⟨r, h, -⟩ := R.hV (ix2 ⟨i, hi⟩ ⟨j, hj⟩)
  unfold nV
  rw [dif_pos ⟨hi, hj⟩, h, EReal.toReal_coe]
theorem nQ_eq (i j : ℕ) (hi : i < 1152) (hj : j < 4096) : aQ m c (ix2 ⟨i, hi⟩ ⟨j, hj⟩) = ((nQ m c i j : ℝ) : EReal) := by
  obtain ⟨r, h⟩ := R.hQ (ix2 ⟨i, hi⟩ ⟨j, hj⟩)
  unfold nQ
  rw [dif_pos ⟨hi, hj⟩, h, EReal.toReal_coe]
theorem nV_big (i j : ℕ) : |nV m c i j| ≤ Spec.big := by
  unfold nV
  split_ifs with h
  · obtain ⟨r, e, hr⟩ := R.hV (ix2 ⟨i, h.1⟩ ⟨j, h.2⟩)
    rw [e, EReal.toReal_coe]
    exact hr
  · rw [abs_zero]
    unfold Spec.big
    positivity
end

/-- The scaled key of a head, token, row of the block and channel. -/
def kk (t : ℕ) (h tok b d : ℕ) : ℝ := nK m c (tok * 168 + t % 21 * 8 + b) (h * 16 + d) * cR
/-- The query of a head, term, channel and position of the tile. -/
def qq (t : ℕ) (h e d l : ℕ) : ℝ := nQ m c (h * 96 + e * 16 + d) (t / 21 * 512 + l)
/-- The value of a row of the block, head, channel and token. -/
def vv (t : ℕ) (b h d tok : ℕ) : ℝ := nV m c (tok * 168 + (t % 21 * 8 + b)) (h * 16 + d)

section
variable {m c} (R : Good m c) (t : Fin cfg0.N)
include R

theorem ops : Ops (ins m c t) (kk m c t.val) (qq m c t.val) (vv m c t.val) where
  hk := fun n r x => by
    rw [b0]
    refine (v24_real m c R.hK _ n r x).trans ?_
    split_ifs
    · refine Eq.trans (congrArg (· * cE) (nK_eq R _ _ _ _)) ?_
      beta_reduce
      rw [cE_eq, ← EReal.coe_mul]
      rfl
    · rfl
  hq := fun x l => by
    rw [b2, V_main_arg2]
    refine (nQ_eq R _ _ x.isLt (by have := tlt t; omega)).trans ?_
    unfold qq
    have e : x.val / 96 * 96 + x.val % 96 / 16 * 16 + x.val % 16 = x.val := by omega
    rw [e]
  hv := fun b a x => by
    rw [b1]
    refine (v47_real m c (fun i => (R.hV i).imp fun _ h => h.1) _ a x).trans ?_
    split_ifs
    · refine (nV_eq R _ a.val _ a.isLt).trans ?_
      unfold vv
      have e : a.val / 16 * 16 + a.val % 16 = a.val := by omega
      rw [e]
    · rfl

theorem vv_big (b h d x : ℕ) : |vv m c t.val b h d x| ≤ Spec.big := nV_big R _ _

/-- The attention output of a row of the block is that of the row's set, position and group. -/
theorem oE_out (b : Fin 8) (l : Fin 512) (a : Fin 6) :
    oE (kk m c t.val) (qq m c t.val) (vv m c t.val) b.val l.val a
      = Spec.out (aK m c) (aV m c) (aQ m c) ⟨t.val % 21 * 8 + b.val, by omega⟩ ⟨t.val / 21 * 512 + l.val, by have := tlt t; omega⟩ a := by
  have ht := tlt t
  funext j
  refine (oR_attn _ _ a j).trans ?_
  unfold Spec.out
  refine congrArg₂ Spec.attn (funext fun x => ?_) (funext fun x => ?_)
  · unfold sF sR
    have hj : j.val / 16 < 2 := by omega
    refine Eq.trans (congrArg (fun z : ℝ => (z : EReal)) ?_) ((EReal.coe_mul _ _).trans (congrArg₂ (· * ·) (Spec.coe_sum Finset.univ (fun d : Fin 16 =>
      nK m c (x.val * 168 + (t.val % 21 * 8 + b.val)) ((a.val * 2 + j.val / 16) * 16 + d.val) *
        (nQ m c ((a.val * 2 + j.val / 16) * 96 + d.val) (t.val / 21 * 512 + l.val) + nQ m c ((a.val * 2 + j.val / 16) * 96 + 32 + d.val) (t.val / 21 * 512 + l.val)
          + nQ m c ((a.val * 2 + j.val / 16) * 96 + 80 + d.val) (t.val / 21 * 512 + l.val)))).symm cE_eq.symm)) |>.trans ?_
    · rw [Finset.sum_mul]
      refine Finset.sum_congr rfl fun d _ => ?_
      unfold kk qq
      rw [show x.val * 168 + t.val % 21 * 8 + b.val = x.val * 168 + (t.val % 21 * 8 + b.val) by omega, show ∀ h : ℕ, h * 96 + 0 * 16 + d.val = h * 96 + d.val from fun h => by omega]
      ring
    · refine congrArg₂ (· * ·) (Finset.sum_congr rfl fun d _ => ?_) rfl
      rw [EReal.coe_mul, EReal.coe_add, EReal.coe_add]
      rw [nK_eq R _ _ (by omega) (by omega), nQ_eq R _ _ (by omega) (by omega), nQ_eq R _ _ (by omega) (by omega), nQ_eq R _ _ (by omega) (by omega)]
  · exact (nV_eq R _ _ _ _).symm

end

end Cert.KernelIdeal.Hand
-- ==== Proof.PreRead.lean ====
/-
  What the precondition says of the arguments: all are real, the residual's channels sum to zero, and the three mean rows
  of the weights add up to the mean of the others by the scales.
-/
module

public import proofs.«01_k».proof.Defs
public import proofs.«01_k».proof.Proof.Gen.Pre_finite_and_centred
public import proofs.«01_k».proof.Proof.KerIns

@[expose] public section

set_option maxRecDepth 16384

noncomputable section

namespace Cert.Pre_finite_and_centred.Hand

open Idealize.ShloMosaic Idealize.ShloMosaic.Pointwise Cert.Pre_finite_and_centred

attribute [local instance] Cert.Pre_finite_and_centred.Gen.facts

open Facts

theorem max_bits : Ideal.ofBits .f32 2139095039#32 = (((2 ^ 24 - 1) * 2 ^ 104 : ℝ) : EReal) := by
  simp [Ideal.ofBits, Ideal.ieee, -EReal.coe_mul]; norm_num

/-- A value whose magnitude is at most the largest number is real. -/
theorem real_of (x : EReal) (h : FloatOps.cmpf (F := Ideal) (φ := .f32) .ole (max x (-x)) (Ideal.ofBits .f32 2139095039#32) = 1#1) :
    ∃ r : ℝ, x = (r : EReal) ∧ |r| ≤ I2t.Spec.big := by
  have h' : max x (-x) ≤ Ideal.ofBits .f32 2139095039#32 := by
    by_contra hn
    have : FloatOps.cmpf (F := Ideal) (φ := .f32) .ole (max x (-x)) (Ideal.ofBits .f32 2139095039#32) = 0#1 := by
      show BitVec.ofBool (decide (max x (-x) ≤ Ideal.ofBits .f32 2139095039#32)) = 0#1
      rw [decide_eq_false hn]; rfl
    rw [this] at h
    exact absurd h (by decide)
  rw [max_bits] at h'
  obtain ⟨h1, h2⟩ := max_le_iff.mp h'
  induction x using EReal.rec with
  | bot => exact absurd h2 (by rw [EReal.neg_bot]; exact not_le.mpr (EReal.coe_lt_top _))
  | top => exact absurd h1 (not_le.mpr (EReal.coe_lt_top _))
  | coe r =>
    refine ⟨r, rfl, ?_⟩
    rw [← EReal.coe_neg] at h2
    have h1 := EReal.coe_le_coe_iff.mp h1
    have h2 := EReal.coe_le_coe_iff.mp h2
    refine (abs_le.mpr ⟨by linarith, h1⟩ : |r| ≤ (2 ^ 24 - 1) * 2 ^ 104).trans ?_
    unfold I2t.Spec.big
    norm_num

theorem eq_of (x y : EReal) (h : FloatOps.cmpf (F := Ideal) (φ := .f32) .oeq x y = 1#1) : x = y := by
  by_contra hn
  have : FloatOps.cmpf (F := Ideal) (φ := .f32) .oeq x y = 0#1 := by
    show BitVec.ofBool (decide (x = y)) = 0#1
    rw [decide_eq_false hn]; rfl
  rw [this] at h
  exact absurd h (by decide)

section
variable (K V : FVec Ideal S840x192 .f32) (Q : FVec Ideal S1152x4096 .bf16) (W : FVec Ideal S400x192 .bf16) (so : FVec Ideal S384 .f32)
  (X : FVec Ideal S384x4096 .f32) (g b : FVec Ideal S384 .f32)

theorem fin_K (h : (fn (F := Ideal) K V Q W so X g b).1 = fun _ => 1#1) (i : Fin 840) (j : Fin 192) : ∃ r : ℝ, K (ix2 i j) = (r : EReal) ∧ |r| ≤ I2t.Spec.big := by
  refine real_of _ (Eq.trans ?_ (congrFun h (ix2 i j)))
  pointwise [fn, fn_part1, fn_part2]
  rfl
theorem fin_V (h : (fn (F := Ideal) K V Q W so X g b).2.1 = fun _ => 1#1) (i : Fin 840) (j : Fin 192) : ∃ r : ℝ, V (ix2 i j) = (r : EReal) ∧ |r| ≤ I2t.Spec.big := by
  refine real_of _ (Eq.trans ?_ (congrFun h (ix2 i j)))
  pointwise [fn, fn_part1, fn_part2]
  rfl
theorem fin_Q (h : (fn (F := Ideal) K V Q W so X g b).2.2.1 = fun _ => 1#1) (i : Fin 1152) (j : Fin 4096) : ∃ r : ℝ, Q (ix2 i j) = (r : EReal) ∧ |r| ≤ I2t.Spec.big := by
  refine real_of _ (Eq.trans ?_ (congrFun h (ix2 i j)))
  pointwise [fn, fn_part1, fn_part2]
  rfl
theorem fin_W (h : (fn (F := Ideal) K V Q W so X g b).2.2.2.1 = fun _ => 1#1) (i : Fin 400) (j : Fin 192) : ∃ r : ℝ, W (ix2 i j) = (r : EReal) ∧ |r| ≤ I2t.Spec.big := by
  refine real_of _ (Eq.trans ?_ (congrFun h (ix2 i j)))
  pointwise [fn, fn_part1, fn_part2]
  rfl
theorem fin_so (h : (fn (F := Ideal) K V Q W so X g b).2.2.2.2.1 = fun _ => 1#1) (i : Fin 384) : ∃ r : ℝ, so (ix1 i) = (r : EReal) ∧ |r| ≤ I2t.Spec.big := by
  refine real_of _ (Eq.trans ?_ (congrFun h (ix1 i)))
  pointwise [fn, fn_part1, fn_part2]
  rfl
theorem fin_X (h : (fn (F := Ideal) K V Q W so X g b).2.2.2.2.2.1 = fun _ => 1#1) (i : Fin 384) (j : Fin 4096) : ∃ r : ℝ, X (ix2 i j) = (r : EReal) ∧ |r| ≤ I2t.Spec.big := by
  refine real_of _ (Eq.trans ?_ (congrFun h (ix2 i j)))
  pointwise [fn, fn_part1, fn_part2]
  rfl
/-- The residual's channels sum to zero. -/
theorem sum_X (h : (fn (F := Ideal) K V Q W so X g b).2.2.2.2.2.2.1 = fun _ => 1#1) (l : Fin 4096) : ∑ r : Fin 384, X (ix2 r l) = 0 := by
  refine eq_of _ _ (Eq.trans ?_ (congrFun h (ix1 l)))
  pointwise [fn, fn_part1, fn_part2]
/-- The mean rows. -/
theorem sum_W (h : (fn (F := Ideal) K V Q W so X g b).2.2.2.2.2.2.2 = fun _ => 1#1) (x : Fin 192) :
    ∑ r : Fin 384, W (ix2 ⟨r.val, by omega⟩ x) * so (ix1 r) = ((384 : ℝ) : EReal) * (W (ix2 ⟨384, by decide⟩ x) + W (ix2 ⟨385, by decide⟩ x) + W (ix2 ⟨386, by decide⟩ x)) := by
  rw [← I2t.Spec.d_bits]
  refine eq_of _ _ (Eq.trans ?_ (congrFun h (ix1 x)))
  pointwise [fn, fn_part1, fn_part2]

end

end Cert.Pre_finite_and_centred.Hand
-- ==== Proof.KerFin.lean ====
/-
  The arrays the kernel's call leaves, for real arguments, in the terms of the specification.
-/
module

public import proofs.«01_k».proof.Proof.KerIns

@[expose] public section

set_option maxRecDepth 16384

noncomputable section

namespace Cert.KernelIdeal.Hand

open Idealize.ShloMosaic Idealize.ShloMosaic.Pointwise Idealize.ShloMosaic.TcCoe Cert.KernelIdeal Cert.KernelIdeal.Gen I2t

variable (m : (ℓ : Loc nD τ sig) → Buf (Elt Ideal) ℓ) (c : Dev nD)

/-- The image. -/
def G8 : S168x4096x384.Idx → EReal := fun j => Spec.image (aK m c) (aV m c) (aQ m c) (aW m c) (aSo m c) (aX m c) (aG m c) (aB m c) (j 0) (j 1) (j 2)
/-- The codes. -/
def G9 : S168x4096x192.Idx → EReal := fun j => Spec.codes (aK m c) (aV m c) (aQ m c) (j 0) (j 1) (j 2)
/-- The scales. -/
def G10 : S168x6x4096.Idx → EReal := fun j => Spec.scales (aK m c) (aV m c) (aQ m c) (j 0) (j 1) (j 2)

theorem inv_real : (invC : Ideal .f32) = ((1 / 384 : ℝ) : EReal) := rfl

section
variable {m c} (R : Good m c) (t : Fin cfg0.N)
include R

theorem W_eq (i) : ((((aW m c i).toReal : ℝ)) : EReal) = aW m c i := by obtain ⟨r, h⟩ := R.hW i; rw [h, EReal.toReal_coe]
theorem So_eq (i) : ((((aSo m c i).toReal : ℝ)) : EReal) = aSo m c i := by obtain ⟨r, h⟩ := R.hSo i; rw [h, EReal.toReal_coe]
theorem X_eq (i) : ((((aX m c i).toReal : ℝ)) : EReal) = aX m c i := by obtain ⟨r, h⟩ := R.hX i; rw [h, EReal.toReal_coe]

theorem rest : Rest (ins m c t) (fun i x => (aW m c (ix2 i x)).toReal) (fun i => (aSo m c (ix1 i)).toReal)
    (fun i l => (aX m c (ix2 i ⟨t.val / 21 * 512 + l.val, by have := tlt t; omega⟩)).toReal) (fun i => aG m c (ix1 i)) (fun i => aB m c (ix1 i)) where
  hw := fun i x => by rw [b3, V_main_arg3, W_eq R]; rfl
  hso := fun i n => by rw [b4, So_eq R]; exact v49_real m c i n
  hx := fun i l => by rw [b5, V_main_arg5, X_eq R]; rfl
  hg := fun i n => by rw [b6]; exact v51_real m c i n
  hb := fun i n => by rw [b7]; exact v53_real m c i n
  x0 := fun l => by
    apply EReal.coe_injective
    rw [← Spec.coe_sum]
    simp only [X_eq R]
    exact R.x0 _
  ws := fun x => by
    apply EReal.coe_injective
    rw [← Spec.coe_sum, EReal.coe_mul, EReal.coe_add, EReal.coe_add]
    simp only [EReal.coe_mul, W_eq R, So_eq R]
    exact R.ws x

/-- The point's rows of the set and positions of the tile. -/
theorem oc_at (b : Fin 8) (l : Fin 512) (d : Fin 192) : ocFin (ins m c t).cells (ix3 b l d)
    = Spec.codes (aK m c) (aV m c) (aQ m c) ⟨t.val % 21 * 8 + b.val, by omega⟩ ⟨t.val / 21 * 512 + l.val, by have := tlt t; omega⟩ d := by
  rw [ocFin_at (ops R t) (vv_big R t), oE_out R]
  rfl
theorem os_at (b : Fin 8) (a : Fin 6) (l : Fin 512) : osFin (ins m c t).cells (ix3 b a l)
    = Spec.scales (aK m c) (aV m c) (aQ m c) ⟨t.val % 21 * 8 + b.val, by omega⟩ a ⟨t.val / 21 * 512 + l.val, by have := tlt t; omega⟩ := by
  rw [osFin_at (ops R t) (vv_big R t), oE_out R]
  rfl
theorem img_at (b : Fin 8) (l : Fin 512) (d : Fin 384) : imgFin invC (ins m c t).cells (ix3 b l d)
    = Spec.image (aK m c) (aV m c) (aQ m c) (aW m c) (aSo m c) (aX m c) (aG m c) (aB m c) ⟨t.val % 21 * 8 + b.val, by omega⟩ ⟨t.val / 21 * 512 + l.val, by have := tlt t; omega⟩ d := by
  have ho : oE (kk m c t.val) (qq m c t.val) (vv m c t.val) b.val l.val
      = Spec.out (aK m c) (aV m c) (aQ m c) ⟨t.val % 21 * 8 + b.val, by omega⟩ ⟨t.val / 21 * 512 + l.val, by have := tlt t; omega⟩ := funext fun a => oE_out R t b l a
  rw [imgFin_at (ops R t) (vv_big R t) (rest R t) 0 invC inv_real, ho]
  simp only [W_eq R, So_eq R, X_eq R]
  rfl

theorem idxO : ∀ t : Fin cfg0.N, win0_8.index t = ![t.val % 21, t.val / 21, 0] ∧ win0_9.index t = ![t.val % 21, t.val / 21, 0] ∧ win0_10.index t = ![t.val % 21, 0, t.val / 21] :=
  (by decide +kernel : ∀ t : Fin grid0.N, _)

end

theorem eta3 {n k p : ℕ} (j : (⟨3, ![n, k, p]⟩ : Shape).Idx) : ∃ (x : Fin n) (y : Fin k) (z : Fin p), j = ix3 x y z :=
  ⟨j 0, j 1, j 2, by
    funext i
    match i with
    | ⟨0, _⟩ => rfl
    | ⟨1, _⟩ => rfl
    | ⟨2, _⟩ => rfl⟩

theorem g10 (b a l) : G10 m c (ix3 b a l) = Spec.scales (aK m c) (aV m c) (aQ m c) b a l := rfl
theorem g9 (b l d) : G9 m c (ix3 b l d) = Spec.codes (aK m c) (aV m c) (aQ m c) b l d := rfl
theorem g8 (b l d) : G8 m c (ix3 b l d) = Spec.image (aK m c) (aV m c) (aQ m c) (aW m c) (aSo m c) (aX m c) (aG m c) (aB m c) b l d := rfl

theorem fin10 (R : Good m c) : (dats m 0 c).arrAt 10 cfg0.N = G10 m c := by
  refine (dats m 0 c).arrAt_eq_of_covers 10 _ (by decide +kernel) fun t hf y => ?_
  blk_simp
  rw [after0_10]
  have e := (idxO R t).2.2
  obtain ⟨b, a, l, rfl⟩ := eta3 (n := 8) (k := 6) (p := 512) y
  refine (os_at R t b a l).trans ((g10 m c _ _ _).symm.trans ?_)
  blk_ext [e]

theorem fin9 (R : Good m c) : (dats m 0 c).arrAt 9 cfg0.N = G9 m c := by
  refine (dats m 0 c).arrAt_eq_of_covers 9 _ (by decide +kernel) fun t hf y => ?_
  blk_simp
  rw [after0_9]
  have e := (idxO R t).2.1
  obtain ⟨b, a, l, rfl⟩ := eta3 (n := 8) (k := 512) (p := 192) y
  refine (oc_at R t b a l).trans ((g9 m c _ _ _).symm.trans ?_)
  blk_ext [e]

theorem fin8 (R : Good m c) : (dats m 0 c).arrAt 8 cfg0.N = G8 m c := by
  refine (dats m 0 c).arrAt_eq_of_covers 8 _ (by decide +kernel) fun t hf y => ?_
  blk_simp
  rw [after0_8]
  have e := (idxO R t).1
  obtain ⟨b, a, l, rfl⟩ := eta3 (n := 8) (k := 512) (p := 384) y
  refine (img_at R t b a l).trans ((g8 m c _ _ _).symm.trans ?_)
  blk_ext [e]

variable (ρ : Dev nD → PrngReg)
open Idealize.SL.Sem

/-- The kernel's run on good arguments: its three results are the functions above of its arguments, which end unchanged. -/
theorem run (R : ∀ c, Good m c) : θ_run defs (onTc (τ := τ) (main (F := Ideal))) ⟨m, fun _ => 0, ρ⟩ (fun r => ∀ c : Dev nD,
      r.2.mem ((c.tc : Thread nD τ).loc main_v54_0) = G8 m c
      ∧ r.2.mem ((c.tc : Thread nD τ).loc main_v54_1) = G9 m c
      ∧ r.2.mem ((c.tc : Thread nD τ).loc main_v54_2) = G10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 8).trans (fin8 m c (R c)), ((h.1 c).1 9).trans (fin9 m c (R c)), ((h.1 c).1 10).trans (fin10 m c (R c)), h.2.1 c⟩)
    (θ_run_and (run_main m ρ) (frame m ρ))

end Cert.KernelIdeal.Hand
-- ==== Proof.RefRead.lean ====
/-
  The reference's values at an index, in terms of its loaded blocks.
-/
module

public import proofs.«01_k».proof.Proof.Gen.ReferenceIdeal.Skeleton
public import proofs.«01_k».proof.Proof.Spec
public import Idealize.ShloMosaic.Lib.Pointwise

@[expose] public section

set_option maxRecDepth 16384

noncomputable section

namespace Cert.ReferenceIdeal.Hand

open Idealize.ShloMosaic Cert.ReferenceIdeal Cert.ReferenceIdeal.Gen Idealize.ShloMosaic.Pointwise

/-- The scaled scores. -/
def scoreV (v0 : Vec Ideal S12x840x16 .f32) (v2 : Vec Ideal S12x16x4096 .f32) : FVec Ideal S12x840x4096 .f32 :=
  have v1 : FVec Ideal S12x840x16 .f32 := shapeCast S12x840x16 v0 shapeCasts_S12x840x16_S12x840x16
  have v3 : FVec Ideal S12x16x4096 .f32 := shapeCast S12x16x4096 v2 shapeCasts_S12x16x4096_S12x16x4096
  have v4 : FVec Ideal S12x840x4096 .f32 := matmul dot_S12x840x16_S12x16x4096_S12x840x4096_2_1_1_2_0_0 (some .fp32) v1 v3 (constant S12x840x4096 .f32 0x00000000#32)
  mulf v4 (broadcast S12x840x4096 (Scalar.ofBits .f32 0x3EB8AA3B#32))
def scoreT (v6 : FVec Ideal S12x840x4096 .f32) : FVec Ideal S12x5x168x4096 .f32 :=
  shapeCast S12x5x168x4096 v6 shapeCasts_S12x840x4096_S12x5x168x4096
def expT (v7 : FVec Ideal S12x5x168x4096 .f32) : FVec Ideal S12x5x168x4096 .f32 :=
  exp2 (subf v7 (broadcastTo S12x5x168x4096 (shapeCast S12x1x168x4096
    (multiReduction .maximumf [1] S12x168x4096 v7 0xFF800000#32 reduces_S12x5x168x4096_S12x168x4096 (.inl rfl) rfl)
    shapeCasts_S12x168x4096_S12x1x168x4096) broadcasts_S12x1x168x4096_S12x5x168x4096))
def sumP (v12 : FVec Ideal S12x5x168x4096 .f32) : FVec Ideal S12x168x4096 .f32 :=
  multiReduction .add [1] S12x168x4096 v12 0x00000000#32 reduces_S12x5x168x4096_S12x168x4096 (.inl rfl) rfl
def overP (x : FVec Ideal S12x168x4096 .f32) : FVec Ideal S12x5x168x4096 .f32 :=
  broadcastTo S12x5x168x4096 (shapeCast S12x1x168x4096 x shapeCasts_S12x168x4096_S12x1x168x4096) broadcasts_S12x1x168x4096_S12x5x168x4096
def probT (v12 : FVec Ideal S12x5x168x4096 .f32) : FVec Ideal S12x5x168x4096 .f32 := divf v12 (overP (sumP v12))
def attnT (v16 : FVec Ideal S12x5x168x4096 .f32) (v18 : Vec Ideal S12x16x5x168x1 .f32) : FVec Ideal S12x16x168x4096 .f32 :=
  multiReduction .add [2] S12x16x168x4096
    (mulf (broadcastTo S12x16x5x168x4096 (shapeCast S12x1x5x168x4096 v16 shapeCasts_S12x5x168x4096_S12x1x5x168x4096) broadcasts_S12x1x5x168x4096_S12x16x5x168x4096)
      (broadcastTo S12x16x5x168x4096 (shapeCast S12x16x5x168x1 v18 shapeCasts_S12x16x5x168x1_S12x16x5x168x1) broadcasts_S12x16x5x168x1_S12x16x5x168x4096))
    0x00000000#32 reduces_S12x16x5x168x4096_S12x16x168x4096 (.inl rfl) rfl
def groupT (v23 : FVec Ideal S12x16x168x4096 .f32) : FVec Ideal S6x32x168x4096 .f32 :=
  shapeCast S6x32x168x4096 v23 shapeCasts_S12x16x168x4096_S6x32x168x4096
def maxG (o : FVec Ideal S6x32x168x4096 .f32) : FVec Ideal S6x168x4096 .f32 :=
  multiReduction .maximumf [1] S6x168x4096 o 0xFF800000#32 reduces_S6x32x168x4096_S6x168x4096 (.inl rfl) rfl
def absG (o : FVec Ideal S6x32x168x4096 .f32) : FVec Ideal S6x32x168x4096 .f32 := absf o
def castG (x : FVec Ideal S6x168x4096 .f32) : FVec Ideal S6x1x168x4096 .f32 := shapeCast S6x1x168x4096 x shapeCasts_S6x168x4096_S6x1x168x4096
def constG (x : FVec Ideal S6x1x168x4096 .f32) : FVec Ideal S6x1x168x4096 .f32 :=
  mulf x (broadcast S6x1x168x4096 (Scalar.ofBits .f32 0x3B124925#32))
def ratioT (o : FVec Ideal S6x32x168x4096 .f32) : FVec Ideal S6x1x168x4096 .f32 := constG (castG (maxG (absG o)))
def lowT (r : FVec Ideal S6x1x168x4096 .f32) : IVec S6x1x168x4096 1 :=
  cmpf .olt r (broadcast S6x1x168x4096 (Scalar.ofBits .f32 0x00800000#32))
def logT (r : FVec Ideal S6x1x168x4096 .f32) : FVec Ideal S6x1x168x4096 .f32 :=
  addf (floor (divf (log r) (log (broadcast S6x1x168x4096 (Scalar.ofBits .f32 0x40000000#32)))))
    (broadcast S6x1x168x4096 (Scalar.ofBits .f32 0x3F800000#32))

section
variable (v0 : Vec Ideal S12x840x16 .f32) (v2 : Vec Ideal S12x16x4096 .f32) (v18 : Vec Ideal S12x16x5x168x1 .f32)

theorem pay2_eq : k0_pay2 v0 v2 v18 = groupT (attnT (probT (expT (scoreT (scoreV v0 v2)))) v18) := rfl
theorem pay3_eq : k0_pay3 v0 v2 v18 = ratioT (k0_pay2 v0 v2 v18) := rfl
theorem pay4_eq : k0_pay4 v0 v2 v18 = lowT (k0_pay3 v0 v2 v18) := rfl
theorem pay5_eq : k0_pay5 v0 v2 v18 = logT (k0_pay3 v0 v2 v18) := rfl

theorem scoreV_at (h : Fin 12) (r : Fin 840) (s : Fin 4096) :
    scoreV v0 v2 (ix3 h r s) = (∑ d, v0 (ix3 h r d) * v2 (ix3 h d s)) * Ideal.ofBits .f32 1052289595#32 := by
  pointwise [scoreV]
theorem scoreT_at (v6 : FVec Ideal S12x840x4096 .f32) (h : Fin 12) (t : Fin 5) (b : Fin 168) (s : Fin 4096) :
    scoreT v6 (ix4 h t b s) = v6 (ix3 h ⟨t.val * 168 + b.val, by omega⟩ s) := by
  pointwise [scoreT]
theorem expT_at (v7 : FVec Ideal S12x5x168x4096 .f32) (h : Fin 12) (t : Fin 5) (b : Fin 168) (s : Fin 4096) :
    expT v7 (ix4 h t b s) = Ideal.exp2 (v7 (ix4 h t b s) - I2t.Spec.mx fun t => v7 (ix4 h t b s)) := by
  pointwise [expT]
  rfl
theorem sumP_at (x : FVec Ideal S12x5x168x4096 .f32) (h : Fin 12) (b : Fin 168) (s : Fin 4096) : sumP x (ix3 h b s) = ∑ t, x (ix4 h t b s) := by
  pointwise [sumP]
theorem overP_at (x : FVec Ideal S12x168x4096 .f32) (h : Fin 12) (t : Fin 5) (b : Fin 168) (s : Fin 4096) : overP x (ix4 h t b s) = x (ix3 h b s) := by
  pointwise [overP]
theorem divP_at (x y : FVec Ideal S12x5x168x4096 .f32) (i : S12x5x168x4096.Idx) : divf x y i = Ideal.div (x i) (y i) := rfl
theorem probT_at (v12 : FVec Ideal S12x5x168x4096 .f32) (h : Fin 12) (t : Fin 5) (b : Fin 168) (s : Fin 4096) :
    probT v12 (ix4 h t b s) = Ideal.div (v12 (ix4 h t b s)) (∑ t, v12 (ix4 h t b s)) := by
  unfold probT
  rw [divP_at, overP_at, sumP_at]
theorem attnT_at (v16 : FVec Ideal S12x5x168x4096 .f32) (v18 : Vec Ideal S12x16x5x168x1 .f32) (h : Fin 12) (d : Fin 16) (b : Fin 168) (s : Fin 4096) :
    attnT v16 v18 (ix4 h d b s) = ∑ t, v16 (ix4 h t b s) * v18 (ix5 h d t b 0) := by
  pointwise [attnT]
theorem groupT_at (v23 : FVec Ideal S12x16x168x4096 .f32) (a : Fin 6) (j : Fin 32) (b : Fin 168) (s : Fin 4096) :
    groupT v23 (ix4 a j b s) = v23 (ix4 ⟨a.val * 2 + j.val / 16, by omega⟩ ⟨j.val % 16, by omega⟩ b s) := by
  pointwise [groupT]

/-- The attention output. -/
theorem pay2_at (a : Fin 6) (j : Fin 32) (b : Fin 168) (s : Fin 4096) :
    k0_pay2 v0 v2 v18 (ix4 a j b s) = I2t.Spec.attn
      (fun t => (∑ d, v0 (ix3 ⟨a.val * 2 + j.val / 16, by omega⟩ ⟨t.val * 168 + b.val, by omega⟩ d) * v2 (ix3 ⟨a.val * 2 + j.val / 16, by omega⟩ d s))
        * Ideal.ofBits .f32 1052289595#32)
      (fun t => v18 (ix5 ⟨a.val * 2 + j.val / 16, by omega⟩ ⟨j.val % 16, by omega⟩ t b 0)) := by
  rw [pay2_eq, groupT_at, attnT_at]
  unfold I2t.Spec.attn I2t.Spec.prob
  simp only [probT_at, expT_at, scoreT_at, scoreV_at]

theorem maxG_at (o : FVec Ideal S6x32x168x4096 .f32) (a : Fin 6) (b : Fin 168) (s : Fin 4096) :
    maxG o (ix3 a b s) = Finset.fold max (Ideal.ofBits .f32 4286578688#32) (fun j => o (ix4 a j b s)) Finset.univ := by
  pointwise [maxG]
theorem absG_at (o : FVec Ideal S6x32x168x4096 .f32) (i : S6x32x168x4096.Idx) : absG o i = max (o i) (-(o i)) := rfl
theorem castG_at (x : FVec Ideal S6x168x4096 .f32) (a : Fin 6) (b : Fin 168) (s : Fin 4096) : castG x (ix4 a 0 b s) = x (ix3 a b s) := by
  pointwise [castG]
theorem constG_at (x : FVec Ideal S6x1x168x4096 .f32) (i : S6x1x168x4096.Idx) : constG x i = x i * Ideal.ofBits .f32 991054117#32 := rfl
theorem ratioT_at (o : FVec Ideal S6x32x168x4096 .f32) (a : Fin 6) (b : Fin 168) (s : Fin 4096) :
    ratioT o (ix4 a 0 b s) = I2t.Spec.ratio fun j => o (ix4 a j b s) := by
  unfold ratioT
  rw [constG_at, castG_at, maxG_at]
  simp only [absG_at]
  rfl
theorem lowT_at (r : FVec Ideal S6x1x168x4096 .f32) (a : Fin 6) (b : Fin 168) (s : Fin 4096) :
    lowT r (ix4 a 0 b s) = FloatOps.cmpf (F := Ideal) .olt (r (ix4 a 0 b s)) (Ideal.ofBits .f32 8388608#32) := rfl
theorem logT_at (r : FVec Ideal S6x1x168x4096 .f32) (a : Fin 6) (b : Fin 168) (s : Fin 4096) :
    logT r (ix4 a 0 b s) = Ideal.liftRound Int.floor (Ideal.div (Ideal.log (r (ix4 a 0 b s))) (Ideal.log (Ideal.ofBits .f32 1073741824#32))) + 1 := by
  pointwise [logT]

theorem select_expo (r : EReal) :
    Scalar.select (FloatOps.cmpf (F := Ideal) (φ := .f32) .olt r (Ideal.ofBits .f32 8388608#32)) (0 : EReal)
      (Ideal.liftRound Int.floor (Ideal.div (Ideal.log r) (Ideal.log (Ideal.ofBits .f32 1073741824#32))) + 1) = I2t.Spec.expo r := by
  unfold I2t.Spec.expo
  by_cases hr : r < Ideal.ofBits .f32 8388608#32
  · rw [if_pos hr]
    have : FloatOps.cmpf (F := Ideal) (φ := .f32) .olt r (Ideal.ofBits .f32 8388608#32) = 1#1 := by
      show BitVec.ofBool (decide (r < Ideal.ofBits .f32 8388608#32)) = 1#1
      rw [decide_eq_true hr]; rfl
    rw [this]; rfl
  · rw [if_neg hr]
    have : FloatOps.cmpf (F := Ideal) (φ := .f32) .olt r (Ideal.ofBits .f32 8388608#32) = 0#1 := by
      show BitVec.ofBool (decide (r < Ideal.ofBits .f32 8388608#32)) = 0#1
      rw [decide_eq_false hr]; rfl
    rw [this]; rfl

theorem pay6_any (x : IVec S6x1x168x4096 1) (y : FVec Ideal S6x1x168x4096 .f32) (a : Fin 6) (b : Fin 168) (s : Fin 4096) :
    k0_pay6 x y (ix4 a 0 b s) = Scalar.select (x (ix4 a 0 b s)) (0 : EReal) (y (ix4 a 0 b s)) := by
  pointwise [k0_pay6]

theorem expo_any (r : FVec Ideal S6x1x168x4096 .f32) (a : Fin 6) (b : Fin 168) (s : Fin 4096) :
    k0_pay6 (lowT r) (logT r) (ix4 a 0 b s) = I2t.Spec.expo (r (ix4 a 0 b s)) := by
  rw [pay6_any, lowT_at, logT_at]
  exact select_expo _

theorem ratio_any (o : FVec Ideal S6x32x168x4096 .f32) (a : Fin 6) (b : Fin 168) (s : Fin 4096) :
    k0_pay6 (lowT (ratioT o)) (logT (ratioT o)) (ix4 a 0 b s) = I2t.Spec.expo (I2t.Spec.ratio fun j => o (ix4 a j b s)) := by
  rw [expo_any, ratioT_at]

/-- The scale's exponent. -/
theorem pay6_at (a : Fin 6) (b : Fin 168) (s : Fin 4096) :
    k0_pay6 (k0_pay4 v0 v2 v18) (k0_pay5 v0 v2 v18) (ix4 a 0 b s) = I2t.Spec.expo (I2t.Spec.ratio fun j => k0_pay2 v0 v2 v18 (ix4 a j b s)) := by
  rw [pay4_eq, pay5_eq, pay3_eq]
  exact ratio_any _ a b s

end

section
variable (v24 : FVec Ideal S6x32x168x4096 .f32) (v31 : IVec S6x1x168x4096 1) (v38 : FVec Ideal S6x1x168x4096 .f32)

theorem pay7_at (a : Fin 6) (b : Fin 168) (s : Fin 4096) :
    k0_pay7 v31 v38 (ix4 a 0 b s) = Ideal.exp2 (k0_pay6 v31 v38 (ix4 a 0 b s)) := rfl
theorem pay8_at (a : Fin 6) (j : Fin 32) (b : Fin 168) (s : Fin 4096) :
    k0_pay8 v24 v31 v38 (ix4 a j b s) = min (Ideal.ofBits .f32 1138753536#32) (max (Ideal.ofBits .f32 3286237184#32)
      (v24 (ix4 a j b s) * Ideal.exp2 (0 - k0_pay6 v31 v38 (ix4 a 0 b s)))) := by
  pointwise [k0_pay8]
  rfl
theorem pay9_at (b : Fin 168) (a : Fin 6) (s : Fin 4096) :
    k0_pay9 v31 v38 (ix3 b a s) = k0_pay7 v31 v38 (ix4 a 0 b s) := by
  pointwise [k0_pay9]
theorem pay10_at (b : Fin 168) (s : Fin 4096) (l : Fin 192) :
    k0_pay10 v24 v31 v38 (ix3 b s l) = k0_pay8 v24 v31 v38 (ix4 ⟨l.val / 32, by omega⟩ ⟨l.val % 32, by omega⟩ b s) := by
  pointwise [k0_pay10]
variable (v64 : Vec Ideal S384x192 .bf16) (v67 : Vec Ideal S384x1x4096 .f32) (v70 : Vec Ideal S384x1x1 .f32)
theorem pay11_at (c : Fin 384) (b : Fin 168) (s : Fin 4096) :
    k0_pay11 v24 v31 v38 v64 v67 v70 (ix3 c b s) = v67 (ix3 c 0 s) +
      (∑ x : Fin 192, v64 (ix2 c x) * (k0_pay8 v24 v31 v38 (ix4 ⟨x.val / 32, by omega⟩ ⟨x.val % 32, by omega⟩ b s)
        * k0_pay7 v31 v38 (ix4 ⟨x.val / 32, by omega⟩ 0 b s))) * v70 (ix3 c 0 0) := by
  pointwise [k0_pay11]
def sumT (z : FVec Ideal S384x168x4096 .f32) : FVec Ideal S168x4096 .f32 :=
  multiReduction .add [0] S168x4096 z 0x00000000#32 reduces_S384x168x4096_S168x4096 (.inl rfl) rfl
theorem sumT_at (z : FVec Ideal S384x168x4096 .f32) (b : Fin 168) (s : Fin 4096) : sumT z (ix2 b s) = ∑ c, z (ix3 c b s) := by
  pointwise [sumT]
theorem pay12_eq : k0_pay12 v24 v31 v38 v64 v67 v70 = sumT (k0_pay11 v24 v31 v38 v64 v67 v70) := rfl
end

/-- A layer norm over the channels, `z` the channels and `t` their sum. -/
theorem pay1_at (v75 : FVec Ideal S384x168x4096 .f32) (v76 : FVec Ideal S168x4096 .f32) (v92 : Vec Ideal S384x1x1 .f32) (v96 : Vec Ideal S384x1x1 .f32)
    (c : Fin 384) (b : Fin 168) (s : Fin 4096) :
    k0_pay1 v75 v76 v92 v96 (ix3 b s c) =
      (v75 (ix3 c b s) - Ideal.div (v76 (ix2 b s)) (Ideal.ofBits .f32 1136656384#32)) *
          Ideal.rsqrt
            (Ideal.div
                (∑ x, (v75 (ix3 x b s) - Ideal.div (v76 (ix2 b s)) (Ideal.ofBits .f32 1136656384#32)) *
                    (v75 (ix3 x b s) - Ideal.div (v76 (ix2 b s)) (Ideal.ofBits .f32 1136656384#32)))
                (Ideal.ofBits .f32 1136656384#32) +
              Ideal.ofBits .f32 925353388#32) *
        v92 (ix3 c 0 0) +
      v96 (ix3 c 0 0) := by
  pointwise [k0_pay1]

end Cert.ReferenceIdeal.Hand
-- ==== Proof.RefBlk.lean ====
/-
  What the reference's call finds in its operands, at an index.
-/
module

public import proofs.«01_k».proof.Proof.RefRead
public import proofs.«01_k».proof.Proof.Gen.ReferenceIdeal.Frame
public import Idealize.ShloMosaic.Lib.Pointwise
public import Idealize.ShloMosaic.Lib.Pipeline.ValueKit

@[expose] public section

set_option maxRecDepth 16384

noncomputable section

namespace Cert.ReferenceIdeal.Hand

open Idealize.ShloMosaic Idealize.ShloMosaic.Pointwise Idealize.ShloMosaic.TcCoe Cert.ReferenceIdeal Cert.ReferenceIdeal.Gen

variable (m : (ℓ : Loc nD τ sig) → Buf (Elt Ideal) ℓ) (c : Dev nD)

theorem idx3 : ∀ t : Fin cfg0.N, win0_0.index t = ![0, 0, 0] ∧ win0_1.index t = ![0, 0, 0] ∧ win0_2.index t = ![0, 0, 0, 0, 0] ∧ win0_3.index t = ![0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

set_option maxHeartbeats 2000000 in
theorem blk0 : (iblk m c 0 t0_0 : S12x16x4096.Idx → EReal) = V m c main_v9 := by
  have e := (idx3 t0_0).1
  funext y
  blk_ext [iblk, e]
set_option maxHeartbeats 2000000 in
theorem ref0_at (h : Fin 12) (d : Fin 16) (s : Fin 4096) : (iblk m c 0 t0_0 : S12x16x4096.Idx → EReal) (ix3 h d s) = (fun a b c : EReal => a + b + c) ((m ((c : Thread nD τ).loc main_arg2) : S1152x4096.Idx → EReal) (ix2 ⟨h.val * 96 + d.val, by omega⟩ s)) ((m ((c : Thread nD τ).loc main_arg2) : S1152x4096.Idx → EReal) (ix2 ⟨h.val * 96 + 32 + d.val, by omega⟩ s)) ((m ((c : Thread nD τ).loc main_arg2) : S1152x4096.Idx → EReal) (ix2 ⟨h.val * 96 + 80 + d.val, by omega⟩ s)) := by
  rw [blk0]
  entry_read
  pointwise

set_option maxHeartbeats 2000000 in
theorem blk1 : (iblk m c 1 t0_0 : S12x840x16.Idx → EReal) = V m c main_v11 := by
  have e := (idx3 t0_0).2.1
  funext y
  blk_ext [iblk, e]
set_option maxHeartbeats 2000000 in
theorem ref1_at (h : Fin 12) (d : Fin 840) (s : Fin 16) : (iblk m c 1 t0_0 : S12x840x16.Idx → EReal) (ix3 h d s) = (m ((c : Thread nD τ).loc main_arg0) : S840x192.Idx → EReal) (ix2 d ⟨h.val * 16 + s.val, by omega⟩) := by
  rw [blk1]
  entry_read
  pointwise

set_option maxHeartbeats 2000000 in
theorem blk2 : (iblk m c 2 t0_0 : S12x16x5x168x1.Idx → EReal) = V m c main_v14 := by
  have e := (idx3 t0_0).2.2.1
  funext y
  blk_ext [iblk, e]
set_option maxHeartbeats 2000000 in
theorem ref2_at (h : Fin 12) (d : Fin 16) (t : Fin 5) (b : Fin 168) : (iblk m c 2 t0_0 : S12x16x5x168x1.Idx → EReal) (ix5 h d t b 0) = (m ((c : Thread nD τ).loc main_arg1) : S840x192.Idx → EReal) (ix2 ⟨t.val * 168 + b.val, by omega⟩ ⟨h.val * 16 + d.val, by omega⟩) := by
  rw [blk2]
  entry_read
  pointwise

set_option maxHeartbeats 2000000 in
theorem blk3 : (iblk m c 3 t0_0 : S384x192.Idx → EReal) = V m c main_v15 := by
  have e := (idx3 t0_0).2.2.2.1
  funext y
  blk_ext [iblk, e]
set_option maxHeartbeats 2000000 in
theorem ref3_at (r : Fin 384) (x : Fin 192) : (iblk m c 3 t0_0 : S384x192.Idx → EReal) (ix2 r x) = (m ((c : Thread nD τ).loc main_arg3) : S400x192.Idx → EReal) (ix2 ⟨r.val, by omega⟩ x) := by
  rw [blk3]
  entry_read
  pointwise

set_option maxHeartbeats 2000000 in
theorem blk4 : (iblk m c 4 t0_0 : S384x1x1.Idx → EReal) = V m c main_v16 := by
  have e := (idx3 t0_0).2.2.2.2.1
  funext y
  blk_ext [iblk, e]
set_option maxHeartbeats 2000000 in
theorem ref4_at (r : Fin 384) : (iblk m c 4 t0_0 : S384x1x1.Idx → EReal) (ix3 r 0 0) = (m ((c : Thread nD τ).loc main_arg4) : S384.Idx → EReal) (ix1 r) := by
  rw [blk4]
  entry_read
  pointwise

set_option maxHeartbeats 2000000 in
theorem blk5 : (iblk m c 5 t0_0 : S384x1x4096.Idx → EReal) = V m c main_v17 := by
  have e := (idx3 t0_0).2.2.2.2.2.1
  funext y
  blk_ext [iblk, e]
set_option maxHeartbeats 2000000 in
theorem ref5_at (r : Fin 384) (s : Fin 4096) : (iblk m c 5 t0_0 : S384x1x4096.Idx → EReal) (ix3 r 0 s) = (m ((c : Thread nD τ).loc main_arg5) : S384x4096.Idx → EReal) (ix2 r s) := by
  rw [blk5]
  entry_read
  pointwise

set_option maxHeartbeats 2000000 in
theorem blk6 : (iblk m c 6 t0_0 : S384x1x1.Idx → EReal) = V m c main_v18 := by
  have e := (idx3 t0_0).2.2.2.2.2.2.1
  funext y
  blk_ext [iblk, e]
set_option maxHeartbeats 2000000 in
theorem ref6_at (r : Fin 384) : (iblk m c 6 t0_0 : S384x1x1.Idx → EReal) (ix3 r 0 0) = (m ((c : Thread nD τ).loc main_arg6) : S384.Idx → EReal) (ix1 r) := by
  rw [blk6]
  entry_read
  pointwise

set_option maxHeartbeats 2000000 in
theorem blk7 : (iblk m c 7 t0_0 : S384x1x1.Idx → EReal) = V m c main_v19 := by
  have e := (idx3 t0_0).2.2.2.2.2.2.2
  funext y
  blk_ext [iblk, e]
set_option maxHeartbeats 2000000 in
theorem ref7_at (r : Fin 384) : (iblk m c 7 t0_0 : S384x1x1.Idx → EReal) (ix3 r 0 0) = (m ((c : Thread nD τ).loc main_arg7) : S384.Idx → EReal) (ix1 r) := by
  rw [blk7]
  entry_read
  pointwise

end Cert.ReferenceIdeal.Hand
-- ==== Proof.RefRes.lean ====
/-
  The reference's results as functions of its arguments.
-/
module

public import proofs.«01_k».proof.Proof.RefBlk
public import proofs.«01_k».proof.Proof.Global

@[expose] public section

set_option maxRecDepth 16384

noncomputable section

namespace Cert.ReferenceIdeal.Hand

open Idealize.ShloMosaic Idealize.ShloMosaic.Pointwise Idealize.ShloMosaic.TcCoe Cert.ReferenceIdeal Cert.ReferenceIdeal.Gen

variable (m : (ℓ : Loc nD τ sig) → Buf (Elt Ideal) ℓ) (c : Dev nD)

def aK : S840x192.Idx → EReal := m ((c : Thread nD τ).loc main_arg0)
def aV : S840x192.Idx → EReal := m ((c : Thread nD τ).loc main_arg1)
def aQ : S1152x4096.Idx → EReal := m ((c : Thread nD τ).loc main_arg2)
def aW : S400x192.Idx → EReal := m ((c : Thread nD τ).loc main_arg3)
def aSo : S384.Idx → EReal := m ((c : Thread nD τ).loc main_arg4)
def aX : S384x4096.Idx → EReal := m ((c : Thread nD τ).loc main_arg5)
def aG : S384.Idx → EReal := m ((c : Thread nD τ).loc main_arg6)
def aB : S384.Idx → EReal := m ((c : Thread nD τ).loc main_arg7)

section
variable (q : Vec Ideal S12x16x4096 .f32) (k : Vec Ideal S12x840x16 .f32) (v : Vec Ideal S12x16x5x168x1 .f32) (w : Vec Ideal S384x192 .bf16)
  (so : Vec Ideal S384x1x1 .f32) (x : Vec Ideal S384x1x4096 .f32) (g β : Vec Ideal S384x1x1 .f32)
  (K V : I2t.Spec.A2 840 192) (Q : I2t.Spec.A2 1152 4096) (W : I2t.Spec.A2 400 192) (So : I2t.Spec.A1 384) (X : I2t.Spec.A2 384 4096) (G B : I2t.Spec.A1 384)

/-- The operands are the arguments, as the host lays them out. -/
structure Lay : Prop where
  hq : ∀ (h : Fin 12) (d : Fin 16) (s : Fin 4096), q (ix3 h d s) = Q (ix2 ⟨h.val * 96 + d.val, by omega⟩ s) + Q (ix2 ⟨h.val * 96 + 32 + d.val, by omega⟩ s) + Q (ix2 ⟨h.val * 96 + 80 + d.val, by omega⟩ s)
  hk : ∀ (h : Fin 12) (d : Fin 840) (s : Fin 16), k (ix3 h d s) = K (ix2 d ⟨h.val * 16 + s.val, by omega⟩)
  hv : ∀ (h : Fin 12) (d : Fin 16) (t : Fin 5) (b : Fin 168), v (ix5 h d t b 0) = V (ix2 ⟨t.val * 168 + b.val, by omega⟩ ⟨h.val * 16 + d.val, by omega⟩)
  hw : ∀ (r : Fin 384) (x : Fin 192), w (ix2 r x) = W (ix2 ⟨r.val, by omega⟩ x)
  hso : ∀ r : Fin 384, so (ix3 r 0 0) = So (ix1 r)
  hx : ∀ (r : Fin 384) (s : Fin 4096), x (ix3 r 0 s) = X (ix2 r s)
  hg : ∀ r : Fin 384, g (ix3 r 0 0) = G (ix1 r)
  hb : ∀ r : Fin 384, β (ix3 r 0 0) = B (ix1 r)

variable {q k v w so x g β K V Q W So X G B} (L : Lay q k v w so x g β K V Q W So X G B)
include L

theorem out_at (a : Fin 6) (j : Fin 32) (b : Fin 168) (s : Fin 4096) : k0_pay2 k q v (ix4 a j b s) = I2t.Spec.out K V Q b s a j := by
  rw [pay2_at]
  simp only [L.hk, L.hq, L.hv]
  rfl
theorem expo_at (a : Fin 6) (b : Fin 168) (s : Fin 4096) :
    k0_pay6 (k0_pay4 k q v) (k0_pay5 k q v) (ix4 a 0 b s) = I2t.Spec.expo (I2t.Spec.ratio (I2t.Spec.out K V Q b s a)) := by
  rw [pay6_at]
  simp only [out_at L]
theorem scale_at (a : Fin 6) (b : Fin 168) (s : Fin 4096) :
    k0_pay7 (k0_pay4 k q v) (k0_pay5 k q v) (ix4 a 0 b s) = I2t.Spec.scale (I2t.Spec.ratio (I2t.Spec.out K V Q b s a)) := by
  rw [pay7_at, expo_at L]
  rfl
theorem code_at (a : Fin 6) (j : Fin 32) (b : Fin 168) (s : Fin 4096) :
    k0_pay8 (k0_pay2 k q v) (k0_pay4 k q v) (k0_pay5 k q v) (ix4 a j b s) = I2t.Spec.code (I2t.Spec.out K V Q b s a j) (I2t.Spec.ratio (I2t.Spec.out K V Q b s a)) := by
  rw [pay8_at, expo_at L, out_at L]
  rfl
theorem scales_at (b : Fin 168) (a : Fin 6) (s : Fin 4096) :
    k0_pay9 (k0_pay4 k q v) (k0_pay5 k q v) (ix3 b a s) = I2t.Spec.scales K V Q b a s := by
  rw [pay9_at, scale_at L]
  rfl
theorem codes_at (b : Fin 168) (s : Fin 4096) (l : Fin 192) :
    k0_pay10 (k0_pay2 k q v) (k0_pay4 k q v) (k0_pay5 k q v) (ix3 b s l) = I2t.Spec.codes K V Q b s l := by
  rw [pay10_at, code_at L]
  rfl
theorem chan_at (c : Fin 384) (b : Fin 168) (s : Fin 4096) :
    k0_pay11 (k0_pay2 k q v) (k0_pay4 k q v) (k0_pay5 k q v) w x so (ix3 c b s)
      = X (ix2 c s) + (∑ x : Fin 192, W (ix2 ⟨c.val, by omega⟩ x) * I2t.Spec.wideAt (I2t.Spec.out K V Q b s) x) * So (ix1 c) := by
  rw [pay11_at, L.hx, L.hso]
  simp only [code_at L, scale_at L, L.hw]
  rfl
theorem image_at (b : Fin 168) (s : Fin 4096) (c : Fin 384) :
    k0_pay1 (k0_pay11 (k0_pay2 k q v) (k0_pay4 k q v) (k0_pay5 k q v) w x so) (k0_pay12 (k0_pay2 k q v) (k0_pay4 k q v) (k0_pay5 k q v) w x so) g β (ix3 b s c)
      = I2t.Spec.image K V Q W So X G B b s c := by
  rw [pay1_at, pay12_eq, sumT_at]
  simp only [chan_at L, L.hg, L.hb]
  rfl
end

theorem lay : Lay (iblk m c 0 t0_0 : S12x16x4096.Idx → EReal) (iblk m c 1 t0_0 : S12x840x16.Idx → EReal) (iblk m c 2 t0_0 : S12x16x5x168x1.Idx → EReal)
    (iblk m c 3 t0_0 : S384x192.Idx → EReal) (iblk m c 4 t0_0 : S384x1x1.Idx → EReal) (iblk m c 5 t0_0 : S384x1x4096.Idx → EReal)
    (iblk m c 6 t0_0 : S384x1x1.Idx → EReal) (iblk m c 7 t0_0 : S384x1x1.Idx → EReal)
    (aK m c) (aV m c) (aQ m c) (aW m c) (aSo m c) (aX m c) (aG m c) (aB m c) :=
  ⟨ref0_at m c, ref1_at m c, ref2_at m c, ref3_at m c, ref4_at m c, ref5_at m c, ref6_at m c, ref7_at m c⟩

end Cert.ReferenceIdeal.Hand
-- ==== Proof.RefFin.lean ====
/-
  The arrays the reference's call leaves.
-/
module

public import proofs.«01_k».proof.Proof.RefRes

@[expose] public section

set_option maxRecDepth 16384

noncomputable section

namespace Cert.ReferenceIdeal.Hand

open Idealize.ShloMosaic Idealize.ShloMosaic.Pointwise Idealize.ShloMosaic.TcCoe Cert.ReferenceIdeal Cert.ReferenceIdeal.Gen

variable (m : (ℓ : Loc nD τ sig) → Buf (Elt Ideal) ℓ) (c : Dev nD)

/-- The image. -/
def G8 : S168x4096x384.Idx → EReal := fun j => I2t.Spec.image (aK m c) (aV m c) (aQ m c) (aW m c) (aSo m c) (aX m c) (aG m c) (aB m c) (j 0) (j 1) (j 2)
/-- The codes. -/
def G9 : S168x4096x192.Idx → EReal := fun j => I2t.Spec.codes (aK m c) (aV m c) (aQ m c) (j 0) (j 1) (j 2)
/-- The scales. -/
def G10 : S168x6x4096.Idx → EReal := fun j => I2t.Spec.scales (aK m c) (aV m c) (aQ m c) (j 0) (j 1) (j 2)

section
variable (x0 : Vec Ideal S12x16x4096 .f32) (x1 : Vec Ideal S12x840x16 .f32) (x2 : Vec Ideal S12x16x5x168x1 .f32) (x3 : Vec Ideal S384x192 .bf16)
  (x4 : Vec Ideal S384x1x1 .f32) (x5 : Vec Ideal S384x1x4096 .f32) (x6 x7 : Vec Ideal S384x1x1 .f32)
theorem pay13_ld : k0_pay13 x0 x1 x2 x3 x4 x5 x6 x7 = k0_pay2 x1 x0 x2 := by
  unfold k0_pay13
  rw [View.ld_unit_lit, View.ld_unit_lit, View.ld_unit_lit] <;> intro a <;> fin_cases a <;> rfl
theorem pay14_ld : k0_pay14 x0 x1 x2 x3 x4 x5 x6 x7 = k0_pay4 x1 x0 x2 := by
  unfold k0_pay14
  rw [View.ld_unit_lit, View.ld_unit_lit, View.ld_unit_lit] <;> intro a <;> fin_cases a <;> rfl
theorem pay15_ld : k0_pay15 x0 x1 x2 x3 x4 x5 x6 x7 = k0_pay5 x1 x0 x2 := by
  unfold k0_pay15
  rw [View.ld_unit_lit, View.ld_unit_lit, View.ld_unit_lit] <;> intro a <;> fin_cases a <;> rfl
end

theorem eta3 {n k p : ℕ} (j : (⟨3, ![n, k, p]⟩ : Shape).Idx) : ∃ (x : Fin n) (y : Fin k) (z : Fin p), j = ix3 x y z :=
  ⟨j 0, j 1, j 2, by
    funext i
    match i with
    | ⟨0, _⟩ => rfl
    | ⟨1, _⟩ => rfl
    | ⟨2, _⟩ => rfl⟩

section
variable {q k v w so x g β} {K V Q W So X G B} (L : Lay q k v w so x g β K V Q W So X G B)
include L
theorem scales_idx (j : S168x6x4096.Idx) : k0_pay9 (k0_pay4 k q v) (k0_pay5 k q v) j = I2t.Spec.scales K V Q (j 0) (j 1) (j 2) := by
  obtain ⟨b, a, s, rfl⟩ := eta3 j
  exact scales_at L b a s
theorem codes_idx (j : S168x4096x192.Idx) : k0_pay10 (k0_pay2 k q v) (k0_pay4 k q v) (k0_pay5 k q v) j = I2t.Spec.codes K V Q (j 0) (j 1) (j 2) := by
  obtain ⟨b, a, s, rfl⟩ := eta3 j
  exact codes_at L b a s
theorem image_idx (j : S168x4096x384.Idx) : k0_pay1 (k0_pay11 (k0_pay2 k q v) (k0_pay4 k q v) (k0_pay5 k q v) w x so) (k0_pay12 (k0_pay2 k q v) (k0_pay4 k q v) (k0_pay5 k q v) w x so) g β j
    = I2t.Spec.image K V Q W So X G B (j 0) (j 1) (j 2) := by
  obtain ⟨b, a, s, rfl⟩ := eta3 j
  exact image_at L b a s
end

theorem fin10 : (dats m 0 c).arrAt 10 cfg0.N = G10 m c := by
  refine (dats m 0 c).arrAt_eq_of_after_last 10 t0_0 (by decide +kernel) _ fun j => ?_
  blk_simp
  rw [after0_10]
  frame_out
  rw [pay14_ld, pay15_ld]
  exact scales_idx (lay m c) j
theorem fin9 : (dats m 0 c).arrAt 9 cfg0.N = G9 m c := by
  refine (dats m 0 c).arrAt_eq_of_after_last 9 t0_0 (by decide +kernel) _ fun j => ?_
  blk_simp
  rw [after0_9]
  frame_out
  rw [pay13_ld, pay14_ld, pay15_ld]
  exact codes_idx (lay m c) j
theorem fin8 : (dats m 0 c).arrAt 8 cfg0.N = G8 m c := by
  refine (dats m 0 c).arrAt_eq_of_after_last 8 t0_0 (by decide +kernel) _ fun j => ?_
  blk_simp
  rw [after0_8]
  frame_out
  rw [pay13_ld, pay14_ld, pay15_ld]
  exact image_idx (lay m c) j

variable (ρ : Dev nD → PrngReg)
open Idealize.SL.Sem

/-- The reference's run: its three results are the functions above of its arguments, which end unchanged. -/
theorem run : θ_run defs (onTc (τ := τ) (main (F := Ideal))) ⟨m, fun _ => 0, ρ⟩ (fun r => ∀ c : Dev nD,
      r.2.mem ((c.tc : Thread nD τ).loc main_v20_0) = G8 m c
      ∧ r.2.mem ((c.tc : Thread nD τ).loc main_v20_1) = G9 m c
      ∧ r.2.mem ((c.tc : Thread nD τ).loc main_v20_2) = G10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 8).trans (fin8 m c), ((h.1 c).1 9).trans (fin9 m c), ((h.1 c).1 10).trans (fin10 m c), h.2 c⟩)
    (θ_run_and (run_main m ρ) (unchanged m ρ))

end Cert.ReferenceIdeal.Hand
-- ==== Proof.Algebraic.lean ====
/-
  The value claim: on arguments the precondition admits, the kernel's three results are the reference's.
-/
module

public import proofs.«01_k».proof.Proof.PreRead
public import proofs.«01_k».proof.Proof.KerFin
public import proofs.«01_k».proof.Proof.RefFin

@[expose] public section

noncomputable section

namespace Cert.Hand

open Idealize.ShloMosaic Idealize.ShloMosaic.Pointwise Idealize.ShloMosaic.TcCoe

/-- The precondition's reading. -/
theorem good [Cert.Pre_finite_and_centred.Facts] (m : (ℓ : Loc Cert.KernelIdeal.nD Cert.KernelIdeal.τ Cert.KernelIdeal.sig) → Buf (Elt Ideal) ℓ)
    (h : Cert.Pre_KernelIdeal_finite_and_centred m) (c : Dev Cert.KernelIdeal.nD) : Cert.KernelIdeal.Hand.Good m c where
  hK := fun i => by
    obtain ⟨a, b, rfl⟩ : ∃ (a : Fin 840) (b : Fin 192), i = ix2 a b := ⟨i 0, i 1, (ix2_eta i).symm⟩
    exact (Cert.Pre_finite_and_centred.Hand.fin_K _ _ _ _ _ _ _ _ (h c).1 a b).imp fun _ h => h.1
  hV := fun i => by
    obtain ⟨a, b, rfl⟩ : ∃ (a : Fin 840) (b : Fin 192), i = ix2 a b := ⟨i 0, i 1, (ix2_eta i).symm⟩
    exact Cert.Pre_finite_and_centred.Hand.fin_V _ _ _ _ _ _ _ _ (h c).2.1 a b
  hQ := fun i => by
    obtain ⟨a, b, rfl⟩ : ∃ (a : Fin 1152) (b : Fin 4096), i = ix2 a b := ⟨i 0, i 1, (ix2_eta i).symm⟩
    exact (Cert.Pre_finite_and_centred.Hand.fin_Q _ _ _ _ _ _ _ _ (h c).2.2.1 a b).imp fun _ h => h.1
  hW := fun i => by
    obtain ⟨a, b, rfl⟩ : ∃ (a : Fin 400) (b : Fin 192), i = ix2 a b := ⟨i 0, i 1, (ix2_eta i).symm⟩
    exact (Cert.Pre_finite_and_centred.Hand.fin_W _ _ _ _ _ _ _ _ (h c).2.2.2.1 a b).imp fun _ h => h.1
  hSo := fun i => by
    obtain ⟨a, rfl⟩ : ∃ a : Fin 384, i = ix1 a := ⟨i 0, (ix1_eta i).symm⟩
    exact (Cert.Pre_finite_and_centred.Hand.fin_so _ _ _ _ _ _ _ _ (h c).2.2.2.2.1 a).imp fun _ h => h.1
  hX := fun i => by
    obtain ⟨a, b, rfl⟩ : ∃ (a : Fin 384) (b : Fin 4096), i = ix2 a b := ⟨i 0, i 1, (ix2_eta i).symm⟩
    exact (Cert.Pre_finite_and_centred.Hand.fin_X _ _ _ _ _ _ _ _ (h c).2.2.2.2.2.1 a b).imp fun _ h => h.1
  x0 := fun l => Cert.Pre_finite_and_centred.Hand.sum_X _ _ _ _ _ _ _ _ (h c).2.2.2.2.2.2.1 l
  ws := fun x => Cert.Pre_finite_and_centred.Hand.sum_W _ _ _ _ _ _ _ _ (h c).2.2.2.2.2.2.2 x

attribute [local instance] Cert.KernelIdeal.Gen.facts Cert.ReferenceIdeal.Gen.facts Cert.Pre_finite_and_centred.Gen.facts

theorem algebraic : Cert.algebraic_KernelIdeal_ReferenceIdeal_pre_finite_and_centred := by
  intro m g m' g' hp ha
  refine ⟨fun c => Cert.KernelIdeal.Hand.G8 m c, fun c => Cert.KernelIdeal.Hand.G9 m c, fun c => Cert.KernelIdeal.Hand.G10 m c,
    Cert.KernelIdeal.Hand.run m g (good m hp), ?_⟩
  have hK : ∀ c, Cert.ReferenceIdeal.Hand.aK m' c = Cert.KernelIdeal.Hand.aK m c := fun c => (ha c).1
  have hV : ∀ c, Cert.ReferenceIdeal.Hand.aV m' c = Cert.KernelIdeal.Hand.aV m c := fun c => (ha c).2.1
  have hQ : ∀ c, Cert.ReferenceIdeal.Hand.aQ m' c = Cert.KernelIdeal.Hand.aQ m c := fun c => (ha c).2.2.1
  have hW : ∀ c, Cert.ReferenceIdeal.Hand.aW m' c = Cert.KernelIdeal.Hand.aW m c := fun c => (ha c).2.2.2.1
  have hSo : ∀ c, Cert.ReferenceIdeal.Hand.aSo m' c = Cert.KernelIdeal.Hand.aSo m c := fun c => (ha c).2.2.2.2.1
  have hX : ∀ c, Cert.ReferenceIdeal.Hand.aX m' c = Cert.KernelIdeal.Hand.aX m c := fun c => (ha c).2.2.2.2.2.1
  have hG : ∀ c, Cert.ReferenceIdeal.Hand.aG m' c = Cert.KernelIdeal.Hand.aG m c := fun c => (ha c).2.2.2.2.2.2.1
  have hB : ∀ c, Cert.ReferenceIdeal.Hand.aB m' c = Cert.KernelIdeal.Hand.aB m c := fun c => (ha c).2.2.2.2.2.2.2
  have h8 : ∀ c, Cert.ReferenceIdeal.Hand.G8 m' c = Cert.KernelIdeal.Hand.G8 m c := fun c => by
    unfold Cert.ReferenceIdeal.Hand.G8 Cert.KernelIdeal.Hand.G8
    rw [hK, hV, hQ, hW, hSo, hX, hG, hB]
  have h9 : ∀ c, Cert.ReferenceIdeal.Hand.G9 m' c = Cert.KernelIdeal.Hand.G9 m c := fun c => by
    unfold Cert.ReferenceIdeal.Hand.G9 Cert.KernelIdeal.Hand.G9
    rw [hK, hV, hQ]
  have h10 : ∀ c, Cert.ReferenceIdeal.Hand.G10 m' c = Cert.KernelIdeal.Hand.G10 m c := fun c => by
    unfold Cert.ReferenceIdeal.Hand.G10 Cert.KernelIdeal.Hand.G10
    rw [hK, hV, hQ]
  exact (θ_run Cert.ReferenceIdeal.defs _ _).mono (fun _ h c => ⟨(h c).1.trans (h8 c), (h c).2.1.trans (h9 c), (h c).2.2.1.trans (h10 c), (h c).2.2.2⟩)
    (Cert.ReferenceIdeal.Hand.run m' g')

end Cert.Hand
-- ==== Proof.lean ====
module

public import proofs.«01_k».proof.Defs
public import proofs.«01_k».proof.Proof.Gen.ReferenceIdeal.Frame
public import proofs.«01_k».proof.Proof.Gen.Pre_finite_and_centred
public import proofs.«01_k».proof.Proof.FrameKernel
public import proofs.«01_k».proof.Proof.FrameKernelIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_and_centred.Gen.facts,
  fun m g _ => Cert.Kernel.Hand.frame m g,
  fun m g _ => Cert.KernelIdeal.Hand.frame m g,
  fun m g _ => Cert.KernelIdeal.Hand.frame m g,
  fun m g _ => Cert.ReferenceIdeal.Gen.frame m g,
  fun m g _ => Cert.ReferenceIdeal.Gen.frame m g,
  IdealRules.named_const.statement Cert.KernelIdeal.κ "inv_384" .f32 0x3B2AAAAB#32 _ rfl,
  Cert.Hand.algebraic⟩

end Cert.Proof

end
